-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_nonneg [hPre_mask_nonneg : Cert.Pre_mask_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_mask_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_nonneg [hPre_mask_nonneg : Cert.Pre_mask_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_mask_01 [hPre_mask_01 : Cert.Pre_mask_01.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_mask_01.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_mask_01 [hPre_mask_01 : Cert.Pre_mask_01.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_mask_01.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_mask_nonneg [hKernelIdeal : Cert.KernelIdeal.Facts] [hPre_mask_nonneg : Cert.Pre_mask_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_mask_nonneg [hReferenceIdeal : Cert.ReferenceIdeal.Facts] [hPre_mask_nonneg : Cert.Pre_mask_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_mask_01 [hKernel2Ideal : Cert.Kernel2Ideal.Facts] [hPre_mask_01 : Cert.Pre_mask_01.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_mask_01 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_mask_01 [hReference2Ideal : Cert.Reference2Ideal.Facts] [hPre_mask_01 : Cert.Pre_mask_01.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_mask_01 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def preserves_Kernel_KernelIdeal : Prop :=
  True

def algebraic_KernelIdeal_ReferenceIdeal_pre_mask_nonneg [hKernelIdeal : Cert.KernelIdeal.Facts] [hReferenceIdeal : Cert.ReferenceIdeal.Facts] [hPre_mask_nonneg : Cert.Pre_mask_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  IdealRules.named_const.Statement Cert.Kernel2Ideal.κ "sharp0" .f32 0x48F42400#32 ((4398046511104 / 8796093 : ℝ) : EReal)
  ∧ IdealRules.named_const.Statement Cert.Kernel2Ideal.κ "sharp" .f32 0x42480000#32 ((268435456 / 5368709 : ℝ) : EReal)
  ∧ IdealRules.named_const.Statement Cert.Kernel2Ideal.κ "none" .f32 0xF149F2CA#32 ⊥

def algebraic_Kernel2Ideal_Reference2Ideal_pre_mask_01 [hKernel2Ideal : Cert.Kernel2Ideal.Facts] [hReference2Ideal : Cert.Reference2Ideal.Facts] [hPre_mask_01 : Cert.Pre_mask_01.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_mask_01 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v305) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_mask_nonneg : Cert.Pre_mask_nonneg.Facts) (hPre_mask_01 : Cert.Pre_mask_01.Facts),
    quiescent_Kernel (hKernel := hKernel)
    ∧ quiescent_KernelIdeal (hKernelIdeal := hKernelIdeal)
    ∧ quiescent_KernelIdeal_pre_mask_nonneg (hKernelIdeal := hKernelIdeal) (hPre_mask_nonneg := hPre_mask_nonneg)
    ∧ quiescent_ReferenceIdeal (hReferenceIdeal := hReferenceIdeal)
    ∧ quiescent_ReferenceIdeal_pre_mask_nonneg (hReferenceIdeal := hReferenceIdeal) (hPre_mask_nonneg := hPre_mask_nonneg)
    ∧ quiescent_Kernel2 (hKernel2 := hKernel2)
    ∧ quiescent_Kernel2Ideal (hKernel2Ideal := hKernel2Ideal)
    ∧ quiescent_Kernel2Ideal_pre_mask_01 (hKernel2Ideal := hKernel2Ideal) (hPre_mask_01 := hPre_mask_01)
    ∧ quiescent_Reference2Ideal (hReference2Ideal := hReference2Ideal)
    ∧ quiescent_Reference2Ideal_pre_mask_01 (hReference2Ideal := hReference2Ideal) (hPre_mask_01 := hPre_mask_01)
    ∧ preserves_Kernel_KernelIdeal
    ∧ algebraic_KernelIdeal_ReferenceIdeal_pre_mask_nonneg (hKernelIdeal := hKernelIdeal) (hReferenceIdeal := hReferenceIdeal) (hPre_mask_nonneg := hPre_mask_nonneg)
    ∧ preserves_Kernel2_Kernel2Ideal
    ∧ algebraic_Kernel2Ideal_Reference2Ideal_pre_mask_01 (hKernel2Ideal := hKernel2Ideal) (hReference2Ideal := hReference2Ideal) (hPre_mask_01 := hPre_mask_01)
-- ==== Pre_mask_01.lean ====
abbrev S1632x56x128 : Shape := ⟨3, ![1632, 56, 128]⟩
abbrev S32x30 : Shape := ⟨2, ![32, 30]⟩
abbrev S32x2000 : Shape := ⟨2, ![32, 2000]⟩
abbrev S32x30x1 : Shape := ⟨3, ![32, 30, 1]⟩
abbrev S1x2 : Shape := ⟨2, ![1, 2]⟩
abbrev S1 : Shape := ⟨1, ![1]⟩
abbrev S1x11 : Shape := ⟨2, ![1, 11]⟩
abbrev S1x3 : Shape := ⟨2, ![1, 3]⟩
abbrev S_ : Shape := ⟨0, ![]⟩

class Facts : Prop where
  bcast_S_S32x2000 : S_.BroadcastsInDim S32x2000 (![] : Fin 0 → Fin S32x2000.rank)
  bcast_S_S1632x56x128 : S_.BroadcastsInDim S1632x56x128 (![] : Fin 0 → Fin S1632x56x128.rank)
  reducesTo_S1632x56x128_S_d0_1_2 : S1632x56x128.ReducesTo [0, 1, 2] S_
  h_S_ : 0 < S_.numel

variable [Facts]

def fn {F : FTy → Type} [FloatOps F] (main_arg0 : FVec F S1632x56x128 .f32) (main_arg1 : FVec F S32x30 .f32) (main_arg2 : FVec F S32x2000 .f32) (main_arg3 : FVec F S32x30x1 .f32) (main_arg4 : FVec F S1x2 .f32) (main_arg5 : FVec F S1 .f32) (main_arg6 : FVec F S1x2 .f32) (main_arg7 : FVec F S1 .f32) (main_arg8 : FVec F S1x2 .f32) (main_arg9 : FVec F S1 .f32) (main_arg10 : FVec F S1x11 .f32) (main_arg11 : FVec F S1x3 .f32) (main_arg12 : FVec F S1 .f32) : IVec S32x2000 1 :=
  let main_cst : FVec F S_ .f32 := constant S_ .f32 0x00000000#32
  let main_v0 : FVec F S32x2000 .f32 := broadcastInDim S32x2000 ![] bcast_S_S32x2000 main_cst
  let main_v1 : IVec S32x2000 1 := cmpf .oeq main_arg2 main_v0
  let main_cst_0 : FVec F S_ .f32 := constant S_ .f32 0x3F800000#32
  let main_v2 : FVec F S32x2000 .f32 := broadcastInDim S32x2000 ![] bcast_S_S32x2000 main_cst_0
  let main_v3 : IVec S32x2000 1 := cmpf .oeq main_arg2 main_v2
  let main_v4 : IVec S32x2000 1 := ori main_v1 main_v3
  let main_v5 : FVec F S1632x56x128 .f32 := Host.absf main_arg0
  let main_cst_1 : FVec F S_ .f32 := constant S_ .f32 0x7F800000#32
  let main_v6 : FVec F S1632x56x128 .f32 := broadcastInDim S1632x56x128 ![] bcast_S_S1632x56x128 main_cst_1
  let main_v7 : IVec S1632x56x128 1 := cmpf .olt main_v5 main_v6
  let main_c : IVec S_ 1 := constantI S_ 1 1#1
  let main_v8 : IVec S_ 1 := (fun x v => Host.reduce IntOp.andi x v reducesTo_S1632x56x128_S_d0_1_2 h_S_) main_v7 main_c
  let main_v9 : IVec S32x2000 1 := broadcastInDim S32x2000 ![] bcast_S_S32x2000 main_v8
  let main_v10 : IVec S32x2000 1 := andi main_v4 main_v9
  main_v10
-- ==== Pre_mask_nonneg.lean ====
abbrev S1632x56x128 : Shape := ⟨3, ![1632, 56, 128]⟩
abbrev S1632x56 : Shape := ⟨2, ![1632, 56]⟩
abbrev S1 : Shape := ⟨1, ![1]⟩
abbrev S2x384x128 : Shape := ⟨3, ![2, 384, 128]⟩
abbrev S2x384 : Shape := ⟨2, ![2, 384]⟩
abbrev S2x128x128 : Shape := ⟨3, ![2, 128, 128]⟩
abbrev S2x128 : Shape := ⟨2, ![2, 128]⟩
abbrev S2x512x128 : Shape := ⟨3, ![2, 512, 128]⟩
abbrev S2x512 : Shape := ⟨2, ![2, 512]⟩
abbrev S2x128x512 : Shape := ⟨3, ![2, 128, 512]⟩
abbrev S_ : Shape := ⟨0, ![]⟩

class Facts : Prop where
  bcast_S_S1632x56 : S_.BroadcastsInDim S1632x56 (![] : Fin 0 → Fin S1632x56.rank)

variable [Facts]

def fn {F : FTy → Type} [FloatOps F] (main_arg0 : FVec F S1632x56x128 .f32) (main_arg1 : FVec F S1632x56 .f32) (main_arg2 : FVec F S1 .f32) (main_arg3 : FVec F S2x384x128 .f32) (main_arg4 : FVec F S2x384 .f32) (main_arg5 : FVec F S2x128x128 .f32) (main_arg6 : FVec F S2x128 .f32) (main_arg7 : FVec F S2x512x128 .f32) (main_arg8 : FVec F S2x512 .f32) (main_arg9 : FVec F S2x128x512 .f32) (main_arg10 : FVec F S2x128 .f32) (main_arg11 : FVec F S2x128 .f32) (main_arg12 : FVec F S2x128 .f32) (main_arg13 : FVec F S2x128 .f32) (main_arg14 : FVec F S2x128 .f32) : IVec S1632x56 1 :=
  let main_cst : FVec F S_ .f32 := constant S_ .f32 0x00000000#32
  let main_v0 : FVec F S1632x56 .f32 := broadcastInDim S1632x56 ![] bcast_S_S1632x56 main_cst
  let main_v1 : IVec S1632x56 1 := cmpf .oge main_arg1 main_v0
  main_v1
-- ==== Kernel.lean ====
abbrev S1632x56x128 : Shape := ⟨3, ![1632, 56, 128]⟩
abbrev S1632x56 : Shape := ⟨2, ![1632, 56]⟩
abbrev S1 : Shape := ⟨1, ![1]⟩
abbrev S2x384x128 : Shape := ⟨3, ![2, 384, 128]⟩
abbrev S2x384 : Shape := ⟨2, ![2, 384]⟩
abbrev S2x128x128 : Shape := ⟨3, ![2, 128, 128]⟩
abbrev S2x128 : Shape := ⟨2, ![2, 128]⟩
abbrev S2x512x128 : Shape := ⟨3, ![2, 512, 128]⟩
abbrev S2x512 : Shape := ⟨2, ![2, 512]⟩
abbrev S2x128x512 : Shape := ⟨3, ![2, 128, 512]⟩
abbrev S1632x56x1 : Shape := ⟨3, ![1632, 56, 1]⟩
abbrev S1x1 : Shape := ⟨2, ![1, 1]⟩
abbrev S32x56x128 : Shape := ⟨3, ![32, 56, 128]⟩
abbrev S32x56 : Shape := ⟨2, ![32, 56]⟩
abbrev S1x32x56 : Shape := ⟨3, ![1, 32, 56]⟩
abbrev S1x1x1 : Shape := ⟨3, ![1, 1, 1]⟩
abbrev S1792x128 : Shape := ⟨2, ![1792, 128]⟩
abbrev S1x384x128 : Shape := ⟨3, ![1, 384, 128]⟩
abbrev S384x128 : Shape := ⟨2, ![384, 128]⟩
abbrev S1792x384 : Shape := ⟨2, ![1792, 384]⟩
abbrev S1x384 : Shape := ⟨2, ![1, 384]⟩
abbrev S384 : Shape := ⟨1, ![384]⟩
abbrev S32x56x16 : Shape := ⟨3, ![32, 56, 16]⟩
abbrev S32x56x56 : Shape := ⟨3, ![32, 56, 56]⟩
abbrev S32x1x56 : Shape := ⟨3, ![32, 1, 56]⟩
abbrev S32x56x1 : Shape := ⟨3, ![32, 56, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1792 : Shape := ⟨1, ![1792]⟩
abbrev S1792x1 : Shape := ⟨2, ![1792, 1]⟩
abbrev S1x512x128 : Shape := ⟨3, ![1, 512, 128]⟩
abbrev S512x128 : Shape := ⟨2, ![512, 128]⟩
abbrev S1792x512 : Shape := ⟨2, ![1792, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩

abbrev nBuf : Space → Nat
  | .hbm => 20
  | .vmem => 19
  | .smem => 0
  | _ => 0

abbrev bufTy : (tb : Table) → Fin (tcTables nBuf tb) → BufTy
  | .hbm, ⟨0, _⟩ => ⟨S1632x56x128, .f32⟩
  | .hbm, ⟨1, _⟩ => ⟨S1632x56, .f32⟩
  | .hbm, ⟨2, _⟩ => ⟨S1, .f32⟩
  | .hbm, ⟨3, _⟩ => ⟨S2x384x128, .f32⟩
  | .hbm, ⟨4, _⟩ => ⟨S2x384, .f32⟩
  | .hbm, ⟨5, _⟩ => ⟨S2x128x128, .f32⟩
  | .hbm, ⟨6, _⟩ => ⟨S2x128, .f32⟩
  | .hbm, ⟨7, _⟩ => ⟨S2x512x128, .f32⟩
  | .hbm, ⟨8, _⟩ => ⟨S2x512, .f32⟩
  | .hbm, ⟨9, _⟩ => ⟨S2x128x512, .f32⟩
  | .hbm, ⟨10, _⟩ => ⟨S2x128, .f32⟩
  | .hbm, ⟨11, _⟩ => ⟨S2x128, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S1632x56x1, .f32⟩
  | .hbm, ⟨16, _⟩ => ⟨S1632x56x128, .f32⟩
  | .hbm, ⟨17, _⟩ => ⟨S1632x56x128, .f32⟩
  | .hbm, ⟨18, _⟩ => ⟨S1x1, .f32⟩
  | .hbm, ⟨19, _⟩ => ⟨S1632x56x128, .f32⟩
  | .local _ .vmem, ⟨0, _⟩ => ⟨S32x56x128, .f32⟩
  | .local _ .vmem, ⟨1, _⟩ => ⟨S32x56x128, .f32⟩
  | .local _ .vmem, ⟨2, _⟩ => ⟨S32x56, .f32⟩
  | .local _ .vmem, ⟨3, _⟩ => ⟨S32x56, .f32⟩
  | .local _ .vmem, ⟨4, _⟩ => ⟨S2x384x128, .f32⟩
  | .local _ .vmem, ⟨5, _⟩ => ⟨S2x384, .f32⟩
  | .local _ .vmem, ⟨6, _⟩ => ⟨S2x128x128, .f32⟩
  | .local _ .vmem, ⟨7, _⟩ => ⟨S2x128, .f32⟩
  | .local _ .vmem, ⟨8, _⟩ => ⟨S2x512x128, .f32⟩
  | .local _ .vmem, ⟨9, _⟩ => ⟨S2x512, .f32⟩
  | .local _ .vmem, ⟨10, _⟩ => ⟨S2x128x512, .f32⟩
  | .local _ .vmem, ⟨11, _⟩ => ⟨S2x128, .f32⟩
  | .local _ .vmem, ⟨12, _⟩ => ⟨S2x128, .f32⟩
  | .local _ .vmem, ⟨13, _⟩ => ⟨S2x128, .f32⟩
  | .local _ .vmem, ⟨14, _⟩ => ⟨S2x128, .f32⟩
  | .local _ .vmem, ⟨15, _⟩ => ⟨S2x128, .f32⟩
  | .local _ .vmem, ⟨16, _⟩ => ⟨S1x1, .f32⟩
  | .local _ .vmem, ⟨17, _⟩ => ⟨S32x56x128, .f32⟩
  | .local _ .vmem, ⟨18, _⟩ => ⟨S32x56x128, .f32⟩
  | _, _ => ⟨S1632x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![51], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S32x56x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S1632x56x128 : Shape := ⟨3, ![1632, 56, 128]⟩
abbrev S1632x56 : Shape := ⟨2, ![1632, 56]⟩
abbrev S1 : Shape := ⟨1, ![1]⟩
abbrev S2x384x128 : Shape := ⟨3, ![2, 384, 128]⟩
abbrev S2x384 : Shape := ⟨2, ![2, 384]⟩
abbrev S2x128x128 : Shape := ⟨3, ![2, 128, 128]⟩
abbrev S2x128 : Shape := ⟨2, ![2, 128]⟩
abbrev S2x512x128 : Shape := ⟨3, ![2, 512, 128]⟩
abbrev S2x512 : Shape := ⟨2, ![2, 512]⟩
abbrev S2x128x512 : Shape := ⟨3, ![2, 128, 512]⟩
abbrev S1632x56x1 : Shape := ⟨3, ![1632, 56, 1]⟩
abbrev S_ : Shape := ⟨0, ![]⟩
abbrev S1632x1x1x56 : Shape := ⟨4, ![1632, 1, 1, 56]⟩
abbrev S1x384x128 : Shape := ⟨3, ![1, 384, 128]⟩
abbrev S384x128 : Shape := ⟨2, ![384, 128]⟩
abbrev S128x384 : Shape := ⟨2, ![128, 384]⟩
abbrev S1632x56x384 : Shape := ⟨3, ![1632, 56, 384]⟩
abbrev S1x384 : Shape := ⟨2, ![1, 384]⟩
abbrev S384 : Shape := ⟨1, ![384]⟩
abbrev S1x1x384 : Shape := ⟨3, ![1, 1, 384]⟩
abbrev S1632x56x8x16 : Shape := ⟨4, ![1632, 56, 8, 16]⟩
abbrev S1632x8x56x16 : Shape := ⟨4, ![1632, 8, 56, 16]⟩
abbrev S1632x8x56x56 : Shape := ⟨4, ![1632, 8, 56, 56]⟩
abbrev S1632x8x56 : Shape := ⟨3, ![1632, 8, 56]⟩
abbrev S1632x8x56x1 : Shape := ⟨4, ![1632, 8, 56, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩
abbrev S1x512x128 : Shape := ⟨3, ![1, 512, 128]⟩
abbrev S512x128 : Shape := ⟨2, ![512, 128]⟩
abbrev S128x512 : Shape := ⟨2, ![128, 512]⟩
abbrev S1632x56x512 : Shape := ⟨3, ![1632, 56, 512]⟩
abbrev S1x512 : Shape := ⟨2, ![1, 512]⟩
abbrev S512 : Shape := ⟨1, ![512]⟩
abbrev S1x1x512 : Shape := ⟨3, ![1, 1, 512]⟩
abbrev S1x128x512 : Shape := ⟨3, ![1, 128, 512]⟩
abbrev S1x1x1 : Shape := ⟨3, ![1, 1, 1]⟩

abbrev nBuf : Space → Nat
  | .hbm => 328
  | .vmem => 0
  | .smem => 0
  | _ => 0

abbrev hbmTy0_0 (i : Nat) : BufTy := match i % 128 with
  | 0 => ⟨S1632x56x128, .f32⟩
  | 1 => ⟨S1632x56, .f32⟩
  | 2 => ⟨S1, .f32⟩
  | 3 => ⟨S2x384x128, .f32⟩
  | 4 => ⟨S2x384, .f32⟩
  | 5 => ⟨S2x128x128, .f32⟩
  | 6 => ⟨S2x128, .f32⟩
  | 7 => ⟨S2x512x128, .f32⟩
  | 8 => ⟨S2x512, .f32⟩
  | 9 => ⟨S2x128x512, .f32⟩
  | 10 => ⟨S2x128, .f32⟩
  | 11 => ⟨S2x128, .f32⟩
  | 12 => ⟨S2x128, .f32⟩
  | 13 => ⟨S2x128, .f32⟩
  | 14 => ⟨S2x128, .f32⟩
  | 15 => ⟨S1632x56x1, .f32⟩
  | 16 => ⟨S1632x56x128, .f32⟩
  | 17 => ⟨S1632x56x128, .f32⟩
  | 18 => ⟨S_, .f32⟩
  | 19 => ⟨S1632x56, .f32⟩
  | 20 => ⟨S1632x56, .f32⟩
  | 21 => ⟨S1632x1x1x56, .f32⟩
  | 22 => ⟨S_, .f32⟩
  | 23 => ⟨S1632x1x1x56, .f32⟩
  | 24 => ⟨S1632x1x1x56, .f32⟩
  | 25 => ⟨S1x384x128, .f32⟩
  | 26 => ⟨S384x128, .f32⟩
  | 27 => ⟨S128x384, .f32⟩
  | 28 => ⟨S1632x56x384, .f32⟩
  | 29 => ⟨S1x384, .f32⟩
  | 30 => ⟨S384, .f32⟩
  | 31 => ⟨S1x1x384, .f32⟩
  | 32 => ⟨S1632x56x384, .f32⟩
  | 33 => ⟨S1632x56x384, .f32⟩
  | 34 => ⟨S1632x56x128, .f32⟩
  | 35 => ⟨S1632x56x128, .f32⟩
  | 36 => ⟨S1632x56x128, .f32⟩
  | 37 => ⟨S1632x56x8x16, .f32⟩
  | 38 => ⟨S1632x8x56x16, .f32⟩
  | 39 => ⟨S1632x56x8x16, .f32⟩
  | 40 => ⟨S1632x8x56x16, .f32⟩
  | 41 => ⟨S1632x56x8x16, .f32⟩
  | 42 => ⟨S1632x8x56x16, .f32⟩
  | 43 => ⟨S1632x8x56x56, .f32⟩
  | 44 => ⟨S_, .f32⟩
  | 45 => ⟨S_, .f32⟩
  | 46 => ⟨S1632x8x56x56, .f32⟩
  | 47 => ⟨S1632x8x56x56, .f32⟩
  | 48 => ⟨S1632x8x56x56, .f32⟩
  | 49 => ⟨S1632x8x56x56, .f32⟩
  | 50 => ⟨S_, .f32⟩
  | 51 => ⟨S1632x8x56, .f32⟩
  | 52 => ⟨S_, .f32⟩
  | 53 => ⟨S1632x8x56, .f32⟩
  | 54 => ⟨S1632x8x56, .f32⟩
  | 55 => ⟨S1632x8x56x1, .f32⟩
  | 56 => ⟨S1632x8x56x56, .f32⟩
  | 57 => ⟨S1632x8x56x56, .f32⟩
  | 58 => ⟨S1632x8x56x56, .f32⟩
  | 59 => ⟨S_, .f32⟩
  | 60 => ⟨S1632x8x56, .f32⟩
  | 61 => ⟨S1632x8x56x1, .f32⟩
  | 62 => ⟨S1632x8x56x56, .f32⟩
  | 63 => ⟨S1632x8x56x56, .f32⟩
  | 64 => ⟨S1632x8x56x16, .f32⟩
  | 65 => ⟨S1632x56x8x16, .f32⟩
  | 66 => ⟨S1632x56x128, .f32⟩
  | 67 => ⟨S1x128x128, .f32⟩
  | 68 => ⟨S128x128, .f32⟩
  | 69 => ⟨S128x128, .f32⟩
  | 70 => ⟨S1632x56x128, .f32⟩
  | 71 => ⟨S1632x56x128, .f32⟩
  | 72 => ⟨S1x128, .f32⟩
  | 73 => ⟨S128, .f32⟩
  | 74 => ⟨S1x1x128, .f32⟩
  | 75 => ⟨S1632x56x128, .f32⟩
  | 76 => ⟨S1632x56x128, .f32⟩
  | 77 => ⟨S1x128, .f32⟩
  | 78 => ⟨S128, .f32⟩
  | 79 => ⟨S1x128, .f32⟩
  | 80 => ⟨S128, .f32⟩
  | 81 => ⟨S_, .f32⟩
  | 82 => ⟨S1632x56, .f32⟩
  | 83 => ⟨S1632x56x1, .f32⟩
  | 84 => ⟨S_, .f32⟩
  | 85 => ⟨S1632x56x1, .f32⟩
  | 86 => ⟨S1632x56x1, .f32⟩
  | 87 => ⟨S1632x56x128, .f32⟩
  | 88 => ⟨S1632x56x128, .f32⟩
  | 89 => ⟨S1632x56x128, .f32⟩
  | 90 => ⟨S_, .f32⟩
  | 91 => ⟨S1632x56, .f32⟩
  | 92 => ⟨S1632x56x1, .f32⟩
  | 93 => ⟨S_, .f32⟩
  | 94 => ⟨S1632x56x1, .f32⟩
  | 95 => ⟨S1632x56x1, .f32⟩
  | 96 => ⟨S1632x56x128, .f32⟩
  | 97 => ⟨S1632x56x128, .f32⟩
  | 98 => ⟨S_, .f32⟩
  | 99 => ⟨S1632x56x1, .f32⟩
  | 100 => ⟨S1632x56x1, .f32⟩
  | 101 => ⟨S1632x56x1, .f32⟩
  | 102 => ⟨S1632x56x128, .f32⟩
  | 103 => ⟨S1632x56x128, .f32⟩
  | 104 => ⟨S1x1x128, .f32⟩
  | 105 => ⟨S1632x56x128, .f32⟩
  | 106 => ⟨S1632x56x128, .f32⟩
  | 107 => ⟨S1x1x128, .f32⟩
  | 108 => ⟨S1632x56x128, .f32⟩
  | 109 => ⟨S1632x56x128, .f32⟩
  | 110 => ⟨S1x512x128, .f32⟩
  | 111 => ⟨S512x128, .f32⟩
  | 112 => ⟨S128x512, .f32⟩
  | 113 => ⟨S1632x56x512, .f32⟩
  | 114 => ⟨S1x512, .f32⟩
  | 115 => ⟨S512, .f32⟩
  | 116 => ⟨S1x1x512, .f32⟩
  | 117 => ⟨S1632x56x512, .f32⟩
  | 118 => ⟨S1632x56x512, .f32⟩
  | 119 => ⟨S_, .f32⟩
  | 120 => ⟨S1632x56x512, .f32⟩
  | 121 => ⟨S1632x56x512, .f32⟩
  | 122 => ⟨S1x128x512, .f32⟩
  | 123 => ⟨S128x512, .f32⟩
  | 124 => ⟨S512x128, .f32⟩
  | 125 => ⟨S1632x56x128, .f32⟩
  | 126 => ⟨S1x128, .f32⟩
  | 127 => ⟨S128, .f32⟩
  | _ => ⟨S1632x56x128, .f32⟩

abbrev hbmTy0_1 (i : Nat) : BufTy := match i % 128 with
  | 0 => ⟨S1x1x128, .f32⟩
  | 1 => ⟨S1632x56x128, .f32⟩
  | 2 => ⟨S1632x56x128, .f32⟩
  | 3 => ⟨S1632x56x128, .f32⟩
  | 4 => ⟨S1x128, .f32⟩
  | 5 => ⟨S128, .f32⟩
  | 6 => ⟨S1x128, .f32⟩
  | 7 => ⟨S128, .f32⟩
  | 8 => ⟨S_, .f32⟩
  | 9 => ⟨S1632x56, .f32⟩
  | 10 => ⟨S1632x56x1, .f32⟩
  | 11 => ⟨S_, .f32⟩
  | 12 => ⟨S1632x56x1, .f32⟩
  | 13 => ⟨S1632x56x1, .f32⟩
  | 14 => ⟨S1632x56x128, .f32⟩
  | 15 => ⟨S1632x56x128, .f32⟩
  | 16 => ⟨S1632x56x128, .f32⟩
  | 17 => ⟨S_, .f32⟩
  | 18 => ⟨S1632x56, .f32⟩
  | 19 => ⟨S1632x56x1, .f32⟩
  | 20 => ⟨S_, .f32⟩
  | 21 => ⟨S1632x56x1, .f32⟩
  | 22 => ⟨S1632x56x1, .f32⟩
  | 23 => ⟨S1632x56x128, .f32⟩
  | 24 => ⟨S1632x56x128, .f32⟩
  | 25 => ⟨S_, .f32⟩
  | 26 => ⟨S1632x56x1, .f32⟩
  | 27 => ⟨S1632x56x1, .f32⟩
  | 28 => ⟨S1632x56x1, .f32⟩
  | 29 => ⟨S1632x56x128, .f32⟩
  | 30 => ⟨S1632x56x128, .f32⟩
  | 31 => ⟨S1x1x128, .f32⟩
  | 32 => ⟨S1632x56x128, .f32⟩
  | 33 => ⟨S1632x56x128, .f32⟩
  | 34 => ⟨S1x1x128, .f32⟩
  | 35 => ⟨S1632x56x128, .f32⟩
  | 36 => ⟨S1632x56x128, .f32⟩
  | 37 => ⟨S1x384x128, .f32⟩
  | 38 => ⟨S384x128, .f32⟩
  | 39 => ⟨S128x384, .f32⟩
  | 40 => ⟨S1632x56x384, .f32⟩
  | 41 => ⟨S1x384, .f32⟩
  | 42 => ⟨S384, .f32⟩
  | 43 => ⟨S1x1x384, .f32⟩
  | 44 => ⟨S1632x56x384, .f32⟩
  | 45 => ⟨S1632x56x384, .f32⟩
  | 46 => ⟨S1632x56x128, .f32⟩
  | 47 => ⟨S1632x56x128, .f32⟩
  | 48 => ⟨S1632x56x128, .f32⟩
  | 49 => ⟨S1632x56x8x16, .f32⟩
  | 50 => ⟨S1632x8x56x16, .f32⟩
  | 51 => ⟨S1632x56x8x16, .f32⟩
  | 52 => ⟨S1632x8x56x16, .f32⟩
  | 53 => ⟨S1632x56x8x16, .f32⟩
  | 54 => ⟨S1632x8x56x16, .f32⟩
  | 55 => ⟨S1632x8x56x56, .f32⟩
  | 56 => ⟨S_, .f32⟩
  | 57 => ⟨S_, .f32⟩
  | 58 => ⟨S1632x8x56x56, .f32⟩
  | 59 => ⟨S1632x8x56x56, .f32⟩
  | 60 => ⟨S1632x8x56x56, .f32⟩
  | 61 => ⟨S1632x8x56x56, .f32⟩
  | 62 => ⟨S_, .f32⟩
  | 63 => ⟨S1632x8x56, .f32⟩
  | 64 => ⟨S_, .f32⟩
  | 65 => ⟨S1632x8x56, .f32⟩
  | 66 => ⟨S1632x8x56, .f32⟩
  | 67 => ⟨S1632x8x56x1, .f32⟩
  | 68 => ⟨S1632x8x56x56, .f32⟩
  | 69 => ⟨S1632x8x56x56, .f32⟩
  | 70 => ⟨S1632x8x56x56, .f32⟩
  | 71 => ⟨S_, .f32⟩
  | 72 => ⟨S1632x8x56, .f32⟩
  | 73 => ⟨S1632x8x56x1, .f32⟩
  | 74 => ⟨S1632x8x56x56, .f32⟩
  | 75 => ⟨S1632x8x56x56, .f32⟩
  | 76 => ⟨S1632x8x56x16, .f32⟩
  | 77 => ⟨S1632x56x8x16, .f32⟩
  | 78 => ⟨S1632x56x128, .f32⟩
  | 79 => ⟨S1x128x128, .f32⟩
  | 80 => ⟨S128x128, .f32⟩
  | 81 => ⟨S128x128, .f32⟩
  | 82 => ⟨S1632x56x128, .f32⟩
  | 83 => ⟨S1632x56x128, .f32⟩
  | 84 => ⟨S1x128, .f32⟩
  | 85 => ⟨S128, .f32⟩
  | 86 => ⟨S1x1x128, .f32⟩
  | 87 => ⟨S1632x56x128, .f32⟩
  | 88 => ⟨S1632x56x128, .f32⟩
  | 89 => ⟨S1x128, .f32⟩
  | 90 => ⟨S128, .f32⟩
  | 91 => ⟨S1x128, .f32⟩
  | 92 => ⟨S128, .f32⟩
  | 93 => ⟨S_, .f32⟩
  | 94 => ⟨S1632x56, .f32⟩
  | 95 => ⟨S1632x56x1, .f32⟩
  | 96 => ⟨S_, .f32⟩
  | 97 => ⟨S1632x56x1, .f32⟩
  | 98 => ⟨S1632x56x1, .f32⟩
  | 99 => ⟨S1632x56x128, .f32⟩
  | 100 => ⟨S1632x56x128, .f32⟩
  | 101 => ⟨S1632x56x128, .f32⟩
  | 102 => ⟨S_, .f32⟩
  | 103 => ⟨S1632x56, .f32⟩
  | 104 => ⟨S1632x56x1, .f32⟩
  | 105 => ⟨S_, .f32⟩
  | 106 => ⟨S1632x56x1, .f32⟩
  | 107 => ⟨S1632x56x1, .f32⟩
  | 108 => ⟨S1632x56x128, .f32⟩
  | 109 => ⟨S1632x56x128, .f32⟩
  | 110 => ⟨S_, .f32⟩
  | 111 => ⟨S1632x56x1, .f32⟩
  | 112 => ⟨S1632x56x1, .f32⟩
  | 113 => ⟨S1632x56x1, .f32⟩
  | 114 => ⟨S1632x56x128, .f32⟩
  | 115 => ⟨S1632x56x128, .f32⟩
  | 116 => ⟨S1x1x128, .f32⟩
  | 117 => ⟨S1632x56x128, .f32⟩
  | 118 => ⟨S1632x56x128, .f32⟩
  | 119 => ⟨S1x1x128, .f32⟩
  | 120 => ⟨S1632x56x128, .f32⟩
  | 121 => ⟨S1632x56x128, .f32⟩
  | 122 => ⟨S1x512x128, .f32⟩
  | 123 => ⟨S512x128, .f32⟩
  | 124 => ⟨S128x512, .f32⟩
  | 125 => ⟨S1632x56x512, .f32⟩
  | 126 => ⟨S1x512, .f32⟩
  | 127 => ⟨S512, .f32⟩
  | _ => ⟨S1632x56x128, .f32⟩

abbrev hbmTy0_2 (i : Nat) : BufTy := match i % 128 with
  | 0 => ⟨S1x1x512, .f32⟩
  | 1 => ⟨S1632x56x512, .f32⟩
  | 2 => ⟨S1632x56x512, .f32⟩
  | 3 => ⟨S_, .f32⟩
  | 4 => ⟨S1632x56x512, .f32⟩
  | 5 => ⟨S1632x56x512, .f32⟩
  | 6 => ⟨S1x128x512, .f32⟩
  | 7 => ⟨S128x512, .f32⟩
  | 8 => ⟨S512x128, .f32⟩
  | 9 => ⟨S1632x56x128, .f32⟩
  | 10 => ⟨S1x128, .f32⟩
  | 11 => ⟨S128, .f32⟩
  | 12 => ⟨S1x1x128, .f32⟩
  | 13 => ⟨S1632x56x128, .f32⟩
  | 14 => ⟨S1632x56x128, .f32⟩
  | 15 => ⟨S1632x56x128, .f32⟩
  | 16 => ⟨S1x128, .f32⟩
  | 17 => ⟨S128, .f32⟩
  | 18 => ⟨S1x128, .f32⟩
  | 19 => ⟨S128, .f32⟩
  | 20 => ⟨S_, .f32⟩
  | 21 => ⟨S1632x56, .f32⟩
  | 22 => ⟨S1632x56x1, .f32⟩
  | 23 => ⟨S_, .f32⟩
  | 24 => ⟨S1632x56x1, .f32⟩
  | 25 => ⟨S1632x56x1, .f32⟩
  | 26 => ⟨S1632x56x128, .f32⟩
  | 27 => ⟨S1632x56x128, .f32⟩
  | 28 => ⟨S1632x56x128, .f32⟩
  | 29 => ⟨S_, .f32⟩
  | 30 => ⟨S1632x56, .f32⟩
  | 31 => ⟨S1632x56x1, .f32⟩
  | 32 => ⟨S_, .f32⟩
  | 33 => ⟨S1632x56x1, .f32⟩
  | 34 => ⟨S1632x56x1, .f32⟩
  | 35 => ⟨S1632x56x128, .f32⟩
  | 36 => ⟨S1632x56x128, .f32⟩
  | 37 => ⟨S_, .f32⟩
  | 38 => ⟨S1632x56x1, .f32⟩
  | 39 => ⟨S1632x56x1, .f32⟩
  | 40 => ⟨S1632x56x1, .f32⟩
  | 41 => ⟨S1632x56x128, .f32⟩
  | 42 => ⟨S1632x56x128, .f32⟩
  | 43 => ⟨S1x1x128, .f32⟩
  | 44 => ⟨S1632x56x128, .f32⟩
  | 45 => ⟨S1632x56x128, .f32⟩
  | 46 => ⟨S1x1x128, .f32⟩
  | 47 => ⟨S1632x56x128, .f32⟩
  | 48 => ⟨S1632x56x128, .f32⟩
  | 49 => ⟨S1x1x1, .f32⟩
  | 50 => ⟨S1632x56x128, .f32⟩
  | 51 => ⟨S1632x56x128, .f32⟩
  | 52 => ⟨S_, .f32⟩
  | 53 => ⟨S1, .f32⟩
  | 54 => ⟨S1, .f32⟩
  | 55 => ⟨S1x1x1, .f32⟩
  | 56 => ⟨S1632x56x128, .f32⟩
  | 57 => ⟨S1632x56x128, .f32⟩
  | 58 => ⟨S1632x56x128, .f32⟩
  | 59 => ⟨S1632x56x1, .f32⟩
  | 60 => ⟨S1632x56x128, .f32⟩
  | 61 => ⟨S1632x56x128, .f32⟩
  | 62 => ⟨S1632x56x128, .f32⟩
  | 63 => ⟨S_, .f32⟩
  | 64 => ⟨S1632x56, .f32⟩
  | 65 => ⟨S1632x56x1, .f32⟩
  | 66 => ⟨S1632x56x1, .f32⟩
  | 67 => ⟨S_, .f32⟩
  | 68 => ⟨S1632x56x1, .f32⟩
  | 69 => ⟨S1632x56x1, .f32⟩
  | 70 => ⟨S1632x56x128, .f32⟩
  | 71 => ⟨S1632x56x128, .f32⟩
  | _ => ⟨S1632x56x128, .f32⟩

abbrev hbmTy (i : Nat) : BufTy := match i / 128 with
  | 0 => hbmTy0_0 i
  | 1 => hbmTy0_1 i
  | 2 => hbmTy0_2 i
  | _ => ⟨S1632x56x128, .f32⟩

abbrev bufTy : (tb : Table) → Fin (tcTables nBuf tb) → BufTy
  | .hbm, ⟨i, _⟩ => hbmTy i
  | _, _ => ⟨S1632x56x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_cst_6 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_7 : Ref sig .tc := ⟨.hbm, 90, rfl⟩
abbrev main_v67 : Ref sig .tc := ⟨.hbm, 91, rfl⟩
abbrev main_v68 : Ref sig .tc := ⟨.hbm, 92, rfl⟩
abbrev main_cst_8 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_9 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_call0_cst : Ref sig .tc := ⟨.hbm, 119, rfl⟩
abbrev main_call0_v0 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_10 : Ref sig .tc := ⟨.hbm, 136, rfl⟩
abbrev main_v108 : Ref sig .tc := ⟨.hbm, 137, rfl⟩
abbrev main_v109 : Ref sig .tc := ⟨.hbm, 138, rfl⟩
abbrev main_cst_11 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_12 : Ref sig .tc := ⟨.hbm, 145, rfl⟩
abbrev main_v115 : Ref sig .tc := ⟨.hbm, 146, rfl⟩
abbrev main_v116 : Ref sig .tc := ⟨.hbm, 147, rfl⟩
abbrev main_cst_13 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_14 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_15 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_cst_16 : Ref sig .tc := ⟨.hbm, 190, rfl⟩
abbrev main_v156 : Ref sig .tc := ⟨.hbm, 191, rfl⟩
abbrev main_cst_17 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_cst_18 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_cst_19 : Ref sig .tc := ⟨.hbm, 221, rfl⟩
abbrev main_v184 : Ref sig .tc := ⟨.hbm, 222, rfl⟩
abbrev main_v185 : Ref sig .tc := ⟨.hbm, 223, rfl⟩
abbrev main_cst_20 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_cst_21 : Ref sig .tc := ⟨.hbm, 230, rfl⟩
abbrev main_v191 : Ref sig .tc := ⟨.hbm, 231, rfl⟩
abbrev main_v192 : Ref sig .tc := ⟨.hbm, 232, rfl⟩
abbrev main_cst_22 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_cst_23 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_call1_cst : Ref sig .tc := ⟨.hbm, 259, rfl⟩
abbrev main_call1_v0 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_cst_24 : Ref sig .tc := ⟨.hbm, 276, rfl⟩
abbrev main_v232 : Ref sig .tc := ⟨.hbm, 277, rfl⟩
abbrev main_v233 : Ref sig .tc := ⟨.hbm, 278, rfl⟩
abbrev main_cst_25 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_cst_26 : Ref sig .tc := ⟨.hbm, 285, rfl⟩
abbrev main_v239 : Ref sig .tc := ⟨.hbm, 286, rfl⟩
abbrev main_v240 : Ref sig .tc := ⟨.hbm, 287, rfl⟩
abbrev main_cst_27 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_cst_28 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_cst_29 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_call2_v0 : Ref sig .tc := ⟨.hbm, 318, rfl⟩
abbrev main_call2_cst : Ref sig .tc := ⟨.hbm, 319, rfl⟩
abbrev main_call2_v1 : Ref sig .tc := ⟨.hbm, 320, rfl⟩
abbrev main_call2_v2 : Ref sig .tc := ⟨.hbm, 321, rfl⟩
abbrev main_v268 : Ref sig .tc := ⟨.hbm, 322, rfl⟩
abbrev main_cst_30 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩

abbrev nD : Nat := 1
abbrev τ : Topo := Topo.v7x

variable {F : FTy → Type} [FloatOps F]
-- ==== Kernel2.lean ====
abbrev S1632x56x128 : Shape := ⟨3, ![1632, 56, 128]⟩
abbrev S32x30 : Shape := ⟨2, ![32, 30]⟩
abbrev S32x2000 : Shape := ⟨2, ![32, 2000]⟩
abbrev S32x30x1 : Shape := ⟨3, ![32, 30, 1]⟩
abbrev S1x2 : Shape := ⟨2, ![1, 2]⟩
abbrev S1 : Shape := ⟨1, ![1]⟩
abbrev S1x11 : Shape := ⟨2, ![1, 11]⟩
abbrev S1x3 : Shape := ⟨2, ![1, 3]⟩
abbrev S1600x40x128 : Shape := ⟨3, ![1600, 40, 128]⟩
abbrev S32x2000x128 : Shape := ⟨3, ![32, 2000, 128]⟩
abbrev S32x30x128 : Shape := ⟨3, ![32, 30, 128]⟩
abbrev S32x1000x128 : Shape := ⟨3, ![32, 1000, 128]⟩
abbrev S_ : Shape := ⟨0, ![]⟩
abbrev S32x1024x128 : Shape := ⟨3, ![32, 1024, 128]⟩
abbrev S32x1000 : Shape := ⟨2, ![32, 1000]⟩
abbrev S32x1024 : Shape := ⟨2, ![32, 1024]⟩
abbrev S32x1x1024 : Shape := ⟨3, ![32, 1, 1024]⟩
abbrev S32x32x128 : Shape := ⟨3, ![32, 32, 128]⟩
abbrev S32x32x1 : Shape := ⟨3, ![32, 32, 1]⟩
abbrev S2 : Shape := ⟨1, ![2]⟩
abbrev S11 : Shape := ⟨1, ![11]⟩
abbrev S3 : Shape := ⟨1, ![3]⟩
abbrev S24 : Shape := ⟨1, ![24]⟩
abbrev S1x24 : Shape := ⟨2, ![1, 24]⟩
abbrev S32x1x1 : Shape := ⟨3, ![32, 1, 1]⟩
abbrev S1x32x128 : Shape := ⟨3, ![1, 32, 128]⟩
abbrev S1x1024x128 : Shape := ⟨3, ![1, 1024, 128]⟩
abbrev S1x1x1024 : Shape := ⟨3, ![1, 1, 1024]⟩
abbrev S1x32x1 : Shape := ⟨3, ![1, 32, 1]⟩
abbrev S1x1x1 : Shape := ⟨3, ![1, 1, 1]⟩
abbrev S32x128 : Shape := ⟨2, ![32, 128]⟩
abbrev S1024x128 : Shape := ⟨2, ![1024, 128]⟩
abbrev S1x1024 : Shape := ⟨2, ![1, 1024]⟩
abbrev S32x1 : Shape := ⟨2, ![32, 1]⟩
abbrev S1x1 : Shape := ⟨2, ![1, 1]⟩
abbrev S1x1023 : Shape := ⟨2, ![1, 1023]⟩
abbrev S1x1022 : Shape := ⟨2, ![1, 1022]⟩
abbrev S1x4 : Shape := ⟨2, ![1, 4]⟩
abbrev S1x1020 : Shape := ⟨2, ![1, 1020]⟩
abbrev S1x8 : Shape := ⟨2, ![1, 8]⟩
abbrev S1x1016 : Shape := ⟨2, ![1, 1016]⟩
abbrev S1x12 : Shape := ⟨2, ![1, 12]⟩
abbrev S1x1012 : Shape := ⟨2, ![1, 1012]⟩
abbrev S1x16 : Shape := ⟨2, ![1, 16]⟩
abbrev S1x1008 : Shape := ⟨2, ![1, 1008]⟩
abbrev S1x17 : Shape := ⟨2, ![1, 17]⟩
abbrev S1x1007 : Shape := ⟨2, ![1, 1007]⟩
abbrev S32x1023 : Shape := ⟨2, ![32, 1023]⟩
abbrev S32x2 : Shape := ⟨2, ![32, 2]⟩
abbrev S32x1022 : Shape := ⟨2, ![32, 1022]⟩
abbrev S32x4 : Shape := ⟨2, ![32, 4]⟩
abbrev S32x1020 : Shape := ⟨2, ![32, 1020]⟩
abbrev S32x8 : Shape := ⟨2, ![32, 8]⟩
abbrev S32x1016 : Shape := ⟨2, ![32, 1016]⟩
abbrev S32x16 : Shape := ⟨2, ![32, 16]⟩
abbrev S32x1008 : Shape := ⟨2, ![32, 1008]⟩
abbrev S32x32 : Shape := ⟨2, ![32, 32]⟩
abbrev S32x992 : Shape := ⟨2, ![32, 992]⟩
abbrev S32x64 : Shape := ⟨2, ![32, 64]⟩
abbrev S32x960 : Shape := ⟨2, ![32, 960]⟩
abbrev S32x896 : Shape := ⟨2, ![32, 896]⟩
abbrev S32x256 : Shape := ⟨2, ![32, 256]⟩
abbrev S32x768 : Shape := ⟨2, ![32, 768]⟩
abbrev S32x512 : Shape := ⟨2, ![32, 512]⟩
abbrev S32x11 : Shape := ⟨2, ![32, 11]⟩
abbrev S32x1013 : Shape := ⟨2, ![32, 1013]⟩
abbrev S32x12 : Shape := ⟨2, ![32, 12]⟩
abbrev S32x1012 : Shape := ⟨2, ![32, 1012]⟩
abbrev S32x17 : Shape := ⟨2, ![32, 17]⟩
abbrev S32x1007 : Shape := ⟨2, ![32, 1007]⟩
abbrev S1024 : Shape := ⟨1, ![1024]⟩

abbrev nBuf : Space → Nat
  | .hbm => 52
  | .vmem => 17
  | .smem => 0
  | _ => 0

abbrev bufTy : (tb : Table) → Fin (tcTables nBuf tb) → BufTy
  | .hbm, ⟨0, _⟩ => ⟨S1632x56x128, .f32⟩
  | .hbm, ⟨1, _⟩ => ⟨S32x30, .f32⟩
  | .hbm, ⟨2, _⟩ => ⟨S32x2000, .f32⟩
  | .hbm, ⟨3, _⟩ => ⟨S32x30x1, .f32⟩
  | .hbm, ⟨4, _⟩ => ⟨S1x2, .f32⟩
  | .hbm, ⟨5, _⟩ => ⟨S1, .f32⟩
  | .hbm, ⟨6, _⟩ => ⟨S1x2, .f32⟩
  | .hbm, ⟨7, _⟩ => ⟨S1, .f32⟩
  | .hbm, ⟨8, _⟩ => ⟨S1x2, .f32⟩
  | .hbm, ⟨9, _⟩ => ⟨S1, .f32⟩
  | .hbm, ⟨10, _⟩ => ⟨S1x11, .f32⟩
  | .hbm, ⟨11, _⟩ => ⟨S1x3, .f32⟩
  | .hbm, ⟨12, _⟩ => ⟨S1, .f32⟩
  | .hbm, ⟨13, _⟩ => ⟨S1600x40x128, .f32⟩
  | .hbm, ⟨14, _⟩ => ⟨S32x2000x128, .f32⟩
  | .hbm, ⟨15, _⟩ => ⟨S32x30x128, .f32⟩
  | .hbm, ⟨16, _⟩ => ⟨S32x1000x128, .f32⟩
  | .hbm, ⟨17, _⟩ => ⟨S_, .i32⟩
  | .hbm, ⟨18, _⟩ => ⟨S_, .f32⟩
  | .hbm, ⟨19, _⟩ => ⟨S32x1024x128, .f32⟩
  | .hbm, ⟨20, _⟩ => ⟨S32x1000x128, .f32⟩
  | .hbm, ⟨21, _⟩ => ⟨S_, .i32⟩
  | .hbm, ⟨22, _⟩ => ⟨S_, .f32⟩
  | .hbm, ⟨23, _⟩ => ⟨S32x1024x128, .f32⟩
  | .hbm, ⟨24, _⟩ => ⟨S32x1000, .f32⟩
  | .hbm, ⟨25, _⟩ => ⟨S_, .i32⟩
  | .hbm, ⟨26, _⟩ => ⟨S_, .f32⟩
  | .hbm, ⟨27, _⟩ => ⟨S32x1024, .f32⟩
  | .hbm, ⟨28, _⟩ => ⟨S32x1x1024, .f32⟩
  | .hbm, ⟨29, _⟩ => ⟨S32x1000, .f32⟩
  | .hbm, ⟨30, _⟩ => ⟨S_, .i32⟩
  | .hbm, ⟨31, _⟩ => ⟨S_, .f32⟩
  | .hbm, ⟨32, _⟩ => ⟨S32x1024, .f32⟩
  | .hbm, ⟨33, _⟩ => ⟨S32x1x1024, .f32⟩
  | .hbm, ⟨34, _⟩ => ⟨S_, .i32⟩
  | .hbm, ⟨35, _⟩ => ⟨S_, .f32⟩
  | .hbm, ⟨36, _⟩ => ⟨S32x32x128, .f32⟩
  | .hbm, ⟨37, _⟩ => ⟨S_, .i32⟩
  | .hbm, ⟨38, _⟩ => ⟨S_, .f32⟩
  | .hbm, ⟨39, _⟩ => ⟨S32x32x1, .f32⟩
  | .hbm, ⟨40, _⟩ => ⟨S32x30x1, .f32⟩
  | .hbm, ⟨41, _⟩ => ⟨S_, .i32⟩
  | .hbm, ⟨42, _⟩ => ⟨S_, .f32⟩
  | .hbm, ⟨43, _⟩ => ⟨S32x32x1, .f32⟩
  | .hbm, ⟨44, _⟩ => ⟨S2, .f32⟩
  | .hbm, ⟨45, _⟩ => ⟨S2, .f32⟩
  | .hbm, ⟨46, _⟩ => ⟨S2, .f32⟩
  | .hbm, ⟨47, _⟩ => ⟨S11, .f32⟩
  | .hbm, ⟨48, _⟩ => ⟨S3, .f32⟩
  | .hbm, ⟨49, _⟩ => ⟨S24, .f32⟩
  | .hbm, ⟨50, _⟩ => ⟨S1x24, .f32⟩
  | .hbm, ⟨51, _⟩ => ⟨S32x1x1, .f32⟩
  | .local _ .vmem, ⟨0, _⟩ => ⟨S1x32x128, .f32⟩
  | .local _ .vmem, ⟨1, _⟩ => ⟨S1x32x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x32x1, .f32⟩
  | .local _ .vmem, ⟨11, _⟩ => ⟨S1x32x1, .f32⟩
  | .local _ .vmem, ⟨12, _⟩ => ⟨S1x32x1, .f32⟩
  | .local _ .vmem, ⟨13, _⟩ => ⟨S1x32x1, .f32⟩
  | .local _ .vmem, ⟨14, _⟩ => ⟨S1x24, .f32⟩
  | .local _ .vmem, ⟨15, _⟩ => ⟨S1x1x1, .f32⟩
  | .local _ .vmem, ⟨16, _⟩ => ⟨S1x1x1, .f32⟩
  | _, _ => ⟨S1632x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_call1_v0 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_call2_v0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_call3_v0 : Ref sig .tc := ⟨.hbm, 31, rfl⟩
abbrev main_v11 : Ref sig .tc := ⟨.hbm, 32, rfl⟩
abbrev main_v12 : Ref sig .tc := ⟨.hbm, 33, rfl⟩
abbrev main_c_3 : Ref sig .tc := ⟨.hbm, 34, rfl⟩
abbrev main_call4_v0 : Ref sig .tc := ⟨.hbm, 35, rfl⟩
abbrev main_v13 : Ref sig .tc := ⟨.hbm, 36, rfl⟩
abbrev main_c_4 : Ref sig .tc := ⟨.hbm, 37, rfl⟩
abbrev main_call5_v0 : Ref sig .tc := ⟨.hbm, 38, rfl⟩
abbrev main_v14 : Ref sig .tc := ⟨.hbm, 39, rfl⟩
abbrev main_v15 : Ref sig .tc := ⟨.hbm, 40, rfl⟩
abbrev main_c_5 : Ref sig .tc := ⟨.hbm, 41, rfl⟩
abbrev main_call6_v0 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2Ideal.lean ====
variable {F : FTy → Type} [FloatOps F] [Named F]
def κ : String → Option EReal := fun
  | "none" => some ⊥
  | "sharp" => some ((268435456 / 5368709 : ℝ) : EReal)
  | "sharp0" => some ((4398046511104 / 8796093 : ℝ) : EReal)
  | _ => none
-- ==== Reference2Ideal.lean ====
abbrev S1632x56x128 : Shape := ⟨3, ![1632, 56, 128]⟩
abbrev S32x30 : Shape := ⟨2, ![32, 30]⟩
abbrev S32x2000 : Shape := ⟨2, ![32, 2000]⟩
abbrev S32x30x1 : Shape := ⟨3, ![32, 30, 1]⟩
abbrev S1x2 : Shape := ⟨2, ![1, 2]⟩
abbrev S1 : Shape := ⟨1, ![1]⟩
abbrev S1x11 : Shape := ⟨2, ![1, 11]⟩
abbrev S1x3 : Shape := ⟨2, ![1, 3]⟩
abbrev S11 : Shape := ⟨1, ![11]⟩
abbrev S_ : Shape := ⟨0, ![]⟩
abbrev S10 : Shape := ⟨1, ![10]⟩
abbrev S32x30x128 : Shape := ⟨3, ![32, 30, 128]⟩
abbrev S1600x40x128 : Shape := ⟨3, ![1600, 40, 128]⟩
abbrev S1600x40 : Shape := ⟨2, ![1600, 40]⟩
abbrev S1600 : Shape := ⟨1, ![1600]⟩
abbrev S32x50x30x128 : Shape := ⟨4, ![32, 50, 30, 128]⟩
abbrev S1600x30x128 : Shape := ⟨3, ![1600, 30, 128]⟩
abbrev S1600x30x40 : Shape := ⟨3, ![1600, 30, 40]⟩
abbrev S1600x30x40x1 : Shape := ⟨4, ![1600, 30, 40, 1]⟩
abbrev S1x1x1x11 : Shape := ⟨4, ![1, 1, 1, 11]⟩
abbrev S1600x30x40x11 : Shape := ⟨4, ![1600, 30, 40, 11]⟩
abbrev S1600x1x40x1 : Shape := ⟨4, ![1600, 1, 40, 1]⟩
abbrev S1600x1x1x1 : Shape := ⟨4, ![1600, 1, 1, 1]⟩
abbrev S1600x40x30x11 : Shape := ⟨4, ![1600, 40, 30, 11]⟩
abbrev S32x2000x30x11 : Shape := ⟨4, ![32, 2000, 30, 11]⟩
abbrev S32x30x2000x11 : Shape := ⟨4, ![32, 30, 2000, 11]⟩
abbrev S32x30x1x11 : Shape := ⟨4, ![32, 30, 1, 11]⟩
abbrev S32x30x2001x11 : Shape := ⟨4, ![32, 30, 2001, 11]⟩
abbrev S32x30x2000 : Shape := ⟨3, ![32, 30, 2000]⟩
abbrev S32x30x2001 : Shape := ⟨3, ![32, 30, 2001]⟩
abbrev S32x30x988x11 : Shape := ⟨4, ![32, 30, 988, 11]⟩
abbrev S32x30x988 : Shape := ⟨3, ![32, 30, 988]⟩
abbrev S32x30x988x1 : Shape := ⟨4, ![32, 30, 988, 1]⟩
abbrev S32x30x988x2 : Shape := ⟨4, ![32, 30, 988, 2]⟩
abbrev S2x1 : Shape := ⟨2, ![2, 1]⟩
abbrev S1x1x1x1 : Shape := ⟨4, ![1, 1, 1, 1]⟩
abbrev S32x30x1x1 : Shape := ⟨4, ![32, 30, 1, 1]⟩
abbrev S32x988x11 : Shape := ⟨3, ![32, 988, 11]⟩
abbrev S11x1 : Shape := ⟨2, ![11, 1]⟩
abbrev S32x988x1 : Shape := ⟨3, ![32, 988, 1]⟩
abbrev S32x988 : Shape := ⟨2, ![32, 988]⟩
abbrev S91 : Shape := ⟨1, ![91]⟩
abbrev S32x91 : Shape := ⟨2, ![32, 91]⟩
abbrev S32 : Shape := ⟨1, ![32]⟩
abbrev S32x1 : Shape := ⟨2, ![32, 1]⟩
abbrev S988 : Shape := ⟨1, ![988]⟩
abbrev S1x988 : Shape := ⟨2, ![1, 988]⟩
abbrev S1x91 : Shape := ⟨2, ![1, 91]⟩
abbrev S32x3 : Shape := ⟨2, ![32, 3]⟩
abbrev S32x3x1 : Shape := ⟨3, ![32, 3, 1]⟩
abbrev S1x1x1 : Shape := ⟨3, ![1, 1, 1]⟩
abbrev S32x30x983x11 : Shape := ⟨4, ![32, 30, 983, 11]⟩
abbrev S32x30x983 : Shape := ⟨3, ![32, 30, 983]⟩
abbrev S32x30x983x1 : Shape := ⟨4, ![32, 30, 983, 1]⟩
abbrev S32x30x983x2 : Shape := ⟨4, ![32, 30, 983, 2]⟩
abbrev S32x983x11 : Shape := ⟨3, ![32, 983, 11]⟩
abbrev S32x983x1 : Shape := ⟨3, ![32, 983, 1]⟩
abbrev S32x983 : Shape := ⟨2, ![32, 983]⟩
abbrev S983 : Shape := ⟨1, ![983]⟩
abbrev S1x983 : Shape := ⟨2, ![1, 983]⟩
abbrev S32x1x1 : Shape := ⟨3, ![32, 1, 1]⟩

abbrev nBuf : Space → Nat
  | .hbm => 482
  | .vmem => 0
  | .smem => 0
  | _ => 0

abbrev hbmTy0_0 (i : Nat) : BufTy := match i % 128 with
  | 0 => ⟨S1632x56x128, .f32⟩
  | 1 => ⟨S32x30, .f32⟩
  | 2 => ⟨S32x2000, .f32⟩
  | 3 => ⟨S32x30x1, .f32⟩
  | 4 => ⟨S1x2, .f32⟩
  | 5 => ⟨S1, .f32⟩
  | 6 => ⟨S1x2, .f32⟩
  | 7 => ⟨S1, .f32⟩
  | 8 => ⟨S1x2, .f32⟩
  | 9 => ⟨S1, .f32⟩
  | 10 => ⟨S1x11, .f32⟩
  | 11 => ⟨S1x3, .f32⟩
  | 12 => ⟨S1, .f32⟩
  | 13 => ⟨S11, .f32⟩
  | 14 => ⟨S_, .f32⟩
  | 15 => ⟨S1, .f32⟩
  | 16 => ⟨S_, .f32⟩
  | 17 => ⟨S10, .f32⟩
  | 18 => ⟨S11, .f32⟩
  | 19 => ⟨S32x30x128, .f32⟩
  | 20 => ⟨S1600x40x128, .f32⟩
  | 21 => ⟨S1600x40, .f32⟩
  | 22 => ⟨S_, .f32⟩
  | 23 => ⟨S1600, .f32⟩
  | 24 => ⟨S_, .f32⟩
  | 25 => ⟨S1600, .f32⟩
  | 26 => ⟨S1600, .i1⟩
  | 27 => ⟨S1600, .f32⟩
  | 28 => ⟨S32x50x30x128, .f32⟩
  | 29 => ⟨S1600x30x128, .f32⟩
  | 30 => ⟨S1600x30x40, .f32⟩
  | 31 => ⟨S1600x30x40x1, .f32⟩
  | 32 => ⟨S1x1x1x11, .f32⟩
  | 33 => ⟨S1600x30x40x11, .f32⟩
  | 34 => ⟨S1600x30x40x11, .f32⟩
  | 35 => ⟨S1600x30x40x11, .f32⟩
  | 36 => ⟨S1600x30x40x11, .f32⟩
  | 37 => ⟨S1600x30x40x11, .f32⟩
  | 38 => ⟨S1x1x1x11, .f32⟩
  | 39 => ⟨S1600x30x40x11, .f32⟩
  | 40 => ⟨S1600x30x40x11, .f32⟩
  | 41 => ⟨S1600x30x40x11, .f32⟩
  | 42 => ⟨S1600x1x40x1, .f32⟩
  | 43 => ⟨S1600x30x40x11, .f32⟩
  | 44 => ⟨S1600x30x40x11, .f32⟩
  | 45 => ⟨S1600x1x1x1, .f32⟩
  | 46 => ⟨S1600x30x40x11, .f32⟩
  | 47 => ⟨S1600x30x40x11, .f32⟩
  | 48 => ⟨S1600x40x30x11, .f32⟩
  | 49 => ⟨S32x2000x30x11, .f32⟩
  | 50 => ⟨S32x30x2000x11, .f32⟩
  | 51 => ⟨S_, .f32⟩
  | 52 => ⟨S32x30x1x11, .f32⟩
  | 53 => ⟨S_, .f32⟩
  | 54 => ⟨S_, .f32⟩
  | 55 => ⟨S32x30x2000x11, .f32⟩
  | 56 => ⟨S32x30x2001x11, .f32⟩
  | 57 => ⟨S_, .f32⟩
  | 58 => ⟨S32x30x2000, .f32⟩
  | 59 => ⟨S_, .f32⟩
  | 60 => ⟨S32x30x2000, .f32⟩
  | 61 => ⟨S32x30x2000, .i1⟩
  | 62 => ⟨S32x30x2000, .f32⟩
  | 63 => ⟨S_, .f32⟩
  | 64 => ⟨S32x30x1, .f32⟩
  | 65 => ⟨S_, .f32⟩
  | 66 => ⟨S_, .f32⟩
  | 67 => ⟨S32x30x2000, .f32⟩
  | 68 => ⟨S32x30x2001, .f32⟩
  | 69 => ⟨S32x30x988x11, .f32⟩
  | 70 => ⟨S32x30x988x11, .f32⟩
  | 71 => ⟨S32x30x988x11, .f32⟩
  | 72 => ⟨S32x30x988, .f32⟩
  | 73 => ⟨S32x30x988, .f32⟩
  | 74 => ⟨S32x30x988, .f32⟩
  | 75 => ⟨S32x30x988, .f32⟩
  | 76 => ⟨S32x30x988x1, .f32⟩
  | 77 => ⟨S32x30x988x1, .f32⟩
  | 78 => ⟨S32x30x988x2, .f32⟩
  | 79 => ⟨S2x1, .f32⟩
  | 80 => ⟨S32x30x988x1, .f32⟩
  | 81 => ⟨S1x1x1x1, .f32⟩
  | 82 => ⟨S32x30x988x1, .f32⟩
  | 83 => ⟨S32x30x988x1, .f32⟩
  | 84 => ⟨S2x1, .f32⟩
  | 85 => ⟨S32x30x988x1, .f32⟩
  | 86 => ⟨S1x1x1x1, .f32⟩
  | 87 => ⟨S32x30x988x1, .f32⟩
  | 88 => ⟨S32x30x988x1, .f32⟩
  | 89 => ⟨S_, .f32⟩
  | 90 => ⟨S32x30x988x1, .f32⟩
  | 91 => ⟨S32x30x988x1, .f32⟩
  | 92 => ⟨S2x1, .f32⟩
  | 93 => ⟨S32x30x988x1, .f32⟩
  | 94 => ⟨S1x1x1x1, .f32⟩
  | 95 => ⟨S32x30x988x1, .f32⟩
  | 96 => ⟨S32x30x988x1, .f32⟩
  | 97 => ⟨S_, .f32⟩
  | 98 => ⟨S_, .f32⟩
  | 99 => ⟨S32x30x988x11, .f32⟩
  | 100 => ⟨S32x30x988x11, .f32⟩
  | 101 => ⟨S32x30x988x11, .f32⟩
  | 102 => ⟨S32x30x988x11, .f32⟩
  | 103 => ⟨S32x30x988x11, .f32⟩
  | 104 => ⟨S32x30x988x11, .f32⟩
  | 105 => ⟨S32x30x988x11, .f32⟩
  | 106 => ⟨S32x30x988x11, .f32⟩
  | 107 => ⟨S32x30x1x1, .f32⟩
  | 108 => ⟨S32x30x988x11, .f32⟩
  | 109 => ⟨S32x30x988x11, .f32⟩
  | 110 => ⟨S_, .f32⟩
  | 111 => ⟨S32x30x988, .f32⟩
  | 112 => ⟨S32x30x988, .i1⟩
  | 113 => ⟨S32x30x988, .f32⟩
  | 114 => ⟨S32x30x988x1, .f32⟩
  | 115 => ⟨S32x30x988x11, .f32⟩
  | 116 => ⟨S32x30x988x11, .f32⟩
  | 117 => ⟨S_, .f32⟩
  | 118 => ⟨S32x988x11, .f32⟩
  | 119 => ⟨S11x1, .f32⟩
  | 120 => ⟨S32x988x1, .f32⟩
  | 121 => ⟨S32x988, .f32⟩
  | 122 => ⟨S_, .f32⟩
  | 123 => ⟨S32x988, .f32⟩
  | 124 => ⟨S32x988, .i1⟩
  | 125 => ⟨S_, .f32⟩
  | 126 => ⟨S_, .f32⟩
  | 127 => ⟨S32x988, .f32⟩
  | _ => ⟨S1632x56x128, .f32⟩

abbrev hbmTy0_1 (i : Nat) : BufTy := match i % 128 with
  | 0 => ⟨S32x988, .f32⟩
  | 1 => ⟨S91, .i32⟩
  | 2 => ⟨S32x91, .f32⟩
  | 3 => ⟨S_, .f32⟩
  | 4 => ⟨S32, .f32⟩
  | 5 => ⟨S32x1, .f32⟩
  | 6 => ⟨S32x988, .f32⟩
  | 7 => ⟨S32x988, .i1⟩
  | 8 => ⟨S988, .i32⟩
  | 9 => ⟨S1x988, .i32⟩
  | 10 => ⟨S_, .i32⟩
  | 11 => ⟨S_, .i32⟩
  | 12 => ⟨S32x988, .i32⟩
  | 13 => ⟨S32x988, .i32⟩
  | 14 => ⟨S32x988, .i32⟩
  | 15 => ⟨S_, .i32⟩
  | 16 => ⟨S32, .i32⟩
  | 17 => ⟨S1x91, .i32⟩
  | 18 => ⟨S32x1, .i32⟩
  | 19 => ⟨S32x91, .i32⟩
  | 20 => ⟨S32x91, .i32⟩
  | 21 => ⟨S32x91, .i32⟩
  | 22 => ⟨S32x91, .i32⟩
  | 23 => ⟨S32x91, .f32⟩
  | 24 => ⟨S_, .f32⟩
  | 25 => ⟨S32x91, .f32⟩
  | 26 => ⟨S32x91, .i1⟩
  | 27 => ⟨S_, .f32⟩
  | 28 => ⟨S_, .f32⟩
  | 29 => ⟨S32x91, .f32⟩
  | 30 => ⟨S32x91, .f32⟩
  | 31 => ⟨S_, .f32⟩
  | 32 => ⟨S32, .f32⟩
  | 33 => ⟨S32x1, .f32⟩
  | 34 => ⟨S32x91, .f32⟩
  | 35 => ⟨S32x91, .i1⟩
  | 36 => ⟨S91, .i32⟩
  | 37 => ⟨S1x91, .i32⟩
  | 38 => ⟨S_, .i32⟩
  | 39 => ⟨S_, .i32⟩
  | 40 => ⟨S32x91, .i32⟩
  | 41 => ⟨S32x91, .i32⟩
  | 42 => ⟨S32x91, .i32⟩
  | 43 => ⟨S_, .i32⟩
  | 44 => ⟨S32, .i32⟩
  | 45 => ⟨S1x91, .i32⟩
  | 46 => ⟨S32x1, .i32⟩
  | 47 => ⟨S32x91, .i32⟩
  | 48 => ⟨S32x91, .i32⟩
  | 49 => ⟨S32x91, .i32⟩
  | 50 => ⟨S32x91, .i32⟩
  | 51 => ⟨S32x91, .f32⟩
  | 52 => ⟨S_, .f32⟩
  | 53 => ⟨S32x91, .f32⟩
  | 54 => ⟨S32x91, .i1⟩
  | 55 => ⟨S_, .f32⟩
  | 56 => ⟨S_, .f32⟩
  | 57 => ⟨S32x91, .f32⟩
  | 58 => ⟨S32x91, .f32⟩
  | 59 => ⟨S_, .f32⟩
  | 60 => ⟨S32, .f32⟩
  | 61 => ⟨S32x1, .f32⟩
  | 62 => ⟨S32x91, .f32⟩
  | 63 => ⟨S32x91, .i1⟩
  | 64 => ⟨S91, .i32⟩
  | 65 => ⟨S1x91, .i32⟩
  | 66 => ⟨S_, .i32⟩
  | 67 => ⟨S_, .i32⟩
  | 68 => ⟨S32x91, .i32⟩
  | 69 => ⟨S32x91, .i32⟩
  | 70 => ⟨S32x91, .i32⟩
  | 71 => ⟨S_, .i32⟩
  | 72 => ⟨S32, .i32⟩
  | 73 => ⟨S1x91, .i32⟩
  | 74 => ⟨S32x1, .i32⟩
  | 75 => ⟨S32x91, .i32⟩
  | 76 => ⟨S32x91, .i32⟩
  | 77 => ⟨S32x91, .i32⟩
  | 78 => ⟨S32x91, .i32⟩
  | 79 => ⟨S32x91, .f32⟩
  | 80 => ⟨S_, .f32⟩
  | 81 => ⟨S32x91, .f32⟩
  | 82 => ⟨S32x91, .i1⟩
  | 83 => ⟨S_, .f32⟩
  | 84 => ⟨S_, .f32⟩
  | 85 => ⟨S32x91, .f32⟩
  | 86 => ⟨S32x91, .f32⟩
  | 87 => ⟨S_, .f32⟩
  | 88 => ⟨S32, .f32⟩
  | 89 => ⟨S32x1, .f32⟩
  | 90 => ⟨S32x91, .f32⟩
  | 91 => ⟨S32x91, .i1⟩
  | 92 => ⟨S91, .i32⟩
  | 93 => ⟨S1x91, .i32⟩
  | 94 => ⟨S_, .i32⟩
  | 95 => ⟨S_, .i32⟩
  | 96 => ⟨S32x91, .i32⟩
  | 97 => ⟨S32x91, .i32⟩
  | 98 => ⟨S32x91, .i32⟩
  | 99 => ⟨S_, .i32⟩
  | 100 => ⟨S32, .i32⟩
  | 101 => ⟨S32x1, .i32⟩
  | 102 => ⟨S32x1, .i32⟩
  | 103 => ⟨S32x1, .i32⟩
  | 104 => ⟨S32x3, .i32⟩
  | 105 => ⟨S_, .i32⟩
  | 106 => ⟨S32x3, .i32⟩
  | 107 => ⟨S32x3, .i1⟩
  | 108 => ⟨S_, .i32⟩
  | 109 => ⟨S32x3, .i32⟩
  | 110 => ⟨S32x3, .i32⟩
  | 111 => ⟨S32x3, .i32⟩
  | 112 => ⟨S32x3x1, .i32⟩
  | 113 => ⟨S1, .i32⟩
  | 114 => ⟨S_, .i32⟩
  | 115 => ⟨S32x3x1, .i32⟩
  | 116 => ⟨S32x3x1, .i1⟩
  | 117 => ⟨S1x1x1, .i32⟩
  | 118 => ⟨S32x3x1, .i32⟩
  | 119 => ⟨S32x3x1, .i1⟩
  | 120 => ⟨S32x3x1, .i1⟩
  | 121 => ⟨S_, .i1⟩
  | 122 => ⟨S32x3, .i1⟩
  | 123 => ⟨S32x3, .f32⟩
  | 124 => ⟨S_, .f32⟩
  | 125 => ⟨S32x3, .f32⟩
  | 126 => ⟨S32x3, .f32⟩
  | 127 => ⟨S_, .f32⟩
  | _ => ⟨S1632x56x128, .f32⟩

abbrev hbmTy0_2 (i : Nat) : BufTy := match i % 128 with
  | 0 => ⟨S32x3, .f32⟩
  | 1 => ⟨S32x3, .i1⟩
  | 2 => ⟨S_, .f32⟩
  | 3 => ⟨S_, .f32⟩
  | 4 => ⟨S32x3, .f32⟩
  | 5 => ⟨S32x3, .f32⟩
  | 6 => ⟨S32x3, .f32⟩
  | 7 => ⟨S32x3, .f32⟩
  | 8 => ⟨S_, .f32⟩
  | 9 => ⟨S32, .f32⟩
  | 10 => ⟨S32x30x983x11, .f32⟩
  | 11 => ⟨S32x30x983x11, .f32⟩
  | 12 => ⟨S32x30x983x11, .f32⟩
  | 13 => ⟨S32x30x983, .f32⟩
  | 14 => ⟨S32x30x983, .f32⟩
  | 15 => ⟨S32x30x983, .f32⟩
  | 16 => ⟨S32x30x983, .f32⟩
  | 17 => ⟨S32x30x983x1, .f32⟩
  | 18 => ⟨S32x30x983x1, .f32⟩
  | 19 => ⟨S32x30x983x2, .f32⟩
  | 20 => ⟨S2x1, .f32⟩
  | 21 => ⟨S32x30x983x1, .f32⟩
  | 22 => ⟨S1x1x1x1, .f32⟩
  | 23 => ⟨S32x30x983x1, .f32⟩
  | 24 => ⟨S32x30x983x1, .f32⟩
  | 25 => ⟨S2x1, .f32⟩
  | 26 => ⟨S32x30x983x1, .f32⟩
  | 27 => ⟨S1x1x1x1, .f32⟩
  | 28 => ⟨S32x30x983x1, .f32⟩
  | 29 => ⟨S32x30x983x1, .f32⟩
  | 30 => ⟨S_, .f32⟩
  | 31 => ⟨S32x30x983x1, .f32⟩
  | 32 => ⟨S32x30x983x1, .f32⟩
  | 33 => ⟨S2x1, .f32⟩
  | 34 => ⟨S32x30x983x1, .f32⟩
  | 35 => ⟨S1x1x1x1, .f32⟩
  | 36 => ⟨S32x30x983x1, .f32⟩
  | 37 => ⟨S32x30x983x1, .f32⟩
  | 38 => ⟨S_, .f32⟩
  | 39 => ⟨S_, .f32⟩
  | 40 => ⟨S32x30x983x11, .f32⟩
  | 41 => ⟨S32x30x983x11, .f32⟩
  | 42 => ⟨S32x30x983x11, .f32⟩
  | 43 => ⟨S32x30x983x11, .f32⟩
  | 44 => ⟨S32x30x983x11, .f32⟩
  | 45 => ⟨S32x30x983x11, .f32⟩
  | 46 => ⟨S32x30x983x11, .f32⟩
  | 47 => ⟨S32x30x983x11, .f32⟩
  | 48 => ⟨S32x30x1x1, .f32⟩
  | 49 => ⟨S32x30x983x11, .f32⟩
  | 50 => ⟨S32x30x983x11, .f32⟩
  | 51 => ⟨S_, .f32⟩
  | 52 => ⟨S32x30x983, .f32⟩
  | 53 => ⟨S32x30x983, .i1⟩
  | 54 => ⟨S32x30x983, .f32⟩
  | 55 => ⟨S32x30x983x1, .f32⟩
  | 56 => ⟨S32x30x983x11, .f32⟩
  | 57 => ⟨S32x30x983x11, .f32⟩
  | 58 => ⟨S_, .f32⟩
  | 59 => ⟨S32x983x11, .f32⟩
  | 60 => ⟨S11x1, .f32⟩
  | 61 => ⟨S32x983x1, .f32⟩
  | 62 => ⟨S32x983, .f32⟩
  | 63 => ⟨S_, .f32⟩
  | 64 => ⟨S32x983, .f32⟩
  | 65 => ⟨S32x983, .i1⟩
  | 66 => ⟨S_, .f32⟩
  | 67 => ⟨S_, .f32⟩
  | 68 => ⟨S32x983, .f32⟩
  | 69 => ⟨S32x983, .f32⟩
  | 70 => ⟨S91, .i32⟩
  | 71 => ⟨S32x91, .f32⟩
  | 72 => ⟨S_, .f32⟩
  | 73 => ⟨S32, .f32⟩
  | 74 => ⟨S32x1, .f32⟩
  | 75 => ⟨S32x983, .f32⟩
  | 76 => ⟨S32x983, .i1⟩
  | 77 => ⟨S983, .i32⟩
  | 78 => ⟨S1x983, .i32⟩
  | 79 => ⟨S_, .i32⟩
  | 80 => ⟨S_, .i32⟩
  | 81 => ⟨S32x983, .i32⟩
  | 82 => ⟨S32x983, .i32⟩
  | 83 => ⟨S32x983, .i32⟩
  | 84 => ⟨S_, .i32⟩
  | 85 => ⟨S32, .i32⟩
  | 86 => ⟨S1x91, .i32⟩
  | 87 => ⟨S32x1, .i32⟩
  | 88 => ⟨S32x91, .i32⟩
  | 89 => ⟨S32x91, .i32⟩
  | 90 => ⟨S32x91, .i32⟩
  | 91 => ⟨S32x91, .i32⟩
  | 92 => ⟨S32x91, .f32⟩
  | 93 => ⟨S_, .f32⟩
  | 94 => ⟨S32x91, .f32⟩
  | 95 => ⟨S32x91, .i1⟩
  | 96 => ⟨S_, .f32⟩
  | 97 => ⟨S_, .f32⟩
  | 98 => ⟨S32x91, .f32⟩
  | 99 => ⟨S32x91, .f32⟩
  | 100 => ⟨S_, .f32⟩
  | 101 => ⟨S32, .f32⟩
  | 102 => ⟨S32x1, .f32⟩
  | 103 => ⟨S32x91, .f32⟩
  | 104 => ⟨S32x91, .i1⟩
  | 105 => ⟨S91, .i32⟩
  | 106 => ⟨S1x91, .i32⟩
  | 107 => ⟨S_, .i32⟩
  | 108 => ⟨S_, .i32⟩
  | 109 => ⟨S32x91, .i32⟩
  | 110 => ⟨S32x91, .i32⟩
  | 111 => ⟨S32x91, .i32⟩
  | 112 => ⟨S_, .i32⟩
  | 113 => ⟨S32, .i32⟩
  | 114 => ⟨S1x91, .i32⟩
  | 115 => ⟨S32x1, .i32⟩
  | 116 => ⟨S32x91, .i32⟩
  | 117 => ⟨S32x91, .i32⟩
  | 118 => ⟨S32x91, .i32⟩
  | 119 => ⟨S32x91, .i32⟩
  | 120 => ⟨S32x91, .f32⟩
  | 121 => ⟨S_, .f32⟩
  | 122 => ⟨S32x91, .f32⟩
  | 123 => ⟨S32x91, .i1⟩
  | 124 => ⟨S_, .f32⟩
  | 125 => ⟨S_, .f32⟩
  | 126 => ⟨S32x91, .f32⟩
  | 127 => ⟨S32x91, .f32⟩
  | _ => ⟨S1632x56x128, .f32⟩

abbrev hbmTy0_3 (i : Nat) : BufTy := match i % 128 with
  | 0 => ⟨S_, .f32⟩
  | 1 => ⟨S32, .f32⟩
  | 2 => ⟨S32x1, .f32⟩
  | 3 => ⟨S32x91, .f32⟩
  | 4 => ⟨S32x91, .i1⟩
  | 5 => ⟨S91, .i32⟩
  | 6 => ⟨S1x91, .i32⟩
  | 7 => ⟨S_, .i32⟩
  | 8 => ⟨S_, .i32⟩
  | 9 => ⟨S32x91, .i32⟩
  | 10 => ⟨S32x91, .i32⟩
  | 11 => ⟨S32x91, .i32⟩
  | 12 => ⟨S_, .i32⟩
  | 13 => ⟨S32, .i32⟩
  | 14 => ⟨S1x91, .i32⟩
  | 15 => ⟨S32x1, .i32⟩
  | 16 => ⟨S32x91, .i32⟩
  | 17 => ⟨S32x91, .i32⟩
  | 18 => ⟨S32x91, .i32⟩
  | 19 => ⟨S32x91, .i32⟩
  | 20 => ⟨S32x91, .f32⟩
  | 21 => ⟨S_, .f32⟩
  | 22 => ⟨S32x91, .f32⟩
  | 23 => ⟨S32x91, .i1⟩
  | 24 => ⟨S_, .f32⟩
  | 25 => ⟨S_, .f32⟩
  | 26 => ⟨S32x91, .f32⟩
  | 27 => ⟨S32x91, .f32⟩
  | 28 => ⟨S_, .f32⟩
  | 29 => ⟨S32, .f32⟩
  | 30 => ⟨S32x1, .f32⟩
  | 31 => ⟨S32x91, .f32⟩
  | 32 => ⟨S32x91, .i1⟩
  | 33 => ⟨S91, .i32⟩
  | 34 => ⟨S1x91, .i32⟩
  | 35 => ⟨S_, .i32⟩
  | 36 => ⟨S_, .i32⟩
  | 37 => ⟨S32x91, .i32⟩
  | 38 => ⟨S32x91, .i32⟩
  | 39 => ⟨S32x91, .i32⟩
  | 40 => ⟨S_, .i32⟩
  | 41 => ⟨S32, .i32⟩
  | 42 => ⟨S32x1, .i32⟩
  | 43 => ⟨S32x1, .i32⟩
  | 44 => ⟨S32x1, .i32⟩
  | 45 => ⟨S32x3, .i32⟩
  | 46 => ⟨S_, .i32⟩
  | 47 => ⟨S32x3, .i32⟩
  | 48 => ⟨S32x3, .i1⟩
  | 49 => ⟨S_, .i32⟩
  | 50 => ⟨S32x3, .i32⟩
  | 51 => ⟨S32x3, .i32⟩
  | 52 => ⟨S32x3, .i32⟩
  | 53 => ⟨S32x3x1, .i32⟩
  | 54 => ⟨S1, .i32⟩
  | 55 => ⟨S_, .i32⟩
  | 56 => ⟨S32x3x1, .i32⟩
  | 57 => ⟨S32x3x1, .i1⟩
  | 58 => ⟨S1x1x1, .i32⟩
  | 59 => ⟨S32x3x1, .i32⟩
  | 60 => ⟨S32x3x1, .i1⟩
  | 61 => ⟨S32x3x1, .i1⟩
  | 62 => ⟨S_, .i1⟩
  | 63 => ⟨S32x3, .i1⟩
  | 64 => ⟨S32x3, .f32⟩
  | 65 => ⟨S_, .f32⟩
  | 66 => ⟨S32x3, .f32⟩
  | 67 => ⟨S32x3, .f32⟩
  | 68 => ⟨S_, .f32⟩
  | 69 => ⟨S32x3, .f32⟩
  | 70 => ⟨S32x3, .i1⟩
  | 71 => ⟨S_, .f32⟩
  | 72 => ⟨S_, .f32⟩
  | 73 => ⟨S32x3, .f32⟩
  | 74 => ⟨S32x3, .f32⟩
  | 75 => ⟨S32x3, .f32⟩
  | 76 => ⟨S32x3, .f32⟩
  | 77 => ⟨S_, .f32⟩
  | 78 => ⟨S32, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S32, .f32⟩
  | 93 => ⟨S32, .f32⟩
  | 94 => ⟨S32, .f32⟩
  | 95 => ⟨S32, .f32⟩
  | 96 => ⟨S32, .f32⟩
  | 97 => ⟨S32x1x1, .f32⟩
  | _ => ⟨S1632x56x128, .f32⟩

abbrev hbmTy (i : Nat) : BufTy := match i / 128 with
  | 0 => hbmTy0_0 i
  | 1 => hbmTy0_1 i
  | 2 => hbmTy0_2 i
  | 3 => hbmTy0_3 i
  | _ => ⟨S1632x56x128, .f32⟩

abbrev bufTy : (tb : Table) → Fin (tcTables nBuf tb) → BufTy
  | .hbm, ⟨i, _⟩ => hbmTy i
  | _, _ => ⟨S1632x56x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_cst_1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_cst_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_call0_call0_cst : Ref sig .tc := ⟨.hbm, 53, rfl⟩
abbrev main_call0_call0_v0 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_call1_call0_cst : Ref sig .tc := ⟨.hbm, 65, rfl⟩
abbrev main_call1_call0_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_9 : Ref sig .tc := ⟨.hbm, 97, rfl⟩
abbrev main_call2_v0 : Ref sig .tc := ⟨.hbm, 98, rfl⟩
abbrev main_call2_v1 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_10 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_11 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_12 : Ref sig .tc := ⟨.hbm, 122, rfl⟩
abbrev main_v90 : Ref sig .tc := ⟨.hbm, 123, rfl⟩
abbrev main_v91 : Ref sig .tc := ⟨.hbm, 124, rfl⟩
abbrev main_cst_13 : Ref sig .tc := ⟨.hbm, 125, rfl⟩
abbrev main_call3_v0 : Ref sig .tc := ⟨.hbm, 126, rfl⟩
abbrev main_call3_v1 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_14 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_v101 : Ref sig .tc := ⟨.hbm, 142, rfl⟩
abbrev main_c_15 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_16 : Ref sig .tc := ⟨.hbm, 152, rfl⟩
abbrev main_v110 : Ref sig .tc := ⟨.hbm, 153, rfl⟩
abbrev main_v111 : Ref sig .tc := ⟨.hbm, 154, rfl⟩
abbrev main_cst_17 : Ref sig .tc := ⟨.hbm, 155, rfl⟩
abbrev main_call5_v0 : Ref sig .tc := ⟨.hbm, 156, rfl⟩
abbrev main_call5_v1 : Ref sig .tc := ⟨.hbm, 157, rfl⟩
abbrev main_v112 : Ref sig .tc := ⟨.hbm, 158, rfl⟩
abbrev main_cst_18 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_19 : Ref sig .tc := ⟨.hbm, 166, rfl⟩
abbrev main_call6_v0 : Ref sig .tc := ⟨.hbm, 167, rfl⟩
abbrev main_call6_v1 : Ref sig .tc := ⟨.hbm, 168, rfl⟩
abbrev main_call6_v2 : Ref sig .tc := ⟨.hbm, 169, rfl⟩
abbrev main_v119 : Ref sig .tc := ⟨.hbm, 170, rfl⟩
abbrev main_c_20 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_21 : Ref sig .tc := ⟨.hbm, 180, rfl⟩
abbrev main_v128 : Ref sig .tc := ⟨.hbm, 181, rfl⟩
abbrev main_v129 : Ref sig .tc := ⟨.hbm, 182, rfl⟩
abbrev main_cst_22 : Ref sig .tc := ⟨.hbm, 183, rfl⟩
abbrev main_call7_v0 : Ref sig .tc := ⟨.hbm, 184, rfl⟩
abbrev main_call7_v1 : Ref sig .tc := ⟨.hbm, 185, rfl⟩
abbrev main_v130 : Ref sig .tc := ⟨.hbm, 186, rfl⟩
abbrev main_cst_23 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_c_24 : Ref sig .tc := ⟨.hbm, 194, rfl⟩
abbrev main_call8_v0 : Ref sig .tc := ⟨.hbm, 195, rfl⟩
abbrev main_call8_v1 : Ref sig .tc := ⟨.hbm, 196, rfl⟩
abbrev main_call8_v2 : Ref sig .tc := ⟨.hbm, 197, rfl⟩
abbrev main_v137 : Ref sig .tc := ⟨.hbm, 198, rfl⟩
abbrev main_c_25 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_26 : Ref sig .tc := ⟨.hbm, 208, rfl⟩
abbrev main_v146 : Ref sig .tc := ⟨.hbm, 209, rfl⟩
abbrev main_v147 : Ref sig .tc := ⟨.hbm, 210, rfl⟩
abbrev main_cst_27 : Ref sig .tc := ⟨.hbm, 211, rfl⟩
abbrev main_call9_v0 : Ref sig .tc := ⟨.hbm, 212, rfl⟩
abbrev main_call9_v1 : Ref sig .tc := ⟨.hbm, 213, rfl⟩
abbrev main_v148 : Ref sig .tc := ⟨.hbm, 214, rfl⟩
abbrev main_cst_28 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_c_29 : Ref sig .tc := ⟨.hbm, 222, rfl⟩
abbrev main_call10_v0 : Ref sig .tc := ⟨.hbm, 223, rfl⟩
abbrev main_call10_v1 : Ref sig .tc := ⟨.hbm, 224, rfl⟩
abbrev main_call10_v2 : Ref sig .tc := ⟨.hbm, 225, rfl⟩
abbrev main_v155 : Ref sig .tc := ⟨.hbm, 226, rfl⟩
abbrev main_c_30 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_call11_c : Ref sig .tc := ⟨.hbm, 233, rfl⟩
abbrev main_call11_v0 : Ref sig .tc := ⟨.hbm, 234, rfl⟩
abbrev main_call11_v1 : Ref sig .tc := ⟨.hbm, 235, rfl⟩
abbrev main_call11_c_0 : Ref sig .tc := ⟨.hbm, 236, rfl⟩
abbrev main_call11_v2 : Ref sig .tc := ⟨.hbm, 237, rfl⟩
abbrev main_call11_v3 : Ref sig .tc := ⟨.hbm, 238, rfl⟩
abbrev main_call11_v4 : Ref sig .tc := ⟨.hbm, 239, rfl⟩
abbrev main_call11_v5 : Ref sig .tc := ⟨.hbm, 240, rfl⟩
abbrev main_call11_c_1 : Ref sig .tc := ⟨.hbm, 241, rfl⟩
abbrev main_call11_c_2 : Ref sig .tc := ⟨.hbm, 242, rfl⟩
abbrev main_call11_v6 : Ref sig .tc := ⟨.hbm, 243, rfl⟩
abbrev main_call11_v7 : Ref sig .tc := ⟨.hbm, 244, rfl⟩
abbrev main_call11_v8 : Ref sig .tc := ⟨.hbm, 245, rfl⟩
abbrev main_call11_v9 : Ref sig .tc := ⟨.hbm, 246, rfl⟩
abbrev main_call11_v10 : Ref sig .tc := ⟨.hbm, 247, rfl⟩
abbrev main_call11_v11 : Ref sig .tc := ⟨.hbm, 248, rfl⟩
abbrev main_call11_c_3 : Ref sig .tc := ⟨.hbm, 249, rfl⟩
abbrev main_call11_v12 : Ref sig .tc := ⟨.hbm, 250, rfl⟩
abbrev main_call11_v13 : Ref sig .tc := ⟨.hbm, 251, rfl⟩
abbrev main_call11_cst : Ref sig .tc := ⟨.hbm, 252, rfl⟩
abbrev main_call11_v14 : Ref sig .tc := ⟨.hbm, 253, rfl⟩
abbrev main_v161 : Ref sig .tc := ⟨.hbm, 254, rfl⟩
abbrev main_cst_31 : Ref sig .tc := ⟨.hbm, 255, rfl⟩
abbrev main_v162 : Ref sig .tc := ⟨.hbm, 256, rfl⟩
abbrev main_v163 : Ref sig .tc := ⟨.hbm, 257, rfl⟩
abbrev main_cst_32 : Ref sig .tc := ⟨.hbm, 258, rfl⟩
abbrev main_call12_v0 : Ref sig .tc := ⟨.hbm, 259, rfl⟩
abbrev main_call12_v1 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_cst_33 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_cst_34 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_cst_35 : Ref sig .tc := ⟨.hbm, 294, rfl⟩
abbrev main_call13_v0 : Ref sig .tc := ⟨.hbm, 295, rfl⟩
abbrev main_call13_v1 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_cst_36 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_cst_37 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_cst_38 : Ref sig .tc := ⟨.hbm, 319, rfl⟩
abbrev main_v215 : Ref sig .tc := ⟨.hbm, 320, rfl⟩
abbrev main_v216 : Ref sig .tc := ⟨.hbm, 321, rfl⟩
abbrev main_cst_39 : Ref sig .tc := ⟨.hbm, 322, rfl⟩
abbrev main_call14_v0 : Ref sig .tc := ⟨.hbm, 323, rfl⟩
abbrev main_call14_v1 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_cst_40 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_c_41 : Ref sig .tc := ⟨.hbm, 335, rfl⟩
abbrev main_call15_v0 : Ref sig .tc := ⟨.hbm, 336, rfl⟩
abbrev main_call15_v1 : Ref sig .tc := ⟨.hbm, 337, rfl⟩
abbrev main_call15_v2 : Ref sig .tc := ⟨.hbm, 338, rfl⟩
abbrev main_v226 : Ref sig .tc := ⟨.hbm, 339, rfl⟩
abbrev main_c_42 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_cst_43 : Ref sig .tc := ⟨.hbm, 349, rfl⟩
abbrev main_v235 : Ref sig .tc := ⟨.hbm, 350, rfl⟩
abbrev main_v236 : Ref sig .tc := ⟨.hbm, 351, rfl⟩
abbrev main_cst_44 : Ref sig .tc := ⟨.hbm, 352, rfl⟩
abbrev main_call16_v0 : Ref sig .tc := ⟨.hbm, 353, rfl⟩
abbrev main_call16_v1 : Ref sig .tc := ⟨.hbm, 354, rfl⟩
abbrev main_v237 : Ref sig .tc := ⟨.hbm, 355, rfl⟩
abbrev main_cst_45 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_c_46 : Ref sig .tc := ⟨.hbm, 363, rfl⟩
abbrev main_call17_v0 : Ref sig .tc := ⟨.hbm, 364, rfl⟩
abbrev main_call17_v1 : Ref sig .tc := ⟨.hbm, 365, rfl⟩
abbrev main_call17_v2 : Ref sig .tc := ⟨.hbm, 366, rfl⟩
abbrev main_v244 : Ref sig .tc := ⟨.hbm, 367, rfl⟩
abbrev main_c_47 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_v252 : Ref sig .tc := ⟨.hbm, 376, rfl⟩
abbrev main_cst_48 : Ref sig .tc := ⟨.hbm, 377, rfl⟩
abbrev main_v253 : Ref sig .tc := ⟨.hbm, 378, rfl⟩
abbrev main_v254 : Ref sig .tc := ⟨.hbm, 379, rfl⟩
abbrev main_cst_49 : Ref sig .tc := ⟨.hbm, 380, rfl⟩
abbrev main_call18_v0 : Ref sig .tc := ⟨.hbm, 381, rfl⟩
abbrev main_call18_v1 : Ref sig .tc := ⟨.hbm, 382, rfl⟩
abbrev main_v255 : Ref sig .tc := ⟨.hbm, 383, rfl⟩
abbrev main_cst_50 : Ref sig .tc := ⟨.hbm, 384, rfl⟩
abbrev main_v256 : Ref sig .tc := ⟨.hbm, 385, rfl⟩
abbrev main_v257 : Ref sig .tc := ⟨.hbm, 386, rfl⟩
abbrev main_v258 : Ref sig .tc := ⟨.hbm, 387, rfl⟩
abbrev main_v259 : Ref sig .tc := ⟨.hbm, 388, rfl⟩
abbrev main_v260 : Ref sig .tc := ⟨.hbm, 389, rfl⟩
abbrev main_v261 : Ref sig .tc := ⟨.hbm, 390, rfl⟩
abbrev main_c_51 : Ref sig .tc := ⟨.hbm, 391, rfl⟩
abbrev main_call19_v0 : Ref sig .tc := ⟨.hbm, 392, rfl⟩
abbrev main_call19_v1 : Ref sig .tc := ⟨.hbm, 393, rfl⟩
abbrev main_call19_v2 : Ref sig .tc := ⟨.hbm, 394, rfl⟩
abbrev main_v262 : Ref sig .tc := ⟨.hbm, 395, rfl⟩
abbrev main_c_52 : Ref sig .tc := ⟨.hbm, 396, rfl⟩
abbrev main_v263 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_v268 : Ref sig .tc := ⟨.hbm, 402, rfl⟩
abbrev main_v269 : Ref sig .tc := ⟨.hbm, 403, rfl⟩
abbrev main_v270 : Ref sig .tc := ⟨.hbm, 404, rfl⟩
abbrev main_cst_53 : Ref sig .tc := ⟨.hbm, 405, rfl⟩
abbrev main_v271 : Ref sig .tc := ⟨.hbm, 406, rfl⟩
abbrev main_v272 : Ref sig .tc := ⟨.hbm, 407, rfl⟩
abbrev main_cst_54 : Ref sig .tc := ⟨.hbm, 408, rfl⟩
abbrev main_call20_v0 : Ref sig .tc := ⟨.hbm, 409, rfl⟩
abbrev main_call20_v1 : Ref sig .tc := ⟨.hbm, 410, rfl⟩
abbrev main_v273 : Ref sig .tc := ⟨.hbm, 411, rfl⟩
abbrev main_cst_55 : Ref sig .tc := ⟨.hbm, 412, rfl⟩
abbrev main_v274 : Ref sig .tc := ⟨.hbm, 413, rfl⟩
abbrev main_v275 : Ref sig .tc := ⟨.hbm, 414, rfl⟩
abbrev main_v276 : Ref sig .tc := ⟨.hbm, 415, rfl⟩
abbrev main_v277 : Ref sig .tc := ⟨.hbm, 416, rfl⟩
abbrev main_v278 : Ref sig .tc := ⟨.hbm, 417, rfl⟩
abbrev main_v279 : Ref sig .tc := ⟨.hbm, 418, rfl⟩
abbrev main_c_56 : Ref sig .tc := ⟨.hbm, 419, rfl⟩
abbrev main_call21_v0 : Ref sig .tc := ⟨.hbm, 420, rfl⟩
abbrev main_call21_v1 : Ref sig .tc := ⟨.hbm, 421, rfl⟩
abbrev main_call21_v2 : Ref sig .tc := ⟨.hbm, 422, rfl⟩
abbrev main_v280 : Ref sig .tc := ⟨.hbm, 423, rfl⟩
abbrev main_c_57 : Ref sig .tc := ⟨.hbm, 424, rfl⟩
abbrev main_v281 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_call22_c : Ref sig .tc := ⟨.hbm, 430, rfl⟩
abbrev main_call22_v0 : Ref sig .tc := ⟨.hbm, 431, rfl⟩
abbrev main_call22_v1 : Ref sig .tc := ⟨.hbm, 432, rfl⟩
abbrev main_call22_c_0 : Ref sig .tc := ⟨.hbm, 433, rfl⟩
abbrev main_call22_v2 : Ref sig .tc := ⟨.hbm, 434, rfl⟩
abbrev main_call22_v3 : Ref sig .tc := ⟨.hbm, 435, rfl⟩
abbrev main_call22_v4 : Ref sig .tc := ⟨.hbm, 436, rfl⟩
abbrev main_call22_v5 : Ref sig .tc := ⟨.hbm, 437, rfl⟩
abbrev main_call22_c_1 : Ref sig .tc := ⟨.hbm, 438, rfl⟩
abbrev main_call22_c_2 : Ref sig .tc := ⟨.hbm, 439, rfl⟩
abbrev main_call22_v6 : Ref sig .tc := ⟨.hbm, 440, rfl⟩
abbrev main_call22_v7 : Ref sig .tc := ⟨.hbm, 441, rfl⟩
abbrev main_call22_v8 : Ref sig .tc := ⟨.hbm, 442, rfl⟩
abbrev main_call22_v9 : Ref sig .tc := ⟨.hbm, 443, rfl⟩
abbrev main_call22_v10 : Ref sig .tc := ⟨.hbm, 444, rfl⟩
abbrev main_call22_v11 : Ref sig .tc := ⟨.hbm, 445, rfl⟩
abbrev main_call22_c_3 : Ref sig .tc := ⟨.hbm, 446, rfl⟩
abbrev main_call22_v12 : Ref sig .tc := ⟨.hbm, 447, rfl⟩
abbrev main_call22_v13 : Ref sig .tc := ⟨.hbm, 448, rfl⟩
abbrev main_call22_cst : Ref sig .tc := ⟨.hbm, 449, rfl⟩
abbrev main_call22_v14 : Ref sig .tc := ⟨.hbm, 450, rfl⟩
abbrev main_v286 : Ref sig .tc := ⟨.hbm, 451, rfl⟩
abbrev main_cst_58 : Ref sig .tc := ⟨.hbm, 452, rfl⟩
abbrev main_v287 : Ref sig .tc := ⟨.hbm, 453, rfl⟩
abbrev main_v288 : Ref sig .tc := ⟨.hbm, 454, rfl⟩
abbrev main_cst_59 : Ref sig .tc := ⟨.hbm, 455, rfl⟩
abbrev main_call23_v0 : Ref sig .tc := ⟨.hbm, 456, rfl⟩
abbrev main_call23_v1 : Ref sig .tc := ⟨.hbm, 457, rfl⟩
abbrev main_v289 : Ref sig .tc := ⟨.hbm, 458, rfl⟩
abbrev main_v290 : Ref sig .tc := ⟨.hbm, 459, rfl⟩
abbrev main_v291 : Ref sig .tc := ⟨.hbm, 460, rfl⟩
abbrev main_cst_60 : Ref sig .tc := ⟨.hbm, 461, rfl⟩
abbrev main_v292 : Ref sig .tc := ⟨.hbm, 462, rfl⟩
abbrev main_v293 : Ref sig .tc := ⟨.hbm, 463, rfl⟩
abbrev main_cst_61 : Ref sig .tc := ⟨.hbm, 464, rfl⟩
abbrev main_v294 : Ref sig .tc := ⟨.hbm, 465, rfl⟩
abbrev main_cst_62 : Ref sig .tc := ⟨.hbm, 466, rfl⟩
abbrev main_cst_63 : Ref sig .tc := ⟨.hbm, 467, rfl⟩
abbrev main_v295 : Ref sig .tc := ⟨.hbm, 468, rfl⟩
abbrev main_v296 : Ref sig .tc := ⟨.hbm, 469, rfl⟩
abbrev main_cst_64 : Ref sig .tc := ⟨.hbm, 470, rfl⟩
abbrev main_v297 : Ref sig .tc := ⟨.hbm, 471, rfl⟩
abbrev main_cst_65 : Ref sig .tc := ⟨.hbm, 472, rfl⟩
abbrev main_cst_66 : Ref sig .tc := ⟨.hbm, 473, rfl⟩
abbrev main_v298 : Ref sig .tc := ⟨.hbm, 474, rfl⟩
abbrev main_v299 : Ref sig .tc := ⟨.hbm, 475, rfl⟩
abbrev main_v300 : Ref sig .tc := ⟨.hbm, 476, rfl⟩
abbrev main_v301 : Ref sig .tc := ⟨.hbm, 477, rfl⟩
abbrev main_v302 : Ref sig .tc := ⟨.hbm, 478, rfl⟩
abbrev main_v303 : Ref sig .tc := ⟨.hbm, 479, rfl⟩
abbrev main_v304 : Ref sig .tc := ⟨.hbm, 480, rfl⟩
abbrev main_v305 : Ref sig .tc := ⟨.hbm, 481, rfl⟩

abbrev nD : Nat := 1
abbrev τ : Topo := Topo.v7x

variable {F : FTy → Type} [FloatOps F]
-- ==== Proof.BitsFrame.lean ====
/- The bit-exact program's frame: every execution of `Kernel` ends, and leaves its arguments as they were.

   Nothing is said of what a block of the result holds: a block whose mask sums to a NaN is written by neither of the
   body's two branches, so the frame forgets the output window. The value is stated of the idealized program. -/
module

public import proofs.«01_k».proof.Proof.Gen.Kernel.Skeleton
public import proofs.«01_k».proof.Proof.Gen.Kernel.Frame
public import Idealize.ShloMosaic.Lib.Claim

@[expose] public section

set_option maxRecDepth 16384

noncomputable section

namespace Cert.Kernel.Encoder

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 46837450 in
/-- The body on whole blocks: the inputs' are left as they were, the output's is left at something, whichever of the
    two branches the sum of the mask's block takes. -/
theorem body_run (c : Dev nD) (E : Set ℕ) (i : grid0.Coords) (arg1 : Memref sig .tc .vmem S32x56x128 .f32) (harg1 : arg1.IsWhole) (arg2 : Memref sig .tc .vmem S32x56 .f32) (harg2 : arg2.IsWhole) (arg3 : Memref sig .tc .vmem S2x384x128 .f32) (harg3 : arg3.IsWhole) (arg4 : Memref sig .tc .vmem S2x384 .f32) (harg4 : arg4.IsWhole) (arg5 : Memref sig .tc .vmem S2x128x128 .f32) (harg5 : arg5.IsWhole) (arg6 : Memref sig .tc .vmem S2x128 .f32) (harg6 : arg6.IsWhole) (arg7 : Memref sig .tc .vmem S2x512x128 .f32) (harg7 : arg7.IsWhole) (arg8 : Memref sig .tc .vmem S2x512 .f32) (harg8 : arg8.IsWhole) (arg9 : Memref sig .tc .vmem S2x128x512 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S2x128 .f32) (harg13 : arg13.IsWhole) (arg14 : Memref sig .tc .vmem S2x128 .f32) (harg14 : arg14.IsWhole) (arg15 : Memref sig .tc .vmem S1x1 .f32) (harg15 : arg15.IsWhole) (arg16 : Memref sig .tc .vmem S32x56x128 .f32) (harg16 : arg16.IsWhole)
    (x0 : Vec F S32x56x128 .f32) (x1 : Vec F S32x56 .f32) (x2 : Vec F S2x384x128 .f32) (x3 : Vec F S2x384 .f32) (x4 : Vec F S2x128x128 .f32) (x5 : Vec F S2x128 .f32) (x6 : Vec F S2x512x128 .f32) (x7 : Vec F S2x512 .f32) (x8 : Vec F S2x128x512 .f32) (x9 : Vec F S2x128 .f32) (x10 : Vec F S2x128 .f32) (x11 : Vec F S2x128 .f32) (x12 : Vec F S2x128 .f32) (x13 : Vec F S2x128 .f32) (x14 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__encoder_kernel_eq_skeleton]; unfold cc0__encoder_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  by_cases h1 : Scalar.cmpi .ne (Scalar.extui (Scalar.cmpf .oeq (k0_pay2 (View.readAt (Elt F) arg2.view (Rect.unit (s := S32x56) ![0, 0] S32x56.size inb_S32x56_S32x56_0_0).toLoadRect f1)) (Scalar.ofBits .f32 0x00000000#32) : BitVec 1) : BitVec 32) 0#32 = 1#1 <;>
  by_cases h2 : Scalar.cmpi .ne (Scalar.extui (Scalar.cmpf .one (k0_pay4 (View.readAt (Elt F) arg2.view (Rect.unit (s := S32x56) ![0, 0] S32x56.size inb_S32x56_S32x56_0_0).toLoadRect f1)) (Scalar.ofBits .f32 0x00000000#32) : BitVec 1) : BitVec 32) 0#32 = 1#1
  all_goals
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    iexists _; iexists _; isplitr
    swap; · iexact H15
    ipureintro; rfl

/-! ## The launch -/

/-- The output window alone is forgotten. -/
def forgets : Fin 16 → Bool := fun w => decide (w = 15)

/-- The proof data on core `c`: the arrays as the region finds them; after the body each input's block in place, the output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => Pipeline.Dat.unnamed (cfg := cfg0) 15 t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (∃ d, owns (c : Thread nD τ) (st0_15 t) fullShare d))

/-- The body at any point: the inputs' memrefs hold their blocks, so `body_run` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_run c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation at every point: `sound_body` restated. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

-- the lemma's implicit arguments are found by unifying its conclusion with the statement
set_option backward.isDefEq.respectTransparency.types false in
set_option maxHeartbeats 800000 in
/-- Every execution ends, with each input's array and every buffer no window stages as the region found them and every
    counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c),
      (Pipeline.RDat.FramePost.arr_in h.1 c 2 rfl).trans ((A_eq m c 2).trans (V_main_arg3 m c)),
      (Pipeline.RDat.FramePost.arr_in h.1 c 3 rfl).trans ((A_eq m c 3).trans (V_main_arg4 m c)),
      (Pipeline.RDat.FramePost.arr_in h.1 c 4 rfl).trans ((A_eq m c 4).trans (V_main_arg5 m c)),
      (Pipeline.RDat.FramePost.arr_in h.1 c 5 rfl).trans ((A_eq m c 5).trans (V_main_arg6 m c)),
      (Pipeline.RDat.FramePost.arr_in h.1 c 6 rfl).trans ((A_eq m c 6).trans (V_main_arg7 m c)),
      (Pipeline.RDat.FramePost.arr_in h.1 c 7 rfl).trans ((A_eq m c 7).trans (V_main_arg8 m c)),
      (Pipeline.RDat.FramePost.arr_in h.1 c 8 rfl).trans ((A_eq m c 8).trans (V_main_arg9 m c)),
      (Pipeline.RDat.FramePost.arr_in h.1 c 9 rfl).trans ((A_eq m c 9).trans (V_main_arg10 m c)),
      (Pipeline.RDat.FramePost.arr_in h.1 c 10 rfl).trans ((A_eq m c 10).trans (V_main_arg11 m c)),
      (Pipeline.RDat.FramePost.arr_in h.1 c 11 rfl).trans ((A_eq m c 11).trans (V_main_arg12 m c)),
      (Pipeline.RDat.FramePost.arr_in h.1 c 12 rfl).trans ((A_eq m c 12).trans (V_main_arg13 m c)),
      (Pipeline.RDat.FramePost.arr_in h.1 c 13 rfl).trans ((A_eq m c 13).trans (V_main_arg14 m c))⟩, h.2⟩) (run_main m ρ)

end Cert.Kernel.Encoder

end
-- ==== Proof.Block.lean ====
/- What one block of the result is: the values the body computes, in the order it computes them. -/
module

public import proofs.«01_k».proof.Proof.Gen.KernelIdeal.Skeleton
public import proofs.«01_k».proof.Proof.Gen.KernelIdeal.Frame
public import Idealize.ShloMosaic.PureOps.Ideal
public import Idealize.ShloMosaic.Lib.Claim

@[expose] public section

set_option maxRecDepth 16384

noncomputable section

namespace Cert.KernelIdeal.Encoder

open Cert.KernelIdeal Cert.KernelIdeal.Gen
open Idealize.ShloMosaic Idealize.ShloMosaic.TcCoe

/-- The block the encoder's branch stores, from the fifteen inputs' blocks: both layers of the encoder, the mix with
    the block itself, and the normalisation of each row. -/
def encBlock (x0 : Vec Ideal S32x56x128 .f32) (x1 : Vec Ideal S32x56 .f32) (x2 : Vec Ideal S2x384x128 .f32) (x3 : Vec Ideal S2x384 .f32) (x4 : Vec Ideal S2x128x128 .f32) (x5 : Vec Ideal S2x128 .f32) (x6 : Vec Ideal S2x512x128 .f32) (x7 : Vec Ideal S2x512 .f32) (x8 : Vec Ideal S2x128x512 .f32) (x9 : Vec Ideal S2x128 .f32) (x10 : Vec Ideal S2x128 .f32) (x11 : Vec Ideal S2x128 .f32) (x12 : Vec Ideal S2x128 .f32) (x13 : Vec Ideal S2x128 .f32) (x14 : Vec Ideal S1x1 .f32) : Vec Ideal S32x56x128 .f32 :=
  let v0 := View.ld x0 (Rect.unit (s := S32x56x128) ![0, 0, 0] S32x56x128.size inb_S32x56x128_S32x56x128_0_0_0)
  let v2 := View.ld x1 (Rect.unit (s := S32x56) ![0, 0] S32x56.size inb_S32x56_S32x56_0_0)
  let v526 := View.ld x14 (Rect.unit (s := S1x1) ![0, 0] S1x1.size inb_S1x1_S1x1_0_0)
  let v22 := View.ld x2 (Rect.unit (s := S2x384x128) ![0, 0, 0] S1x384x128.size inb_S2x384x128_S1x384x128_0_0_0)
  let v25 := View.ld x3 (Rect.unit (s := S2x384) ![0, 0] S1x384.size inb_S2x384_S1x384_0_0)
  let v190 := View.ld x4 (Rect.unit (s := S2x128x128) ![0, 0, 0] S1x128x128.size inb_S2x128x128_S1x128x128_0_0_0)
  let v193 := View.ld x5 (Rect.unit (s := S2x128) ![0, 0] S1x128.size inb_S2x128_S1x128_0_0)
  let v227 := View.ld x6 (Rect.unit (s := S2x512x128) ![0, 0, 0] S1x512x128.size inb_S2x512x128_S1x512x128_0_0_0)
  let v230 := View.ld x7 (Rect.unit (s := S2x512) ![0, 0] S1x512.size inb_S2x512_S1x512_0_0)
  let v237 := View.ld x8 (Rect.unit (s := S2x128x512) ![0, 0, 0] S1x128x512.size inb_S2x128x512_S1x128x512_0_0_0)
  let v240 := View.ld x9 (Rect.unit (s := S2x128) ![0, 0] S1x128.size inb_S2x128_S1x128_0_0)
  let v217 := View.ld x10 (Rect.unit (s := S2x128) ![0, 0] S1x128.size inb_S2x128_S1x128_0_0)
  let v222 := View.ld x11 (Rect.unit (s := S2x128) ![0, 0] S1x128.size inb_S2x128_S1x128_0_0)
  let v264 := View.ld x12 (Rect.unit (s := S2x128) ![0, 0] S1x128.size inb_S2x128_S1x128_0_0)
  let v269 := View.ld x13 (Rect.unit (s := S2x128) ![0, 0] S1x128.size inb_S2x128_S1x128_0_0)
  let v274 := View.ld x2 (Rect.unit (s := S2x384x128) ![1, 0, 0] S1x384x128.size inb_S2x384x128_S1x384x128_1_0_0)
  let v277 := View.ld x3 (Rect.unit (s := S2x384) ![1, 0] S1x384.size inb_S2x384_S1x384_1_0)
  let v442 := View.ld x4 (Rect.unit (s := S2x128x128) ![1, 0, 0] S1x128x128.size inb_S2x128x128_S1x128x128_1_0_0)
  let v445 := View.ld x5 (Rect.unit (s := S2x128) ![1, 0] S1x128.size inb_S2x128_S1x128_1_0)
  let v479 := View.ld x6 (Rect.unit (s := S2x512x128) ![1, 0, 0] S1x512x128.size inb_S2x512x128_S1x512x128_1_0_0)
  let v482 := View.ld x7 (Rect.unit (s := S2x512) ![1, 0] S1x512.size inb_S2x512_S1x512_1_0)
  let v489 := View.ld x8 (Rect.unit (s := S2x128x512) ![1, 0, 0] S1x128x512.size inb_S2x128x512_S1x128x512_1_0_0)
  let v492 := View.ld x9 (Rect.unit (s := S2x128) ![1, 0] S1x128.size inb_S2x128_S1x128_1_0)
  let v469 := View.ld x10 (Rect.unit (s := S2x128) ![1, 0] S1x128.size inb_S2x128_S1x128_1_0)
  let v474 := View.ld x11 (Rect.unit (s := S2x128) ![1, 0] S1x128.size inb_S2x128_S1x128_1_0)
  let v516 := View.ld x12 (Rect.unit (s := S2x128) ![1, 0] S1x128.size inb_S2x128_S1x128_1_0)
  let v521 := View.ld x13 (Rect.unit (s := S2x128) ![1, 0] S1x128.size inb_S2x128_S1x128_1_0)
  let v1 := k0_pay1 v0
  let v20 := k0_pay6 v2
  let v21 := k0_pay7 v1
  let v31 := k0_pay9 v1 v22 v25
  let v33 := k0_pay10 v1 v22 v25
  let v35 := k0_pay11 v1 v22 v25
  let v54 := k0_pay12 v1 v2 v22 v25
  let v57 := k0_pay13 v1 v22 v25
  let v60 := k0_pay14 v1 v22 v25
  let v61 := k0_pay15 v2
  let v73 := k0_pay16 v57 v60 v61
  let v92 := k0_pay17 v20 v31 v33 v35
  let v95 := k0_pay18 v35
  let v106 := k0_pay19 v20 v31 v33
  let v109 := k0_pay20 v20 v31 v33
  let v111 := k0_pay21 v95 v106 v109
  let v130 := k0_pay22 v20 v31 v33 v35
  let v149 := k0_pay23 v20 v31 v33 v35
  let v152 := k0_pay24 v35
  let v155 := k0_pay25 v31 v33
  let v156 := k0_pay26 v20
  let v198 := k0_pay27 v20 v21 v31 v33 v35 v54 v73 v92 v111 v130 v149 v152 v155 v156 v190 v193
  let v200 := k0_pay28 v20 v21 v31 v33 v35 v54 v73 v92 v111 v130 v149 v152 v155 v156 v190 v193
  let v226 := k0_pay29 v198 v200 (Scalar.ofBits .f32 0x43000000#32) v217 v222
  let v239 := k0_pay30 v198 v200 (Scalar.ofBits .f32 0x43000000#32) v217 v222 v227 v230 v237
  let v273 := k0_pay31 v226 v239 v240 v264 v269
  let v281 := k0_pay32 v226 v239 v240 v264 v269 v274 v277
  let v283 := k0_pay33 v226 v239 v240 v264 v269 v274 v277
  let v285 := k0_pay34 v226 v239 v240 v264 v269 v274 v277
  let v287 := k0_pay35 v281
  let v306 := k0_pay36 v20 v281 v283 v285
  let v325 := k0_pay37 v20 v281 v283 v285
  let v328 := k0_pay38 v281
  let v331 := k0_pay39 v283 v285
  let v333 := k0_pay40 v20
  let v344 := k0_pay41 v328 v331 v333
  let v363 := k0_pay42 v20 v283 v285 v287
  let v366 := k0_pay43 v287
  let v381 := k0_pay44 v20 v283 v285
  let v382 := k0_pay45 v366 v381
  let v401 := k0_pay46 v20 v283 v285 v287
  let v420 := k0_pay47 v20 v283 v285 v287
  let v423 := k0_pay48 v287
  let v426 := k0_pay49 v283 v285
  let v428 := k0_pay50 v20
  let v468 := k0_pay51 v273 v306 v325 v344 v363 v382 v401 v420 v423 v426 v428 v442 v445
  let v472 := k0_pay52 v469
  let v510 := k0_pay55 v468 v472 v474 v479 v482 v489 v492
  let v512 := k0_pay56 v468 v472 v474 v479 v482 v489 v492
  k0_pay5 v0 v2 v510 v512 v516 v521 v526

/-- The block the body leaves: zeros where the mask's block sums to zero, the encoder's elsewhere. -/
def outBlock (x0 : Vec Ideal S32x56x128 .f32) (x1 : Vec Ideal S32x56 .f32) (x2 : Vec Ideal S2x384x128 .f32) (x3 : Vec Ideal S2x384 .f32) (x4 : Vec Ideal S2x128x128 .f32) (x5 : Vec Ideal S2x128 .f32) (x6 : Vec Ideal S2x512x128 .f32) (x7 : Vec Ideal S2x512 .f32) (x8 : Vec Ideal S2x128x512 .f32) (x9 : Vec Ideal S2x128 .f32) (x10 : Vec Ideal S2x128 .f32) (x11 : Vec Ideal S2x128 .f32) (x12 : Vec Ideal S2x128 .f32) (x13 : Vec Ideal S2x128 .f32) (x14 : Vec Ideal S1x1 .f32) : Vec Ideal S32x56x128 .f32 :=
  open Classical in
  if k0_pay2 (View.ld x1 (Rect.unit (s := S32x56) ![0, 0] S32x56.size inb_S32x56_S32x56_0_0)) = (0 : EReal) then (k0_pay3 (F := Ideal)) else encBlock x0 x1 x2 x3 x4 x5 x6 x7 x8 x9 x10 x11 x12 x13 x14

theorem outBlock_zero (x0 : Vec Ideal S32x56x128 .f32) (x1 : Vec Ideal S32x56 .f32) (x2 : Vec Ideal S2x384x128 .f32) (x3 : Vec Ideal S2x384 .f32) (x4 : Vec Ideal S2x128x128 .f32) (x5 : Vec Ideal S2x128 .f32) (x6 : Vec Ideal S2x512x128 .f32) (x7 : Vec Ideal S2x512 .f32) (x8 : Vec Ideal S2x128x512 .f32) (x9 : Vec Ideal S2x128 .f32) (x10 : Vec Ideal S2x128 .f32) (x11 : Vec Ideal S2x128 .f32) (x12 : Vec Ideal S2x128 .f32) (x13 : Vec Ideal S2x128 .f32) (x14 : Vec Ideal S1x1 .f32)
    (h : k0_pay2 (View.ld x1 (Rect.unit (s := S32x56) ![0, 0] S32x56.size inb_S32x56_S32x56_0_0)) = (0 : EReal)) : outBlock x0 x1 x2 x3 x4 x5 x6 x7 x8 x9 x10 x11 x12 x13 x14 = k0_pay3 (F := Ideal) := if_pos h

theorem outBlock_enc (x0 : Vec Ideal S32x56x128 .f32) (x1 : Vec Ideal S32x56 .f32) (x2 : Vec Ideal S2x384x128 .f32) (x3 : Vec Ideal S2x384 .f32) (x4 : Vec Ideal S2x128x128 .f32) (x5 : Vec Ideal S2x128 .f32) (x6 : Vec Ideal S2x512x128 .f32) (x7 : Vec Ideal S2x512 .f32) (x8 : Vec Ideal S2x128x512 .f32) (x9 : Vec Ideal S2x128 .f32) (x10 : Vec Ideal S2x128 .f32) (x11 : Vec Ideal S2x128 .f32) (x12 : Vec Ideal S2x128 .f32) (x13 : Vec Ideal S2x128 .f32) (x14 : Vec Ideal S1x1 .f32)
    (h : ¬k0_pay2 (View.ld x1 (Rect.unit (s := S32x56) ![0, 0] S32x56.size inb_S32x56_S32x56_0_0)) = (0 : EReal)) : outBlock x0 x1 x2 x3 x4 x5 x6 x7 x8 x9 x10 x11 x12 x13 x14 = encBlock x0 x1 x2 x3 x4 x5 x6 x7 x8 x9 x10 x11 x12 x13 x14 := if_neg h

end Cert.KernelIdeal.Encoder

end
-- ==== Proof.IdealFrame.lean ====
/- The idealized program's launch: the body's triple with the value of the block it leaves, the launch over the grid,
   and the frame. Over the extended reals the body's two conditions are each other's negation, so every block is written. -/
module

public import proofs.«01_k».proof.Proof.Gen.KernelIdeal.Skeleton
public import proofs.«01_k».proof.Proof.Gen.KernelIdeal.Frame
public import Idealize.ShloMosaic.Lib.Claim
public import proofs.«01_k».proof.Proof.Block
public import Idealize.ShloMosaic.PureOps.Ideal.Laws
public import Idealize.ShloMosaic.Lib.Pipeline.Value

@[expose] public section

set_option maxRecDepth 16384

noncomputable section

namespace Cert.KernelIdeal.Encoder

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The word of the comparison that guards the zero block is one just when the sum is zero. -/
theorem cond_eq_iff (a : Ideal .f32) :
    Scalar.cmpi .ne (Scalar.extui (Scalar.cmpf .oeq a (Scalar.ofBits .f32 0x00000000#32) : BitVec 1) : BitVec 32) 0#32 = 1#1 ↔ a = 0 := by
  have hz : (Scalar.ofBits .f32 0x00000000#32 : Ideal .f32) = 0 := Ideal.ofBits_zero_f32
  rw [hz, Ideal.scalar_cmpf_def]
  by_cases h : a = 0 <;> simp [Ideal.cmp, h, Scalar.cmpi, Scalar.extui, IntOp.cmpi]

/-- The word of the comparison that guards the encoder is one just when the sum is not zero. -/
theorem cond_ne_iff (a : Ideal .f32) :
    Scalar.cmpi .ne (Scalar.extui (Scalar.cmpf .one a (Scalar.ofBits .f32 0x00000000#32) : BitVec 1) : BitVec 32) 0#32 = 1#1 ↔ a ≠ 0 := by
  have hz : (Scalar.ofBits .f32 0x00000000#32 : Ideal .f32) = 0 := Ideal.ofBits_zero_f32
  rw [hz, Ideal.scalar_cmpf_def]
  by_cases h : a = 0 <;> simp [Ideal.cmp, h, Scalar.cmpi, Scalar.extui, IntOp.cmpi]

/-- The one store of either branch covers the output's block. -/
theorem cover_out (p : S32x56x128.Idx → Elt Ideal .f32) :
    ∀ y : S32x56x128.Idx, ∃ pc ∈ ([⟨Rect.unit (s := S32x56x128) ![0, 0, 0] S32x56x128.size inb_S32x56x128_S32x56x128_0_0_0, p⟩] :
      List (View.Piece (Elt Ideal) S32x56x128 .f32)), y ∈ pc.1.set :=
  fun y => View.cover_of_tiled _ S32x56x128.size (by rfl) y

set_option maxHeartbeats 46837450 in
/-- The body on whole blocks: the inputs' are left as they were, the output's is left at `outBlock` of them, whichever of the
    two branches the sum of the mask's block takes. -/
theorem body_run (c : Dev nD) (E : Set ℕ) (i : grid0.Coords) (arg1 : Memref sig .tc .vmem S32x56x128 .f32) (harg1 : arg1.IsWhole) (arg2 : Memref sig .tc .vmem S32x56 .f32) (harg2 : arg2.IsWhole) (arg3 : Memref sig .tc .vmem S2x384x128 .f32) (harg3 : arg3.IsWhole) (arg4 : Memref sig .tc .vmem S2x384 .f32) (harg4 : arg4.IsWhole) (arg5 : Memref sig .tc .vmem S2x128x128 .f32) (harg5 : arg5.IsWhole) (arg6 : Memref sig .tc .vmem S2x128 .f32) (harg6 : arg6.IsWhole) (arg7 : Memref sig .tc .vmem S2x512x128 .f32) (harg7 : arg7.IsWhole) (arg8 : Memref sig .tc .vmem S2x512 .f32) (harg8 : arg8.IsWhole) (arg9 : Memref sig .tc .vmem S2x128x512 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128 .f32) (harg12 : arg12.IsWhole) (arg13 : Memref sig .tc .vmem S2x128 .f32) (harg13 : arg13.IsWhole) (arg14 : Memref sig .tc .vmem S2x128 .f32) (harg14 : arg14.IsWhole) (arg15 : Memref sig .tc .vmem S1x1 .f32) (harg15 : arg15.IsWhole) (arg16 : Memref sig .tc .vmem S32x56x128 .f32) (harg16 : arg16.IsWhole)
    (x0 : Vec Ideal S32x56x128 .f32) (x1 : Vec Ideal S32x56 .f32) (x2 : Vec Ideal S2x384x128 .f32) (x3 : Vec Ideal S2x384 .f32) (x4 : Vec Ideal S2x128x128 .f32) (x5 : Vec Ideal S2x128 .f32) (x6 : Vec Ideal S2x512x128 .f32) (x7 : Vec Ideal S2x512 .f32) (x8 : Vec Ideal S2x128x512 .f32) (x9 : Vec Ideal S2x128 .f32) (x10 : Vec Ideal S2x128 .f32) (x11 : Vec Ideal S2x128 .f32) (x12 : Vec Ideal S2x128 .f32) (x13 : Vec Ideal S2x128 .f32) (x14 : Vec Ideal S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (outBlock x0 x1 x2 x3 x4 x5 x6 x7 x8 x9 x10 x11 x12 x13 x14)) -∗ K ⟨⟩))
      ⊢ wp frame (wpE (defs₀ (F := Ideal)) Variants.none c none) E (cc0__encoder_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__encoder_kernel_eq_skeleton]; unfold cc0__encoder_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  by_cases h0 : k0_pay2 (View.readAt (Elt Ideal) arg2.view (Rect.unit (s := S32x56) ![0, 0] S32x56.size inb_S32x56_S32x56_0_0).toLoadRect f1) = (0 : EReal)
  · have h1 : Scalar.cmpi .ne (Scalar.extui (Scalar.cmpf .oeq (k0_pay2 (View.readAt (Elt Ideal) arg2.view (Rect.unit (s := S32x56) ![0, 0] S32x56.size inb_S32x56_S32x56_0_0).toLoadRect f1)) (Scalar.ofBits .f32 0x00000000#32) : BitVec 1) : BitVec 32) 0#32 = 1#1 := (cond_eq_iff _).2 h0
    have h2 : ¬(Scalar.cmpi .ne (Scalar.extui (Scalar.cmpf .one (k0_pay4 (View.readAt (Elt Ideal) arg2.view (Rect.unit (s := S32x56) ![0, 0] S32x56.size inb_S32x56_S32x56_0_0).toLoadRect f1)) (Scalar.ofBits .f32 0x00000000#32) : BitVec 1) : BitVec 32) 0#32 = 1#1) := fun h => (cond_ne_iff _).1 h h0
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    iexists _; isplitr
    swap; · iexact H15
    ipureintro
    refine Eq.trans ?_ (outBlock_zero _ _ _ _ _ _ _ _ _ _ _ _ _ _ _ h0).symm
    refine (View.read_writes_eq_canon _ _ _ (cover_out _)).trans ?_
    exact View.canon_unit_zero (by decide) _ _
  · have h1 : ¬(Scalar.cmpi .ne (Scalar.extui (Scalar.cmpf .oeq (k0_pay2 (View.readAt (Elt Ideal) arg2.view (Rect.unit (s := S32x56) ![0, 0] S32x56.size inb_S32x56_S32x56_0_0).toLoadRect f1)) (Scalar.ofBits .f32 0x00000000#32) : BitVec 1) : BitVec 32) 0#32 = 1#1) := fun h => h0 ((cond_eq_iff _).1 h)
    have h2 : Scalar.cmpi .ne (Scalar.extui (Scalar.cmpf .one (k0_pay4 (View.readAt (Elt Ideal) arg2.view (Rect.unit (s := S32x56) ![0, 0] S32x56.size inb_S32x56_S32x56_0_0).toLoadRect f1)) (Scalar.ofBits .f32 0x00000000#32) : BitVec 1) : BitVec 32) 0#32 = 1#1 := (cond_ne_iff _).2 h0
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    iexists _; isplitr
    swap; · iexact H15
    ipureintro
    refine Eq.trans ?_ (outBlock_enc _ _ _ _ _ _ _ _ _ _ _ _ _ _ _ h0).symm
    refine (View.read_writes_eq_canon _ _ _ (cover_out _)).trans ?_
    exact View.canon_unit_zero (by decide) _ _

/-! ## The launch -/

/-- The proof data on core `c`: the arrays as the region finds them; after the body each input's block in place and the output's at `outBlock` of the inputs'. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The body at any point: the inputs' memrefs hold their blocks, so `body_run` applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_run c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The body obligation at every point: `sound_body` restated. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

-- the lemma's implicit arguments are found by unifying its conclusion with the statement
set_option backward.isDefEq.respectTransparency.types false in
set_option maxHeartbeats 800000 in
/-- Every execution ends, with each array of the pipeline at what the proof data says and every counter at zero. -/
theorem run_main :
    θ_run defs (onTc (τ := τ) (main (F := Ideal))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments are left as they were. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) ((θ_run defs _ _).mono (fun _ h => h.1) (run_main m ρ))

/-- Every execution ends, with the arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main m ρ))

end Cert.KernelIdeal.Encoder

end
-- ==== Proof.Spec.lean ====
/- The encoder as mathematics: what one sequence of 56 rows of 128 numbers becomes, over the extended reals. -/
module

public import Idealize.ShloMosaic.PureOps.Ideal
public import Idealize.ShloMosaic.Lib.Pointwise

@[expose] public section

noncomputable section

namespace Cert.Enc

open Idealize.ShloMosaic

/-- A matrix of extended reals. -/
abbrev Mat (a b : ℕ) : Type := Fin a → Fin b → EReal

/-- The number of columns a row's mean divides by, 128. -/
def width : EReal := Ideal.ofBits .f32 0x43000000#32

/-- What is added to a variance before its root is taken. -/
def eps : EReal := Ideal.ofBits .f32 0x3727C5AC#32

/-- What is added to a row's norm before the row is divided by it. -/
def tiny : EReal := Ideal.ofBits .f32 0x29E12E13#32

/-- The scale of the scores, one fourth. -/
def quarter : EReal := Ideal.ofBits .f32 0x3E800000#32

/-- What a masked key's score is lowered by. -/
def lowered : EReal := Ideal.ofBits .f32 0xCE6E6B28#32

/-- A linear map of the rows with a bias: `X Wᵀ + b`. -/
def lin {s K N : ℕ} (X : Mat s K) (W : Mat N K) (b : Fin N → EReal) : Mat s N :=
  fun i j => (∑ k, X i k * W j k) + b j

/-- The greatest entry of a row. -/
def rowMax {n : ℕ} (f : Fin n → EReal) : EReal := Finset.univ.fold max ⊥ f

/-- The softmax of a row, its greatest entry subtracted first. -/
def soft {n : ℕ} (f : Fin n → EReal) : Fin n → EReal :=
  fun j => Ideal.div (Ideal.exp (f j - rowMax f)) (∑ k, Ideal.exp (f k - rowMax f))

/-- Column `d` of head `h` among the 128 columns. -/
def col (h : Fin 8) (d : Fin 16) : Fin 128 := ⟨16 * h + d, by omega⟩

/-- The scores of head `h`: products of the queries with the keys over four, and the keys' bias. -/
def score (Q K : Mat 56 128) (bias : Fin 56 → EReal) (h : Fin 8) : Mat 56 56 :=
  fun i j => (∑ d : Fin 16, Q i (col h d) * K j (col h d)) * quarter + bias j

/-- What head `h` makes of the values: their means weighted by the softmax of the scores. -/
def head (Q K V : Mat 56 128) (bias : Fin 56 → EReal) (h : Fin 8) : Mat 56 16 :=
  fun i d => ∑ j, soft (score Q K bias h i) j * V j (col h d)

/-- The eight heads side by side. -/
def attend (Q K V : Mat 56 128) (bias : Fin 56 → EReal) : Mat 56 128 :=
  fun i e => head Q K V bias ⟨e / 16, by omega⟩ i ⟨e % 16, by omega⟩

/-- The mean of a row. -/
def mean (f : Fin 128 → EReal) : EReal := Ideal.div (∑ k, f k) width

/-- The mean square distance of a row from its mean. -/
def var (f : Fin 128 → EReal) : EReal := mean fun k => (f k - mean f) * (f k - mean f)

/-- A row normalised to mean zero and variance one, then scaled and shifted. -/
def norm (f g b : Fin 128 → EReal) : Fin 128 → EReal :=
  fun e => (f e - mean f) * Ideal.rsqrt (var f + eps) * g e + b e

/-- One layer's weights. -/
structure Weights where
  Wqkv : Mat 384 128
  bqkv : Fin 384 → EReal
  Wo : Mat 128 128
  bo : Fin 128 → EReal
  W1 : Mat 512 128
  b1 : Fin 512 → EReal
  W2 : Mat 128 512
  b2 : Fin 128 → EReal
  g1 : Fin 128 → EReal
  n1 : Fin 128 → EReal
  g2 : Fin 128 → EReal
  n2 : Fin 128 → EReal

/-- The queries, keys and values: columns `o` to `o + 127` of the 384. -/
def part (Y : Mat 56 384) (o : ℕ) (ho : o + 128 ≤ 384) : Mat 56 128 := fun i e => Y i ⟨o + e, by omega⟩

/-- The attention of one layer, before the residual is added. -/
def attn (X : Mat 56 128) (bias : Fin 56 → EReal) (w : Weights) : Mat 56 128 :=
  let Y := lin X w.Wqkv w.bqkv
  lin (attend (part Y 0 (by omega)) (part Y 128 (by omega)) (part Y 256 (by omega)) bias) w.Wo w.bo

/-- The feed-forward map of one layer, before the residual is added. -/
def feed (X : Mat 56 128) (w : Weights) : Mat 56 128 :=
  lin (fun i j => max (lin X w.W1 w.b1 i j) 0) w.W2 w.b2

/-- The first half of a layer: attention, residual, normalisation. -/
def half (X : Mat 56 128) (bias : Fin 56 → EReal) (w : Weights) : Mat 56 128 :=
  fun i => norm (fun e => X i e + attn X bias w i e) w.g1 w.n1

/-- One layer of the encoder. -/
def layer (X : Mat 56 128) (bias : Fin 56 → EReal) (w : Weights) : Mat 56 128 :=
  fun i => norm (fun e => half X bias w i e + feed (half X bias w) w i e) w.g2 w.n2

/-- What the mask adds to the scores of each key. -/
def maskBias (mask : Fin 56 → EReal) : Fin 56 → EReal := fun j => (1 - mask j) * lowered

/-- The two layers of the encoder. -/
def encode (X : Mat 56 128) (mask : Fin 56 → EReal) (w0 w1 : Weights) : Mat 56 128 :=
  layer (layer X (maskBias mask) w0) (maskBias mask) w1

/-- The sequence mixed with its encoding, the masked rows zero. -/
def mixed (X : Mat 56 128) (mask : Fin 56 → EReal) (mixer : EReal) (w0 w1 : Weights) : Mat 56 128 :=
  fun i e => (mixer * X i e + (1 - mixer) * encode X mask w0 w1 i e) * mask i

/-- A row divided by its norm. -/
def unit (f : Fin 128 → EReal) : Fin 128 → EReal :=
  fun e => Ideal.div (f e) (Ideal.sqrt (∑ k, f k * f k) + tiny)

/-- What one sequence becomes. -/
def contextualized (X : Mat 56 128) (mask : Fin 56 → EReal) (mixer : EReal) (w0 w1 : Weights) : Mat 56 128 :=
  fun i => unit (mixed X mask mixer w0 w1 i)

/-- The weights of layer `l` among the stacked arrays. -/
def layerWeights (Wqkv : FVec Ideal ⟨3, ![2, 384, 128]⟩ .f32)
    (bqkv : FVec Ideal ⟨2, ![2, 384]⟩ .f32)
    (Wo : FVec Ideal ⟨3, ![2, 128, 128]⟩ .f32)
    (bo : FVec Ideal ⟨2, ![2, 128]⟩ .f32)
    (W1 : FVec Ideal ⟨3, ![2, 512, 128]⟩ .f32)
    (b1 : FVec Ideal ⟨2, ![2, 512]⟩ .f32)
    (W2 : FVec Ideal ⟨3, ![2, 128, 512]⟩ .f32)
    (b2 : FVec Ideal ⟨2, ![2, 128]⟩ .f32)
    (g1 : FVec Ideal ⟨2, ![2, 128]⟩ .f32)
    (n1 : FVec Ideal ⟨2, ![2, 128]⟩ .f32)
    (g2 : FVec Ideal ⟨2, ![2, 128]⟩ .f32)
    (n2 : FVec Ideal ⟨2, ![2, 128]⟩ .f32) (l : Fin 2) : Weights where
  Wqkv j k := Wqkv (ix3 l j k)
  bqkv j := bqkv (ix2 l j)
  Wo j k := Wo (ix3 l j k)
  bo j := bo (ix2 l j)
  W1 j k := W1 (ix3 l j k)
  b1 j := b1 (ix2 l j)
  W2 j k := W2 (ix3 l j k)
  b2 j := b2 (ix2 l j)
  g1 j := g1 (ix2 l j)
  n1 j := n1 (ix2 l j)
  g2 j := g2 (ix2 l j)
  n2 j := n2 (ix2 l j)

/-- The whole array of contextualized sequences, from the arrays of sequences, masks and weights. -/
def Encoded (x : FVec Ideal ⟨3, ![1632, 56, 128]⟩ .f32) (mask : FVec Ideal ⟨2, ![1632, 56]⟩ .f32) (mixer : FVec Ideal ⟨1, ![1]⟩ .f32)
    (Wqkv : FVec Ideal ⟨3, ![2, 384, 128]⟩ .f32)
    (bqkv : FVec Ideal ⟨2, ![2, 384]⟩ .f32)
    (Wo : FVec Ideal ⟨3, ![2, 128, 128]⟩ .f32)
    (bo : FVec Ideal ⟨2, ![2, 128]⟩ .f32)
    (W1 : FVec Ideal ⟨3, ![2, 512, 128]⟩ .f32)
    (b1 : FVec Ideal ⟨2, ![2, 512]⟩ .f32)
    (W2 : FVec Ideal ⟨3, ![2, 128, 512]⟩ .f32)
    (b2 : FVec Ideal ⟨2, ![2, 128]⟩ .f32)
    (g1 : FVec Ideal ⟨2, ![2, 128]⟩ .f32)
    (n1 : FVec Ideal ⟨2, ![2, 128]⟩ .f32)
    (g2 : FVec Ideal ⟨2, ![2, 128]⟩ .f32)
    (n2 : FVec Ideal ⟨2, ![2, 128]⟩ .f32) : FVec Ideal ⟨3, ![1632, 56, 128]⟩ .f32 := fun j =>
  contextualized (fun i e => x (ix3 (j 0) i e) * mask (ix2 (j 0) i)) (fun i => mask (ix2 (j 0) i)) (mixer (ix1 0))
    (layerWeights Wqkv bqkv Wo bo W1 b1 W2 b2 g1 n1 g2 n2 0) (layerWeights Wqkv bqkv Wo bo W1 b1 W2 b2 g1 n1 g2 n2 1) (j 1) (j 2)

end Cert.Enc

end
-- ==== Proof.BlockOps.lean ====
/- The pieces of a block's computation, each read at an index: the 32 sequences of a block lie one after another as
   1792 rows, and each piece treats every sequence by itself. -/
module

public import proofs.«01_k».proof.Proof.Gen.KernelIdeal.Frame
public import proofs.«01_k».proof.Proof.Spec
public import Idealize.ShloMosaic.Lib.Pointwise
public import Idealize.ShloMosaic.Lib.IdealHost

@[expose] public section

set_option maxRecDepth 16384

noncomputable section

namespace Cert.KernelIdeal.Encoder

open Cert.KernelIdeal Cert.KernelIdeal.Gen
open Idealize.ShloMosaic Cert.Enc

/-! ## The pieces -/

/-- A linear map of the rows to 384 columns. -/
def kLin384 (x : FVec Ideal S1792x128 .f32) (W : FVec Ideal S1x384x128 .f32) (b : FVec Ideal S1x384 .f32) : FVec Ideal S1792x384 .f32 :=
  addf (matmul dot_S1792x128_S384x128_S1792x384_1_1_0_0_n_n none x (shapeCast S384x128 W shapeCasts_S1x384x128_S384x128)
      (constant S1792x384 .f32 0x00000000#32))
    (broadcastTo S1792x384 (shapeCast S1x384 (shapeCast S384 b shapeCasts_S1x384_S384) shapeCasts_S384_S1x384) broadcasts_S1x384_S1792x384)

/-- A row of 128 numbers under each of the rows. -/
def kRow128 (b : FVec Ideal S1x128 .f32) : FVec Ideal S1792x128 .f32 :=
  broadcastTo S1792x128 (shapeCast S1x128 (shapeCast S128 b shapeCasts_S1x128_S128) shapeCasts_S128_S1x128) broadcasts_S1x128_S1792x128

/-- A linear map of the rows to 128 columns. -/
def kLin128 (x : FVec Ideal S1792x128 .f32) (W : FVec Ideal S1x128x128 .f32) (b : FVec Ideal S1x128 .f32) : FVec Ideal S1792x128 .f32 :=
  addf (matmul dot_S1792x128_S128x128_S1792x128_1_1_0_0_n_n none x (shapeCast S128x128 W shapeCasts_S1x128x128_S128x128)
      (constant S1792x128 .f32 0x00000000#32)) (kRow128 b)

/-- The feed-forward map of the rows. -/
def kFeed (x : FVec Ideal S1792x128 .f32) (W1 : FVec Ideal S1x512x128 .f32) (b1 : FVec Ideal S1x512 .f32)
    (W2 : FVec Ideal S1x128x512 .f32) (b2 : FVec Ideal S1x128 .f32) : FVec Ideal S1792x128 .f32 :=
  addf (matmul dot_S1792x512_S128x512_S1792x128_1_1_0_0_n_n none
      (maximumf (addf (matmul dot_S1792x128_S512x128_S1792x512_1_1_0_0_n_n none x
            (shapeCast S512x128 W1 shapeCasts_S1x512x128_S512x128) (constant S1792x512 .f32 0x00000000#32))
          (broadcastTo S1792x512 (shapeCast S1x512 (shapeCast S512 b1 shapeCasts_S1x512_S512) shapeCasts_S512_S1x512) broadcasts_S1x512_S1792x512))
        (broadcast S1792x512 (Scalar.ofBits .f32 0x00000000#32)))
      (shapeCast S128x512 W2 shapeCasts_S1x128x512_S128x512) (constant S1792x128 .f32 0x00000000#32)) (kRow128 b2)

/-- The mean of each row. -/
def kMean (x : FVec Ideal S1792x128 .f32) : FVec Ideal S1792x1 .f32 :=
  divf (shapeCast S1792x1 (multiReduction .add [1] S1792 x 0x00000000#32 reduces_S1792x128_S1792 (.inl rfl) rfl) shapeCasts_S1792_S1792x1)
    (broadcast S1792x1 (Scalar.ofBits .f32 0x43000000#32))

/-- Each row less its mean. -/
def kCentred (x : FVec Ideal S1792x128 .f32) : FVec Ideal S1792x128 .f32 :=
  subf x (broadcastTo S1792x128 (kMean x) broadcasts_S1792x1_S1792x128)

/-- Each row normalised, scaled and shifted. -/
def kNorm (x : FVec Ideal S1792x128 .f32) (g b : FVec Ideal S1x128 .f32) : FVec Ideal S1792x128 .f32 :=
  addf (mulf (mulf (kCentred x) (broadcastTo S1792x128
      (rsqrt (addf (kMean (mulf (kCentred x) (kCentred x))) (broadcast S1792x1 (Scalar.ofBits .f32 0x3727C5AC#32))))
      broadcasts_S1792x1_S1792x128)) (kRow128 g)) (kRow128 b)

/-- The scores of one head, from the head's queries and keys and the bias. -/
def kScore (bias : FVec Ideal S32x56 .f32) (q k : FVec Ideal S32x56x16 .f32) : FVec Ideal S32x56x56 .f32 :=
  addf (mulf (matmul dot_S32x56x16_S32x56x16_S32x56x56_2_2_1_1_0_0 none q k (constant S32x56x56 .f32 0x00000000#32))
      (broadcast S32x56x56 (Scalar.ofBits .f32 0x3E800000#32)))
    (broadcastTo S32x56x56 (shapeCast S32x1x56 bias shapeCasts_S32x56_S32x1x56) broadcasts_S32x1x56_S32x56x56)

/-- The weighted means one head takes of its values, from the scores. -/
def kSoftmaxV (s : FVec Ideal S32x56x56 .f32) (v : FVec Ideal S32x56x16 .f32) : FVec Ideal S32x56x16 .f32 :=
  let e := exp (subf s (broadcastTo S32x56x56 (shapeCast S32x56x1
    (multiReduction .maximumf [2] S32x56 s 0xFF800000#32 reduces_S32x56x56_S32x56 (.inl rfl) rfl)
    shapeCasts_S32x56_S32x56x1) broadcasts_S32x56x1_S32x56x56))
  matmul dot_S32x56x56_S32x56x16_S32x56x16_2_1_1_2_0_0 none
    (divf e (broadcastTo S32x56x56 (shapeCast S32x56x1
      (multiReduction .add [2] S32x56 e 0x00000000#32 reduces_S32x56x56_S32x56 (.inl rfl) rfl)
      shapeCasts_S32x56_S32x56x1) broadcasts_S32x56x1_S32x56x56))
    v (constant S32x56x16 .f32 0x00000000#32)

/-- One head: its sixteen columns of the queries, keys and values cut out. -/
def kHead (o : ℕ) (hs : S32x56x128.Slices ![0, 0, o] S32x56x16) (bias : FVec Ideal S32x56 .f32)
    (q k v : FVec Ideal S32x56x128 .f32) : FVec Ideal S32x56x16 .f32 :=
  kSoftmaxV (kScore bias (extractStridedSlice S32x56x16 ![0, 0, o] q hs) (extractStridedSlice S32x56x16 ![0, 0, o] k hs))
    (extractStridedSlice S32x56x16 ![0, 0, o] v hs)

/-- The eight heads side by side, as rows. -/
def kAttend (bias : FVec Ideal S32x56 .f32) (q k v : FVec Ideal S32x56x128 .f32) : FVec Ideal S1792x128 .f32 :=
  shapeCast S1792x128 (concatenate S32x56x128 2
    [⟨S32x56x16, kHead 0 slices_S32x56x128_o0_0_0_S32x56x16 bias q k v⟩, ⟨S32x56x16, kHead 16 slices_S32x56x128_o0_0_16_S32x56x16 bias q k v⟩,
     ⟨S32x56x16, kHead 32 slices_S32x56x128_o0_0_32_S32x56x16 bias q k v⟩, ⟨S32x56x16, kHead 48 slices_S32x56x128_o0_0_48_S32x56x16 bias q k v⟩,
     ⟨S32x56x16, kHead 64 slices_S32x56x128_o0_0_64_S32x56x16 bias q k v⟩, ⟨S32x56x16, kHead 80 slices_S32x56x128_o0_0_80_S32x56x16 bias q k v⟩,
     ⟨S32x56x16, kHead 96 slices_S32x56x128_o0_0_96_S32x56x16 bias q k v⟩, ⟨S32x56x16, kHead 112 slices_S32x56x128_o0_0_112_S32x56x16 bias q k v⟩]
    concatenates_S32x56x16_S32x56x16_S32x56x16_S32x56x16_S32x56x16_S32x56x16_S32x56x16_S32x56x16_S32x56x128_d2) shapeCasts_S32x56x128_S1792x128

/-- The queries, the keys or the values among the 384 columns, as sequences. -/
def kPart (o : ℕ) (hs : S1792x384.Slices ![0, o] S1792x128) (y : FVec Ideal S1792x384 .f32) : FVec Ideal S32x56x128 .f32 :=
  shapeCast S32x56x128 (extractStridedSlice S1792x128 ![0, o] y hs) shapeCasts_S1792x128_S32x56x128

/-- The attention of one layer. -/
def kAttn (x : FVec Ideal S1792x128 .f32) (bias : FVec Ideal S32x56 .f32) (Wqkv : FVec Ideal S1x384x128 .f32) (bqkv : FVec Ideal S1x384 .f32)
    (Wo : FVec Ideal S1x128x128 .f32) (bo : FVec Ideal S1x128 .f32) : FVec Ideal S1792x128 .f32 :=
  let y := kLin384 x Wqkv bqkv
  kLin128 (kAttend bias (kPart 0 slices_S1792x384_o0_0_S1792x128 y) (kPart 128 slices_S1792x384_o0_128_S1792x128 y)
    (kPart 256 slices_S1792x384_o0_256_S1792x128 y)) Wo bo

/-- The first half of a layer. -/
def kHalf (x : FVec Ideal S1792x128 .f32) (bias : FVec Ideal S32x56 .f32) (Wqkv : FVec Ideal S1x384x128 .f32) (bqkv : FVec Ideal S1x384 .f32)
    (Wo : FVec Ideal S1x128x128 .f32) (bo g1 n1 : FVec Ideal S1x128 .f32) : FVec Ideal S1792x128 .f32 :=
  kNorm (addf x (kAttn x bias Wqkv bqkv Wo bo)) g1 n1

/-- The second half of a layer. -/
def kRest (x : FVec Ideal S1792x128 .f32) (W1 : FVec Ideal S1x512x128 .f32) (b1 : FVec Ideal S1x512 .f32)
    (W2 : FVec Ideal S1x128x512 .f32) (b2 g2 n2 : FVec Ideal S1x128 .f32) : FVec Ideal S1792x128 .f32 :=
  kNorm (addf x (kFeed x W1 b1 W2 b2)) g2 n2

/-- The mix of the sequences with their encoding, the masked rows zero. -/
def kMixed (x0 : FVec Ideal S32x56x128 .f32) (mask : FVec Ideal S32x56 .f32) (mixer : FVec Ideal S1x1 .f32) (y : FVec Ideal S1792x128 .f32) :
    FVec Ideal S32x56x128 .f32 :=
  mulf (shapeCast S32x56x128 (addf
      (mulf (broadcast S1792x128 (extractAt ![0, 0] mixer inpos_S1x1_p0_0))
        (shapeCast S1792x128 (shapeCast S32x56x128 x0 shapeCasts_S32x56x128_S32x56x128) shapeCasts_S32x56x128_S1792x128))
      (mulf (broadcast S1792x128 (Scalar.subf (Scalar.ofBits .f32 0x3F800000#32) (extractAt ![0, 0] mixer inpos_S1x1_p0_0))) y))
      shapeCasts_S1792x128_S32x56x128)
    (broadcastTo S32x56x128 (shapeCast S32x56x1 mask shapeCasts_S32x56_S32x56x1) broadcasts_S32x56x1_S32x56x128)

/-- Each row divided by its norm. -/
def kUnit (z : FVec Ideal S32x56x128 .f32) : FVec Ideal S32x56x128 .f32 :=
  divf z (broadcastTo S32x56x128 (addf (sqrt (shapeCast S32x56x1
      (multiReduction .add [2] S32x56 (mulf z z) 0x00000000#32 reduces_S32x56x128_S32x56 (.inl rfl) rfl) shapeCasts_S32x56_S32x56x1))
    (broadcast S32x56x1 (Scalar.ofBits .f32 0x29E12E13#32))) broadcasts_S32x56x1_S32x56x128)

/-! ## The pieces at an index -/

/-- Row `i` of sequence `n` among the 1792 rows. -/
def row (n : Fin 32) (i : Fin 56) : Fin 1792 := ⟨n * 56 + i, by omega⟩

/-- Sequence `n` of the rows. -/
def rows {N : ℕ} (x : FVec Ideal (⟨2, ![1792, N]⟩ : Shape) .f32) (n : Fin 32) : Mat 56 N := fun i e => x (ix2 (row n i) e)

/-- Sequence `n` of the sequences. -/
def seqs {N : ℕ} (x : FVec Ideal (⟨3, ![32, 56, N]⟩ : Shape) .f32) (n : Fin 32) : Mat 56 N := fun i e => x (ix3 n i e)

theorem bot_bits : Ideal.ofBits .f32 0xFF800000#32 = ⊥ := by simp [Ideal.ofBits, Ideal.ieee]

theorem kLin384_apply (x : FVec Ideal S1792x128 .f32) (W : FVec Ideal S1x384x128 .f32) (b : FVec Ideal S1x384 .f32) (n : Fin 32) :
    rows (kLin384 x W b) n = lin (rows x n) (fun j k => W (ix3 0 j k)) (fun j => b (ix2 0 j)) := by
  funext i j; pointwise [kLin384, rows, lin]

theorem kLin128_apply (x : FVec Ideal S1792x128 .f32) (W : FVec Ideal S1x128x128 .f32) (b : FVec Ideal S1x128 .f32) (n : Fin 32) :
    rows (kLin128 x W b) n = lin (rows x n) (fun j k => W (ix3 0 j k)) (fun j => b (ix2 0 j)) := by
  funext i j; pointwise [kLin128, kRow128, rows, lin]

theorem kFeed_apply (x : FVec Ideal S1792x128 .f32) (W1 : FVec Ideal S1x512x128 .f32) (b1 : FVec Ideal S1x512 .f32)
    (W2 : FVec Ideal S1x128x512 .f32) (b2 : FVec Ideal S1x128 .f32) (n : Fin 32) :
    rows (kFeed x W1 b1 W2 b2) n = lin (fun i j => max (lin (rows x n) (fun j k => W1 (ix3 0 j k)) (fun j => b1 (ix2 0 j)) i j) 0)
      (fun j k => W2 (ix3 0 j k)) (fun j => b2 (ix2 0 j)) := by
  funext i j; pointwise [kFeed, kRow128, rows, lin]

theorem kNorm_apply (x : FVec Ideal S1792x128 .f32) (g b : FVec Ideal S1x128 .f32) (n : Fin 32) (i : Fin 56) :
    rows (kNorm x g b) n i = Enc.norm (rows x n i) (fun e => g (ix2 0 e)) (fun e => b (ix2 0 e)) := by
  funext e; pointwise [kNorm, kCentred, kMean, kRow128, rows, Enc.norm, var, mean, width, eps]

theorem kScore_apply (bias : FVec Ideal S32x56 .f32) (q k : FVec Ideal S32x56x16 .f32) (n : Fin 32) (i j : Fin 56) :
    kScore bias q k (ix3 n i j) = (∑ d : Fin 16, q (ix3 n i d) * k (ix3 n j d)) * quarter + bias (ix2 n j) := by
  pointwise [kScore, quarter]

theorem kSoftmaxV_apply (s : FVec Ideal S32x56x56 .f32) (v : FVec Ideal S32x56x16 .f32) (n : Fin 32) (i : Fin 56) (d : Fin 16) :
    kSoftmaxV s v (ix3 n i d) = ∑ j, soft (fun j => s (ix3 n i j)) j * v (ix3 n j d) := by
  pointwise [kSoftmaxV, soft, rowMax, bot_bits]

theorem slice_apply (o : ℕ) (hs : S32x56x128.Slices ![0, 0, o] S32x56x16) (h : Fin 8) (ho : o = 16 * h) (q : FVec Ideal S32x56x128 .f32)
    (n : Fin 32) (i : Fin 56) (d : Fin 16) :
    extractStridedSlice S32x56x16 ![0, 0, o] q hs (ix3 n i d) = q (ix3 n i (col h d)) := by
  subst ho; pointwise [col]

theorem kHead_apply (o : ℕ) (hs : S32x56x128.Slices ![0, 0, o] S32x56x16) (h : Fin 8) (ho : o = 16 * h) (bias : FVec Ideal S32x56 .f32)
    (q k v : FVec Ideal S32x56x128 .f32) (n : Fin 32) :
    seqs (kHead o hs bias q k v) n = head (seqs q n) (seqs k n) (seqs v n) (fun j => bias (ix2 n j)) h := by
  funext i d
  unfold kHead seqs head
  rw [kSoftmaxV_apply]
  simp only [kScore_apply, slice_apply o hs h ho]
  rfl

theorem flat_apply (y : FVec Ideal S32x56x128 .f32) (n : Fin 32) :
    rows (shapeCast S1792x128 y shapeCasts_S32x56x128_S1792x128) n = seqs y n := by
  funext i e; pointwise [rows, seqs, row]

theorem kAttend_apply (bias : FVec Ideal S32x56 .f32) (q k v : FVec Ideal S32x56x128 .f32) (n : Fin 32) :
    rows (kAttend bias q k v) n = attend (seqs q n) (seqs k n) (seqs v n) (fun j => bias (ix2 n j)) := by
  unfold kAttend
  rw [flat_apply]
  have h (o : ℕ) (hs : S32x56x128.Slices ![0, 0, o] S32x56x16) (h : Fin 8) (ho : o = 16 * h) (i : Fin 56) (d : Fin 16) :
      kHead o hs bias q k v (ix3 n i d) = head (seqs q n) (seqs k n) (seqs v n) (fun j => bias (ix2 n j)) h i d :=
    congrFun (congrFun (kHead_apply o hs h ho bias q k v n) i) d
  funext i e
  pointwise [seqs, attend, h 0 _ 0 rfl, h 16 _ 1 rfl, h 32 _ 2 rfl, h 48 _ 3 rfl, h 64 _ 4 rfl, h 80 _ 5 rfl, h 96 _ 6 rfl, h 112 _ 7 rfl]
  split_ifs <;>
    refine congrArg₂ (fun h d => head (seqs q n) (seqs k n) (seqs v n) (fun j => bias (ix2 n j)) h i d) (Fin.ext ?_) (Fin.ext ?_) <;>
    simp <;> omega

theorem kPart_apply (o : ℕ) (ho : o + 128 ≤ 384) (hs : S1792x384.Slices ![0, o] S1792x128) (y : FVec Ideal S1792x384 .f32) (n : Fin 32) :
    seqs (kPart o hs y) n = part (rows y n) o ho := by
  funext i e; pointwise [seqs, rows, part, kPart, row]

/-- The weights of one layer, from the pieces loaded. -/
def kWeights (Wqkv : FVec Ideal S1x384x128 .f32) (bqkv : FVec Ideal S1x384 .f32) (Wo : FVec Ideal S1x128x128 .f32) (bo : FVec Ideal S1x128 .f32)
    (W1 : FVec Ideal S1x512x128 .f32) (b1 : FVec Ideal S1x512 .f32) (W2 : FVec Ideal S1x128x512 .f32)
    (b2 g1 n1 g2 n2 : FVec Ideal S1x128 .f32) : Weights where
  Wqkv j k := Wqkv (ix3 0 j k)
  bqkv j := bqkv (ix2 0 j)
  Wo j k := Wo (ix3 0 j k)
  bo j := bo (ix2 0 j)
  W1 j k := W1 (ix3 0 j k)
  b1 j := b1 (ix2 0 j)
  W2 j k := W2 (ix3 0 j k)
  b2 j := b2 (ix2 0 j)
  g1 j := g1 (ix2 0 j)
  n1 j := n1 (ix2 0 j)
  g2 j := g2 (ix2 0 j)
  n2 j := n2 (ix2 0 j)

/-- One layer, from the pieces loaded. -/
def kLayer (x : FVec Ideal S1792x128 .f32) (bias : FVec Ideal S32x56 .f32) (Wqkv : FVec Ideal S1x384x128 .f32) (bqkv : FVec Ideal S1x384 .f32)
    (Wo : FVec Ideal S1x128x128 .f32) (bo : FVec Ideal S1x128 .f32) (W1 : FVec Ideal S1x512x128 .f32) (b1 : FVec Ideal S1x512 .f32)
    (W2 : FVec Ideal S1x128x512 .f32) (b2 g1 n1 g2 n2 : FVec Ideal S1x128 .f32) : FVec Ideal S1792x128 .f32 :=
  kRest (kHalf x bias Wqkv bqkv Wo bo g1 n1) W1 b1 W2 b2 g2 n2

/-- One layer treats each sequence as the layer of `Spec` does. -/
theorem kLayer_apply (x : FVec Ideal S1792x128 .f32) (bias : FVec Ideal S32x56 .f32) (Wqkv : FVec Ideal S1x384x128 .f32)
    (bqkv : FVec Ideal S1x384 .f32) (Wo : FVec Ideal S1x128x128 .f32) (bo : FVec Ideal S1x128 .f32) (W1 : FVec Ideal S1x512x128 .f32)
    (b1 : FVec Ideal S1x512 .f32) (W2 : FVec Ideal S1x128x512 .f32) (b2 g1 n1 g2 n2 : FVec Ideal S1x128 .f32) (n : Fin 32) :
    rows (kLayer x bias Wqkv bqkv Wo bo W1 b1 W2 b2 g1 n1 g2 n2) n
      = layer (rows x n) (fun j => bias (ix2 n j)) (kWeights Wqkv bqkv Wo bo W1 b1 W2 b2 g1 n1 g2 n2) := by
  have hadd (y z : FVec Ideal S1792x128 .f32) (i : Fin 56) : rows (addf y z) n i = fun e => rows y n i e + rows z n i e := rfl
  have hhalf : rows (kHalf x bias Wqkv bqkv Wo bo g1 n1) n
      = half (rows x n) (fun j => bias (ix2 n j)) (kWeights Wqkv bqkv Wo bo W1 b1 W2 b2 g1 n1 g2 n2) := by
    funext i
    rw [kHalf, kNorm_apply, hadd, kAttn, kLin128_apply, kAttend_apply, kPart_apply _ (by omega), kPart_apply _ (by omega),
      kPart_apply _ (by omega), kLin384_apply]
    rfl
  funext i
  rw [kLayer, kRest, kNorm_apply, hadd, kFeed_apply, hhalf]
  rfl

/-- The bias of the keys. -/
def kBias (mask : FVec Ideal S32x56 .f32) : FVec Ideal S32x56 .f32 :=
  mulf (subf (broadcast S32x56 (Scalar.ofBits .f32 0x3F800000#32)) mask) (broadcast S32x56 (Scalar.ofBits .f32 0xCE6E6B28#32))

/-- The sequences as rows. -/
def kFlat (x : FVec Ideal S32x56x128 .f32) : FVec Ideal S1792x128 .f32 :=
  shapeCast S1792x128 (shapeCast S32x56x128 x shapeCasts_S32x56x128_S32x56x128) shapeCasts_S32x56x128_S1792x128

theorem kBias_apply (mask : FVec Ideal S32x56 .f32) (n : Fin 32) : (fun j => kBias mask (ix2 n j)) = maskBias fun j => mask (ix2 n j) := by
  funext j; pointwise [kBias, maskBias, lowered, Ideal.ofBits_one_f32]

theorem kFlat_apply (x : FVec Ideal S32x56x128 .f32) (n : Fin 32) : rows (kFlat x) n = seqs x n := by
  rw [kFlat, flat_apply]; funext i e; pointwise [seqs]

/-- The mix, divided by its norm, from the sequence, the mask and the encoding. -/
theorem kUnit_apply (x : FVec Ideal S32x56x128 .f32) (mask : FVec Ideal S32x56 .f32) (mixer : FVec Ideal S1x1 .f32) (y : FVec Ideal S1792x128 .f32)
    (n : Fin 32) (i : Fin 56) :
    seqs (kUnit (kMixed x mask mixer y)) n i
      = unit (fun e => (mixer (ix2 0 0) * seqs x n i e + (1 - mixer (ix2 0 0)) * rows y n i e) * mask (ix2 n i)) := by
  have h (e : Fin 128) : kMixed x mask mixer y (ix3 n i e)
      = (mixer (ix2 0 0) * seqs x n i e + (1 - mixer (ix2 0 0)) * rows y n i e) * mask (ix2 n i) := by
    pointwise [kMixed, seqs, rows, row, Ideal.ofBits_one_f32]
  funext e
  pointwise [kUnit, seqs, Enc.unit, h, tiny]

end Cert.KernelIdeal.Encoder

end
-- ==== Proof.BlockEq.lean ====
/- The block the encoder's branch stores is the two layers, the mix and the normalisation, each made of the pieces of
   `BlockOps`. -/
module

public import proofs.«01_k».proof.Proof.Block
public import proofs.«01_k».proof.Proof.BlockOps

@[expose] public section

set_option maxRecDepth 16384

noncomputable section

namespace Cert.KernelIdeal.Encoder

open Cert.KernelIdeal Cert.KernelIdeal.Gen
open Idealize.ShloMosaic Cert.Enc

/-- The block the encoder's branch stores, as two layers of pieces. -/
theorem encBlock_eq (x0 : Vec Ideal S32x56x128 .f32) (x1 : Vec Ideal S32x56 .f32) (x2 : Vec Ideal S2x384x128 .f32) (x3 : Vec Ideal S2x384 .f32) (x4 : Vec Ideal S2x128x128 .f32) (x5 : Vec Ideal S2x128 .f32) (x6 : Vec Ideal S2x512x128 .f32) (x7 : Vec Ideal S2x512 .f32) (x8 : Vec Ideal S2x128x512 .f32) (x9 : Vec Ideal S2x128 .f32) (x10 : Vec Ideal S2x128 .f32) (x11 : Vec Ideal S2x128 .f32) (x12 : Vec Ideal S2x128 .f32) (x13 : Vec Ideal S2x128 .f32) (x14 : Vec Ideal S1x1 .f32) :
    encBlock x0 x1 x2 x3 x4 x5 x6 x7 x8 x9 x10 x11 x12 x13 x14
      = kUnit (kMixed (View.ld x0 (Rect.unit (s := S32x56x128) ![0, 0, 0] S32x56x128.size inb_S32x56x128_S32x56x128_0_0_0)) (View.ld x1 (Rect.unit (s := S32x56) ![0, 0] S32x56.size inb_S32x56_S32x56_0_0)) (View.ld x14 (Rect.unit (s := S1x1) ![0, 0] S1x1.size inb_S1x1_S1x1_0_0))
      (kLayer (kLayer (kFlat (View.ld x0 (Rect.unit (s := S32x56x128) ![0, 0, 0] S32x56x128.size inb_S32x56x128_S32x56x128_0_0_0))) (kBias (View.ld x1 (Rect.unit (s := S32x56) ![0, 0] S32x56.size inb_S32x56_S32x56_0_0)))
        (View.ld x2 (Rect.unit (s := S2x384x128) ![0, 0, 0] S1x384x128.size inb_S2x384x128_S1x384x128_0_0_0))
        (View.ld x3 (Rect.unit (s := S2x384) ![0, 0] S1x384.size inb_S2x384_S1x384_0_0))
        (View.ld x4 (Rect.unit (s := S2x128x128) ![0, 0, 0] S1x128x128.size inb_S2x128x128_S1x128x128_0_0_0))
        (View.ld x5 (Rect.unit (s := S2x128) ![0, 0] S1x128.size inb_S2x128_S1x128_0_0))
        (View.ld x6 (Rect.unit (s := S2x512x128) ![0, 0, 0] S1x512x128.size inb_S2x512x128_S1x512x128_0_0_0))
        (View.ld x7 (Rect.unit (s := S2x512) ![0, 0] S1x512.size inb_S2x512_S1x512_0_0))
        (View.ld x8 (Rect.unit (s := S2x128x512) ![0, 0, 0] S1x128x512.size inb_S2x128x512_S1x128x512_0_0_0))
        (View.ld x9 (Rect.unit (s := S2x128) ![0, 0] S1x128.size inb_S2x128_S1x128_0_0))
        (View.ld x10 (Rect.unit (s := S2x128) ![0, 0] S1x128.size inb_S2x128_S1x128_0_0))
        (View.ld x11 (Rect.unit (s := S2x128) ![0, 0] S1x128.size inb_S2x128_S1x128_0_0))
        (View.ld x12 (Rect.unit (s := S2x128) ![0, 0] S1x128.size inb_S2x128_S1x128_0_0))
        (View.ld x13 (Rect.unit (s := S2x128) ![0, 0] S1x128.size inb_S2x128_S1x128_0_0)))
        (kBias (View.ld x1 (Rect.unit (s := S32x56) ![0, 0] S32x56.size inb_S32x56_S32x56_0_0)))
        (View.ld x2 (Rect.unit (s := S2x384x128) ![1, 0, 0] S1x384x128.size inb_S2x384x128_S1x384x128_1_0_0))
        (View.ld x3 (Rect.unit (s := S2x384) ![1, 0] S1x384.size inb_S2x384_S1x384_1_0))
        (View.ld x4 (Rect.unit (s := S2x128x128) ![1, 0, 0] S1x128x128.size inb_S2x128x128_S1x128x128_1_0_0))
        (View.ld x5 (Rect.unit (s := S2x128) ![1, 0] S1x128.size inb_S2x128_S1x128_1_0))
        (View.ld x6 (Rect.unit (s := S2x512x128) ![1, 0, 0] S1x512x128.size inb_S2x512x128_S1x512x128_1_0_0))
        (View.ld x7 (Rect.unit (s := S2x512) ![1, 0] S1x512.size inb_S2x512_S1x512_1_0))
        (View.ld x8 (Rect.unit (s := S2x128x512) ![1, 0, 0] S1x128x512.size inb_S2x128x512_S1x128x512_1_0_0))
        (View.ld x9 (Rect.unit (s := S2x128) ![1, 0] S1x128.size inb_S2x128_S1x128_1_0))
        (View.ld x10 (Rect.unit (s := S2x128) ![1, 0] S1x128.size inb_S2x128_S1x128_1_0))
        (View.ld x11 (Rect.unit (s := S2x128) ![1, 0] S1x128.size inb_S2x128_S1x128_1_0))
        (View.ld x12 (Rect.unit (s := S2x128) ![1, 0] S1x128.size inb_S2x128_S1x128_1_0))
        (View.ld x13 (Rect.unit (s := S2x128) ![1, 0] S1x128.size inb_S2x128_S1x128_1_0)))) := by
  unfold encBlock
  extract_lets v0 v2 v526 v22 v25 v190 v193 v227 v230 v237 v240 v217 v222 v264 v269 v274 v277 v442 v445 v479 v482 v489 v492 v469 v474 v516 v521 v1 v20 v21 v31 v33 v35 v54 v57 v60 v61 v73 v92 v95 v106 v109 v111 v130 v149 v152 v155 v156 v198 v200 v226 v239 v273 v281 v283 v285 v287 v306 v325 v328 v331 v333 v344 v363 v366 v381 v382 v401 v420 v423 v426 v428 v468 v472 v510 v512
  have e226 : v226 = kHalf v21 v20 v22 v25 v190 v193 v217 v222 := rfl
  have e273 : v273 = kLayer v21 v20 v22 v25 v190 v193 v227 v230 v237 v240 v217 v222 v264 v269 := rfl
  have e281 : v281 = kLin384 v273 v274 v277 := rfl
  have e283 : v283 = kPart 0 slices_S1792x384_o0_0_S1792x128 v281 := rfl
  have e285 : v285 = kPart 128 slices_S1792x384_o0_128_S1792x128 v281 := rfl
  have e287 : v287 = kPart 256 slices_S1792x384_o0_256_S1792x128 v281 := rfl
  have e478 : addf (mulf v468 v472) (kRow128 v474) = kHalf v273 v20 v274 v277 v442 v445 v469 v474 := rfl
  have e : k0_pay5 v0 v2 v510 v512 v516 v521 v526 = kUnit (kMixed v0 v2 v526
      (kRest (addf (mulf v468 v472) (kRow128 v474)) v479 v482 v489 v492 v516 v521)) := rfl
  rw [e, e478, e273]
  rfl

end Cert.KernelIdeal.Encoder

end
-- ==== Proof.BlockValue.lean ====
/- What one block of the output holds at an index: row `i` of what sequence `n` of the block becomes. -/
module

public import proofs.«01_k».proof.Proof.BlockEq

@[expose] public section

set_option maxRecDepth 16384

noncomputable section

namespace Cert.KernelIdeal.Encoder

open Cert.KernelIdeal Cert.KernelIdeal.Gen
open Idealize.ShloMosaic Cert.Enc

/-- Loading layer `l` of each stacked array gives that layer's weights. -/
theorem weights_0 (x2 : Vec Ideal S2x384x128 .f32) (x3 : Vec Ideal S2x384 .f32) (x4 : Vec Ideal S2x128x128 .f32) (x5 : Vec Ideal S2x128 .f32) (x6 : Vec Ideal S2x512x128 .f32) (x7 : Vec Ideal S2x512 .f32) (x8 : Vec Ideal S2x128x512 .f32) (x9 : Vec Ideal S2x128 .f32) (x10 : Vec Ideal S2x128 .f32) (x11 : Vec Ideal S2x128 .f32) (x12 : Vec Ideal S2x128 .f32) (x13 : Vec Ideal S2x128 .f32) :
    kWeights (View.ld x2 (Rect.unit (s := S2x384x128) ![0, 0, 0] S1x384x128.size inb_S2x384x128_S1x384x128_0_0_0))
      (View.ld x3 (Rect.unit (s := S2x384) ![0, 0] S1x384.size inb_S2x384_S1x384_0_0))
      (View.ld x4 (Rect.unit (s := S2x128x128) ![0, 0, 0] S1x128x128.size inb_S2x128x128_S1x128x128_0_0_0))
      (View.ld x5 (Rect.unit (s := S2x128) ![0, 0] S1x128.size inb_S2x128_S1x128_0_0))
      (View.ld x6 (Rect.unit (s := S2x512x128) ![0, 0, 0] S1x512x128.size inb_S2x512x128_S1x512x128_0_0_0))
      (View.ld x7 (Rect.unit (s := S2x512) ![0, 0] S1x512.size inb_S2x512_S1x512_0_0))
      (View.ld x8 (Rect.unit (s := S2x128x512) ![0, 0, 0] S1x128x512.size inb_S2x128x512_S1x128x512_0_0_0))
      (View.ld x9 (Rect.unit (s := S2x128) ![0, 0] S1x128.size inb_S2x128_S1x128_0_0))
      (View.ld x10 (Rect.unit (s := S2x128) ![0, 0] S1x128.size inb_S2x128_S1x128_0_0))
      (View.ld x11 (Rect.unit (s := S2x128) ![0, 0] S1x128.size inb_S2x128_S1x128_0_0))
      (View.ld x12 (Rect.unit (s := S2x128) ![0, 0] S1x128.size inb_S2x128_S1x128_0_0))
      (View.ld x13 (Rect.unit (s := S2x128) ![0, 0] S1x128.size inb_S2x128_S1x128_0_0)) = layerWeights x2 x3 x4 x5 x6 x7 x8 x9 x10 x11 x12 x13 0 := by
  unfold kWeights layerWeights
  congr 1 <;> (repeat (funext _)) <;> pointwise

/-- Loading layer `l` of each stacked array gives that layer's weights. -/
theorem weights_1 (x2 : Vec Ideal S2x384x128 .f32) (x3 : Vec Ideal S2x384 .f32) (x4 : Vec Ideal S2x128x128 .f32) (x5 : Vec Ideal S2x128 .f32) (x6 : Vec Ideal S2x512x128 .f32) (x7 : Vec Ideal S2x512 .f32) (x8 : Vec Ideal S2x128x512 .f32) (x9 : Vec Ideal S2x128 .f32) (x10 : Vec Ideal S2x128 .f32) (x11 : Vec Ideal S2x128 .f32) (x12 : Vec Ideal S2x128 .f32) (x13 : Vec Ideal S2x128 .f32) :
    kWeights (View.ld x2 (Rect.unit (s := S2x384x128) ![1, 0, 0] S1x384x128.size inb_S2x384x128_S1x384x128_1_0_0))
      (View.ld x3 (Rect.unit (s := S2x384) ![1, 0] S1x384.size inb_S2x384_S1x384_1_0))
      (View.ld x4 (Rect.unit (s := S2x128x128) ![1, 0, 0] S1x128x128.size inb_S2x128x128_S1x128x128_1_0_0))
      (View.ld x5 (Rect.unit (s := S2x128) ![1, 0] S1x128.size inb_S2x128_S1x128_1_0))
      (View.ld x6 (Rect.unit (s := S2x512x128) ![1, 0, 0] S1x512x128.size inb_S2x512x128_S1x512x128_1_0_0))
      (View.ld x7 (Rect.unit (s := S2x512) ![1, 0] S1x512.size inb_S2x512_S1x512_1_0))
      (View.ld x8 (Rect.unit (s := S2x128x512) ![1, 0, 0] S1x128x512.size inb_S2x128x512_S1x128x512_1_0_0))
      (View.ld x9 (Rect.unit (s := S2x128) ![1, 0] S1x128.size inb_S2x128_S1x128_1_0))
      (View.ld x10 (Rect.unit (s := S2x128) ![1, 0] S1x128.size inb_S2x128_S1x128_1_0))
      (View.ld x11 (Rect.unit (s := S2x128) ![1, 0] S1x128.size inb_S2x128_S1x128_1_0))
      (View.ld x12 (Rect.unit (s := S2x128) ![1, 0] S1x128.size inb_S2x128_S1x128_1_0))
      (View.ld x13 (Rect.unit (s := S2x128) ![1, 0] S1x128.size inb_S2x128_S1x128_1_0)) = layerWeights x2 x3 x4 x5 x6 x7 x8 x9 x10 x11 x12 x13 1 := by
  unfold kWeights layerWeights
  congr 1 <;> (repeat (funext _)) <;> pointwise

/-- The block the encoder's branch stores, at an index. -/
theorem encBlock_apply (x0 : Vec Ideal S32x56x128 .f32) (x1 : Vec Ideal S32x56 .f32) (x2 : Vec Ideal S2x384x128 .f32) (x3 : Vec Ideal S2x384 .f32) (x4 : Vec Ideal S2x128x128 .f32) (x5 : Vec Ideal S2x128 .f32) (x6 : Vec Ideal S2x512x128 .f32) (x7 : Vec Ideal S2x512 .f32) (x8 : Vec Ideal S2x128x512 .f32) (x9 : Vec Ideal S2x128 .f32) (x10 : Vec Ideal S2x128 .f32) (x11 : Vec Ideal S2x128 .f32) (x12 : Vec Ideal S2x128 .f32) (x13 : Vec Ideal S2x128 .f32) (x14 : Vec Ideal S1x1 .f32) (n : Fin 32) (i : Fin 56) :
    seqs (encBlock x0 x1 x2 x3 x4 x5 x6 x7 x8 x9 x10 x11 x12 x13 x14) n i
      = contextualized (seqs x0 n) (fun i => x1 (ix2 n i)) (x14 (ix2 0 0)) (layerWeights x2 x3 x4 x5 x6 x7 x8 x9 x10 x11 x12 x13 0) (layerWeights x2 x3 x4 x5 x6 x7 x8 x9 x10 x11 x12 x13 1) i := by
  have h0 (h) : View.ld x0 (Rect.unit (s := S32x56x128) ![0, 0, 0] S32x56x128.size h) = x0 := View.ld_unit_zero (by decide) _ _
  have h1 (h) : View.ld x1 (Rect.unit (s := S32x56) ![0, 0] S32x56.size h) = x1 := View.ld_unit_zero (by decide) _ _
  have h14 (h) : View.ld x14 (Rect.unit (s := S1x1) ![0, 0] S1x1.size h) = x14 := View.ld_unit_zero (by decide) _ _
  rw [encBlock_eq, h0, h1, h14, kUnit_apply, kLayer_apply, kLayer_apply, kFlat_apply, kBias_apply, weights_0, weights_1]
  rfl

theorem tiny_ne : tiny ≠ 0 := by
  unfold tiny
  simp [Ideal.ofBits, Ideal.ieee, -EReal.coe_mul]
  try norm_num

/-- A row whose mask is zero becomes zero. -/
theorem contextualized_zero (X : Mat 56 128) (mask : Fin 56 → EReal) (mixer : EReal) (w0 w1 : Weights) (i : Fin 56) (h : mask i = 0) :
    contextualized X mask mixer w0 w1 i = fun _ => 0 := by
  have h0 : Ideal.sqrt 0 = 0 := by
    show (if (0 : ℝ) < 0 then (⊥ : EReal) else ((Real.sqrt 0 : ℝ) : EReal)) = 0
    simp
  funext e
  simp only [contextualized, Enc.unit, mixed, h, mul_zero, Finset.sum_const_zero, h0, zero_add, Ideal.div, if_neg tiny_ne, zero_mul]

/-- The mask's block sums to zero only if each of its entries, none negative, is zero. -/
theorem mask_zero (x1 : FVec Ideal S32x56 .f32) (hx : ∀ n i, 0 ≤ x1 (ix2 n i)) (h : k0_pay2 (F := Ideal) x1 = (0 : EReal)) (n : Fin 32) (i : Fin 56) :
    x1 (ix2 n i) = 0 := by
  have hs : k0_pay2 (F := Ideal) x1 = ∑ a : Fin 32, ∑ b : Fin 56, x1 (ix2 a b) := by
    pointwise [k0_pay2]
  rw [hs, Finset.sum_eq_zero_iff_of_nonneg (fun a _ => Finset.sum_nonneg fun b _ => hx a b)] at h
  exact (Finset.sum_eq_zero_iff_of_nonneg (fun b _ => hx n b)).1 (h n (Finset.mem_univ _)) i (Finset.mem_univ _)

/-- The block the body leaves, at an index, where no entry of the mask is negative. -/
theorem outBlock_apply (x0 : Vec Ideal S32x56x128 .f32) (x1 : Vec Ideal S32x56 .f32) (x2 : Vec Ideal S2x384x128 .f32) (x3 : Vec Ideal S2x384 .f32) (x4 : Vec Ideal S2x128x128 .f32) (x5 : Vec Ideal S2x128 .f32) (x6 : Vec Ideal S2x512x128 .f32) (x7 : Vec Ideal S2x512 .f32) (x8 : Vec Ideal S2x128x512 .f32) (x9 : Vec Ideal S2x128 .f32) (x10 : Vec Ideal S2x128 .f32) (x11 : Vec Ideal S2x128 .f32) (x12 : Vec Ideal S2x128 .f32) (x13 : Vec Ideal S2x128 .f32) (x14 : Vec Ideal S1x1 .f32) (hx : ∀ n i, 0 ≤ x1 (ix2 n i))
    (n : Fin 32) (i : Fin 56) :
    seqs (outBlock x0 x1 x2 x3 x4 x5 x6 x7 x8 x9 x10 x11 x12 x13 x14) n i
      = contextualized (seqs x0 n) (fun i => x1 (ix2 n i)) (x14 (ix2 0 0)) (layerWeights x2 x3 x4 x5 x6 x7 x8 x9 x10 x11 x12 x13 0) (layerWeights x2 x3 x4 x5 x6 x7 x8 x9 x10 x11 x12 x13 1) i := by
  have h1 (h) : View.ld x1 (Rect.unit (s := S32x56) ![0, 0] S32x56.size h) = x1 := View.ld_unit_zero (by decide) _ _
  by_cases h : k0_pay2 (F := Ideal) x1 = (0 : EReal)
  · rw [outBlock_zero _ _ _ _ _ _ _ _ _ _ _ _ _ _ _ (by rw [h1]; exact h), contextualized_zero _ _ _ _ _ _ (mask_zero x1 hx h n i)]
    funext e
    pointwise [seqs, k0_pay3]
  · rw [outBlock_enc _ _ _ _ _ _ _ _ _ _ _ _ _ _ _ (by rw [h1]; exact h), encBlock_apply]

end Cert.KernelIdeal.Encoder

end
-- ==== Proof.Array.lean ====
/- The array the run leaves: each sequence of it is what that sequence of the inputs becomes. -/
module

public import proofs.«01_k».proof.Proof.BlockValue
public import proofs.«01_k».proof.Proof.IdealFrame
public import Idealize.ShloMosaic.Lib.Claim

@[expose] public section

set_option maxRecDepth 16384

noncomputable section

namespace Cert.KernelIdeal.Encoder

open Cert.KernelIdeal Cert.KernelIdeal.Gen
open Idealize.ShloMosaic Idealize.ShloMosaic.TcCoe Idealize.SL.Sem Cert.Enc
open Idealize.ShloMosaic.Pipeline (Dat)

variable (m : (ℓ : Loc nD τ sig) → Buf (Elt Ideal) ℓ) (ρ : Dev nD → PrngReg)

/-- The tokens' vectors as launched. -/
abbrev tokens (c : Dev nD) : FVec Ideal S1632x56x128 .f32 := m ((c : Thread nD τ).loc main_arg0)

/-- The tokens' masks as launched. -/
abbrev masks (c : Dev nD) : FVec Ideal S1632x56 .f32 := m ((c : Thread nD τ).loc main_arg1)

/-- The mixer as launched. -/
abbrev mixer (c : Dev nD) : FVec Ideal S1 .f32 := m ((c : Thread nD τ).loc main_arg2)

/-! ## The blocks of the inputs -/

theorem at_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem at_1 : ∀ t : Fin cfg0.N, win0_1.index t (0 : Fin 2) = t.val ∧ win0_1.index t (1 : Fin 2) = 0 :=
  (by decide +kernel : ∀ t : Fin grid0.N, _)
theorem at_15 : ∀ t : Fin cfg0.N, win0_15.index t (0 : Fin 3) = t.val ∧ win0_15.index t (1 : Fin 3) = 0 ∧ win0_15.index t (2 : Fin 3) = 0 :=
  (by decide +kernel : ∀ t : Fin grid0.N, _)
theorem at_2 : ∀ (t : Fin cfg0.N) (a : Fin 3), win0_2.index t a = 0 := (by decide +kernel : ∀ (t : Fin grid0.N) (a : Fin 3), _)
theorem at_3 : ∀ (t : Fin cfg0.N) (a : Fin 2), win0_3.index t a = 0 := (by decide +kernel : ∀ (t : Fin grid0.N) (a : Fin 2), _)
theorem at_4 : ∀ (t : Fin cfg0.N) (a : Fin 3), win0_4.index t a = 0 := (by decide +kernel : ∀ (t : Fin grid0.N) (a : Fin 3), _)
theorem at_5 : ∀ (t : Fin cfg0.N) (a : Fin 2), win0_5.index t a = 0 := (by decide +kernel : ∀ (t : Fin grid0.N) (a : Fin 2), _)
theorem at_6 : ∀ (t : Fin cfg0.N) (a : Fin 3), win0_6.index t a = 0 := (by decide +kernel : ∀ (t : Fin grid0.N) (a : Fin 3), _)
theorem at_7 : ∀ (t : Fin cfg0.N) (a : Fin 2), win0_7.index t a = 0 := (by decide +kernel : ∀ (t : Fin grid0.N) (a : Fin 2), _)
theorem at_8 : ∀ (t : Fin cfg0.N) (a : Fin 3), win0_8.index t a = 0 := (by decide +kernel : ∀ (t : Fin grid0.N) (a : Fin 3), _)
theorem at_9 : ∀ (t : Fin cfg0.N) (a : Fin 2), win0_9.index t a = 0 := (by decide +kernel : ∀ (t : Fin grid0.N) (a : Fin 2), _)
theorem at_10 : ∀ (t : Fin cfg0.N) (a : Fin 2), win0_10.index t a = 0 := (by decide +kernel : ∀ (t : Fin grid0.N) (a : Fin 2), _)
theorem at_11 : ∀ (t : Fin cfg0.N) (a : Fin 2), win0_11.index t a = 0 := (by decide +kernel : ∀ (t : Fin grid0.N) (a : Fin 2), _)
theorem at_12 : ∀ (t : Fin cfg0.N) (a : Fin 2), win0_12.index t a = 0 := (by decide +kernel : ∀ (t : Fin grid0.N) (a : Fin 2), _)
theorem at_13 : ∀ (t : Fin cfg0.N) (a : Fin 2), win0_13.index t a = 0 := (by decide +kernel : ∀ (t : Fin grid0.N) (a : Fin 2), _)
theorem at_14 : ∀ (t : Fin cfg0.N) (a : Fin 2), win0_14.index t a = 0 := (by decide +kernel : ∀ (t : Fin grid0.N) (a : Fin 2), _)

theorem read_2 (c : Dev nD) (t : Fin cfg0.N) : iblk m c 2 t = V m c main_arg3 := by
  funext j
  show V m c main_arg3 (((cfg0.win 2).blk t).view.emb j) = V m c main_arg3 j
  refine congrArg _ (funext fun a => Fin.ext ?_)
  show win0_2.index t a * S2x384x128.size a + 1 * (j a).val = (j a).val
  rw [at_2]; omega
theorem read_3 (c : Dev nD) (t : Fin cfg0.N) : iblk m c 3 t = V m c main_arg4 := by
  funext j
  show V m c main_arg4 (((cfg0.win 3).blk t).view.emb j) = V m c main_arg4 j
  refine congrArg _ (funext fun a => Fin.ext ?_)
  show win0_3.index t a * S2x384.size a + 1 * (j a).val = (j a).val
  rw [at_3]; omega
theorem read_4 (c : Dev nD) (t : Fin cfg0.N) : iblk m c 4 t = V m c main_arg5 := by
  funext j
  show V m c main_arg5 (((cfg0.win 4).blk t).view.emb j) = V m c main_arg5 j
  refine congrArg _ (funext fun a => Fin.ext ?_)
  show win0_4.index t a * S2x128x128.size a + 1 * (j a).val = (j a).val
  rw [at_4]; omega
theorem read_5 (c : Dev nD) (t : Fin cfg0.N) : iblk m c 5 t = V m c main_arg6 := by
  funext j
  show V m c main_arg6 (((cfg0.win 5).blk t).view.emb j) = V m c main_arg6 j
  refine congrArg _ (funext fun a => Fin.ext ?_)
  show win0_5.index t a * S2x128.size a + 1 * (j a).val = (j a).val
  rw [at_5]; omega
theorem read_6 (c : Dev nD) (t : Fin cfg0.N) : iblk m c 6 t = V m c main_arg7 := by
  funext j
  show V m c main_arg7 (((cfg0.win 6).blk t).view.emb j) = V m c main_arg7 j
  refine congrArg _ (funext fun a => Fin.ext ?_)
  show win0_6.index t a * S2x512x128.size a + 1 * (j a).val = (j a).val
  rw [at_6]; omega
theorem read_7 (c : Dev nD) (t : Fin cfg0.N) : iblk m c 7 t = V m c main_arg8 := by
  funext j
  show V m c main_arg8 (((cfg0.win 7).blk t).view.emb j) = V m c main_arg8 j
  refine congrArg _ (funext fun a => Fin.ext ?_)
  show win0_7.index t a * S2x512.size a + 1 * (j a).val = (j a).val
  rw [at_7]; omega
theorem read_8 (c : Dev nD) (t : Fin cfg0.N) : iblk m c 8 t = V m c main_arg9 := by
  funext j
  show V m c main_arg9 (((cfg0.win 8).blk t).view.emb j) = V m c main_arg9 j
  refine congrArg _ (funext fun a => Fin.ext ?_)
  show win0_8.index t a * S2x128x512.size a + 1 * (j a).val = (j a).val
  rw [at_8]; omega
theorem read_9 (c : Dev nD) (t : Fin cfg0.N) : iblk m c 9 t = V m c main_arg10 := by
  funext j
  show V m c main_arg10 (((cfg0.win 9).blk t).view.emb j) = V m c main_arg10 j
  refine congrArg _ (funext fun a => Fin.ext ?_)
  show win0_9.index t a * S2x128.size a + 1 * (j a).val = (j a).val
  rw [at_9]; omega
theorem read_10 (c : Dev nD) (t : Fin cfg0.N) : iblk m c 10 t = V m c main_arg11 := by
  funext j
  show V m c main_arg11 (((cfg0.win 10).blk t).view.emb j) = V m c main_arg11 j
  refine congrArg _ (funext fun a => Fin.ext ?_)
  show win0_10.index t a * S2x128.size a + 1 * (j a).val = (j a).val
  rw [at_10]; omega
theorem read_11 (c : Dev nD) (t : Fin cfg0.N) : iblk m c 11 t = V m c main_arg12 := by
  funext j
  show V m c main_arg12 (((cfg0.win 11).blk t).view.emb j) = V m c main_arg12 j
  refine congrArg _ (funext fun a => Fin.ext ?_)
  show win0_11.index t a * S2x128.size a + 1 * (j a).val = (j a).val
  rw [at_11]; omega
theorem read_12 (c : Dev nD) (t : Fin cfg0.N) : iblk m c 12 t = V m c main_arg13 := by
  funext j
  show V m c main_arg13 (((cfg0.win 12).blk t).view.emb j) = V m c main_arg13 j
  refine congrArg _ (funext fun a => Fin.ext ?_)
  show win0_12.index t a * S2x128.size a + 1 * (j a).val = (j a).val
  rw [at_12]; omega
theorem read_13 (c : Dev nD) (t : Fin cfg0.N) : iblk m c 13 t = V m c main_arg14 := by
  funext j
  show V m c main_arg14 (((cfg0.win 13).blk t).view.emb j) = V m c main_arg14 j
  refine congrArg _ (funext fun a => Fin.ext ?_)
  show win0_13.index t a * S2x128.size a + 1 * (j a).val = (j a).val
  rw [at_13]; omega
theorem read_14 (c : Dev nD) (t : Fin cfg0.N) : iblk m c 14 t = V m c main_v3 := by
  funext j
  show V m c main_v3 (((cfg0.win 14).blk t).view.emb j) = V m c main_v3 j
  refine congrArg _ (funext fun a => Fin.ext ?_)
  show win0_14.index t a * S1x1.size a + 1 * (j a).val = (j a).val
  rw [at_14]; omega

/-- Sequence `n` of block `t`, among all the sequences. -/
def at32 (t : Fin cfg0.N) (n : Fin 32) : Fin 1632 := ⟨t.val * 32 + n, by have := t.isLt; have h : cfg0.N = 51 := rfl; omega⟩

theorem read_0 (c : Dev nD) (t : Fin cfg0.N) (n : Fin 32) (i : Fin 56) (e : Fin 128) :
    iblk m c 0 t (ix3 n i e) = V m c main_v2 (ix3 (at32 t n) i e) := by
  obtain ⟨e0, e1, e2⟩ := at_0 t
  show V m c main_v2 (((cfg0.win 0).blk t).view.emb (ix3 n i e)) = _
  refine congrArg _ (funext fun a => Fin.ext ?_)
  match a with
  | ⟨0, _⟩ => show win0_0.index t (0 : Fin 3) * 32 + 1 * n.val = t.val * 32 + n.val; omega
  | ⟨1, _⟩ => show win0_0.index t (1 : Fin 3) * 56 + 1 * i.val = i.val; omega
  | ⟨2, _⟩ => show win0_0.index t (2 : Fin 3) * 128 + 1 * e.val = e.val; omega

theorem read_1 (c : Dev nD) (t : Fin cfg0.N) (n : Fin 32) (i : Fin 56) :
    iblk m c 1 t (ix2 n i) = V m c main_arg1 (ix2 (at32 t n) i) := by
  obtain ⟨e0, e1⟩ := at_1 t
  show V m c main_arg1 (((cfg0.win 1).blk t).view.emb (ix2 n i)) = _
  refine congrArg _ (funext fun a => Fin.ext ?_)
  match a with
  | ⟨0, _⟩ => show win0_1.index t (0 : Fin 2) * 32 + 1 * n.val = t.val * 32 + n.val; omega
  | ⟨1, _⟩ => show win0_1.index t (1 : Fin 2) * 56 + 1 * i.val = i.val; omega

theorem place_15 (t : Fin cfg0.N) (n : Fin 32) (i : Fin 56) (e : Fin 128) :
    ((cfg0.win 15).blk t).view.emb (ix3 n i e) = ix3 (at32 t n) i e := by
  obtain ⟨e0, e1, e2⟩ := at_15 t
  refine funext fun a => Fin.ext ?_
  match a with
  | ⟨0, _⟩ => show win0_15.index t (0 : Fin 3) * 32 + 1 * n.val = t.val * 32 + n.val; omega
  | ⟨1, _⟩ => show win0_15.index t (1 : Fin 3) * 56 + 1 * i.val = i.val; omega
  | ⟨2, _⟩ => show win0_15.index t (2 : Fin 3) * 128 + 1 * e.val = e.val; omega

/-- The sequences the region is given: each token times its mask. -/
theorem seqs_apply (c : Dev nD) (n : Fin 1632) (i : Fin 56) (e : Fin 128) :
    V m c main_v2 (ix3 n i e) = tokens m c (ix3 n i e) * masks m c (ix2 n i) := by
  entry_read
  pointwise

theorem mixer_apply (c : Dev nD) : V m c main_v3 (ix2 0 0) = mixer m c (ix1 0) := by
  entry_read
  pointwise

/-! ## The output -/

/-- What the arguments make of the whole array. -/
abbrev result (c : Dev nD) : FVec Ideal S1632x56x128 .f32 :=
  Encoded (tokens m c) (masks m c) (mixer m c)
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- What a grid point writes is its block of that. -/
theorem flushed_eq (c : Dev nD) (hpos : ∀ n i, 0 ≤ masks m c (ix2 n i)) (t : Fin cfg0.N) :
    (dats m 0 c).flushed 15 t = ((cfg0.win 15).blk t).view.read (Elt Ideal) (result m c) := by
  show (cfg0.win 15).cut (grid0.coords t) ((dats m 0 c).after 15 t) = _
  rw [after_15]
  funext j
  obtain ⟨n, i, e, rfl⟩ : ∃ (n : Fin 32) (i : Fin 56) (e : Fin 128), j = ix3 n i e := ⟨j 0, j 1, j 2, by idx_vars j⟩
  show outBlock _ _ _ _ _ _ _ _ _ _ _ _ _ _ _ (ix3 n i e) = result m c (((cfg0.win 15).blk t).view.emb (ix3 n i e))
  rw [place_15]
  refine (congrFun (outBlock_apply _ _ _ _ _ _ _ _ _ _ _ _ _ _ _ (fun n i => by rw [read_1, V_main_arg1]; exact hpos _ _) n i) e).trans ?_
  have hs : seqs (iblk m c 0 t) n = fun i e => tokens m c (ix3 (at32 t n) i e) * masks m c (ix2 (at32 t n) i) := by
    funext i e; exact (read_0 m c t n i e).trans (seqs_apply m c _ i e)
  have hm : (fun i => iblk m c 1 t (ix2 n i)) = fun i => masks m c (ix2 (at32 t n) i) := by
    funext i; rw [read_1, V_main_arg1]
  rw [hs, hm, read_2, read_3, read_4, read_5, read_6, read_7, read_8, read_9, read_10, read_11, read_12, read_13, read_14, mixer_apply, V_main_arg3, V_main_arg4, V_main_arg5, V_main_arg6, V_main_arg7, V_main_arg8, V_main_arg9, V_main_arg10, V_main_arg11, V_main_arg12, V_main_arg13, V_main_arg14]
  rfl

/-- Every index of the output is in the block of some grid point. -/
theorem covered (j : S1632x56x128.Idx) : ∃ t : Fin cfg0.N, (cfg0.win 15).flush t = true ∧ j ∈ ((cfg0.win 15).blk t).view.set := by
  obtain ⟨n, i, e, rfl⟩ : ∃ (n : Fin 1632) (i : Fin 56) (e : Fin 128), j = ix3 n i e := ⟨j 0, j 1, j 2, by idx_vars j⟩
  refine ⟨⟨n.val / 32, show n.val / 32 < 51 by omega⟩, flush0_15 _, ?_⟩
  have h := ((cfg0.win 15).blk ⟨n.val / 32, show n.val / 32 < 51 by omega⟩).view.emb_mem_set (ix3 ⟨n.val % 32, by omega⟩ i e)
  rw [place_15] at h
  have e' : at32 ⟨n.val / 32, show n.val / 32 < 51 by omega⟩ ⟨n.val % 32, by omega⟩ = n := Fin.ext (by show n.val / 32 * 32 + n.val % 32 = n.val; omega)
  rwa [e'] at h

/-- The output array after the run. -/
theorem final (c : Dev nD) (hpos : ∀ n i, 0 ≤ masks m c (ix2 n i)) :
    (dats m 0 c).arrAt 15 cfg0.N = result m c :=
  (dats m 0 c).arrAt_eq_of_cover 15 (result m c) (fun t _ => flushed_eq m c hpos t) covered

/-- Every execution ends with the output array at that, the arguments as they were. -/
theorem run (hpos : ∀ (c : Dev nD) n i, 0 ≤ masks m c (ix2 n i)) :
    θ_run defs (onTc (τ := τ) (main (F := Ideal))) ⟨m, fun _ => 0, ρ⟩ (fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)) :=
  (θ_run defs _ _).mono (fun _ h c => ⟨((h.1.1 c).1 15).trans (final m c (hpos c)), h.2 c⟩)
    (θ_run_and (run_main m ρ) (unchanged m ρ))

end Cert.KernelIdeal.Encoder

end
-- ==== Proof.Algebra.lean ====
/- The equalities between numbers by which the two programs' formulas agree. -/
module

public import proofs.«01_k».proof.Proof.Spec
public import Idealize.ShloMosaic.PureOps.Ideal.Laws

@[expose] public section

noncomputable section

namespace Cert.Enc

open Idealize.ShloMosaic

/-- Dividing by the root of a positive number is multiplying by its reciprocal root. -/
theorem div_sqrt (a s : EReal) (hs : 0 < s) : Ideal.div a (Ideal.sqrt s) = a * Ideal.rsqrt s := by
  induction s with
  | bot => exact absurd hs (by simp)
  | top =>
    show Ideal.div a ⊤ = a * 0
    rw [Ideal.div, if_neg (by simp)]
    simp
  | coe r =>
    have hr : 0 < r := by exact_mod_cast hs
    have h1 : Ideal.sqrt (r : EReal) = ((Real.sqrt r : ℝ) : EReal) := if_neg (not_lt.2 hr.le)
    have h2 : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.2 hr.le), if_neg hr.ne']
    rw [h1, h2, Ideal.div_coe (Real.sqrt_pos.2 hr).ne', one_div]

theorem width_eq : width = ((128 : ℝ) : EReal) := by
  unfold width
  simp [Ideal.ofBits, Ideal.ieee, -EReal.coe_mul]
  try norm_num

theorem quarter_eq : quarter = ((1 / 4 : ℝ) : EReal) := by
  unfold quarter
  simp [Ideal.ofBits, Ideal.ieee, -EReal.coe_mul]
  try norm_num

theorem sixteen_eq : Ideal.ofBits .f32 0x41800000#32 = ((16 : ℝ) : EReal) := by
  simp [Ideal.ofBits, Ideal.ieee, -EReal.coe_mul]
  try norm_num

theorem eps_pos : 0 < eps := by
  unfold eps
  simp [Ideal.ofBits, Ideal.ieee, -EReal.coe_mul]
  try norm_num

/-- Dividing by the root of the heads' width is multiplying by a quarter. -/
theorem div_four (a : EReal) : Ideal.div a (Ideal.sqrt (Ideal.ofBits .f32 0x41800000#32)) = a * quarter := by
  have h : Real.sqrt 16 = 4 := by rw [show (16 : ℝ) = 4 ^ 2 by norm_num]; exact Real.sqrt_sq (by norm_num)
  have h1 : Ideal.sqrt ((16 : ℝ) : EReal) = ((4 : ℝ) : EReal) := by
    rw [← h]; exact if_neg (by norm_num)
  rw [sixteen_eq, h1, Ideal.div_coe (by norm_num), quarter_eq]

theorem sq_nonneg (a : EReal) : 0 ≤ a * a := by
  rcases le_total 0 a with h | h
  · exact mul_nonneg h h
  · have := mul_nonneg (EReal.neg_nonneg.2 h) (EReal.neg_nonneg.2 h)
    rwa [neg_mul_neg] at this

/-- What the root in a normalisation is taken of is positive. -/
theorem var_pos (f : Fin 128 → EReal) : 0 < var f + eps := by
  refine lt_of_lt_of_le eps_pos (le_add_of_nonneg_left ?_)
  unfold var mean
  rw [width_eq, Ideal.div_coe (by norm_num)]
  exact mul_nonneg (Finset.sum_nonneg fun _ _ => sq_nonneg _) (by exact_mod_cast (by norm_num : (0 : ℝ) ≤ 1 / 128))

/-- A row normalised, the root divided by. -/
theorem norm_div (f g b : Fin 128 → EReal) (e : Fin 128) :
    Ideal.div (f e - mean f) (Ideal.sqrt (var f + eps)) * g e + b e = norm f g b e := by
  rw [div_sqrt _ _ (var_pos f)]; rfl

end Cert.Enc

end
-- ==== Proof.RefOps.lean ====
/- The pieces of the reference's computation, each read at an index: it treats every sequence by itself. -/
module

public import proofs.«01_k».proof.Proof.Gen.ReferenceIdeal
public import proofs.«01_k».proof.Proof.Algebra
public import Idealize.ShloMosaic.Lib.Pointwise
public import Idealize.ShloMosaic.Lib.IdealHost
public import Idealize.ShloMosaic.Lib.KernelVsHost

@[expose] public section

set_option maxRecDepth 16384

noncomputable section

namespace Cert.ReferenceIdeal.Encoder

open Cert.ReferenceIdeal Cert.ReferenceIdeal.Gen
open Idealize.ShloMosaic Cert.Enc

/-! ## The pieces -/

/-- A row of 128 numbers, one of two, under each of the rows. -/
def rRow (l : Fin 2) (hb : S2x128.Slices ![l.val, 0] S1x128) (b : FVec Ideal S2x128 .f32) : FVec Ideal S1632x56x128 .f32 :=
  broadcastInDim S1632x56x128 ![0, 1, 2] bcast_S1x1x128_S1632x56x128_0_1_2 (broadcastInDim S1x1x128 ![2] bcast_S128_S1x1x128_2
    (shapeCast S128 (extractStridedSlice S1x128 ![l.val, 0] b hb) shapeCasts_S1x128_S128))

/-- The queries, keys and values of every row. -/
def rQkv (l : Fin 2) (hW : S2x384x128.Slices ![l.val, 0, 0] S1x384x128) (hb : S2x384.Slices ![l.val, 0] S1x384)
    (x : FVec Ideal S1632x56x128 .f32) (W : FVec Ideal S2x384x128 .f32) (b : FVec Ideal S2x384 .f32) : FVec Ideal S1632x56x384 .f32 :=
  addf (Host.dotGeneral dot_S1632x56x128_S128x384_S1632x56x384_2_0_01_1_n_n none x
      (transpose S128x384 [1, 0] (shapeCast S384x128 (extractStridedSlice S1x384x128 ![l.val, 0, 0] W hW) shapeCasts_S1x384x128_S384x128)
        transposes_S384x128_S128x384_1_0))
    (broadcastInDim S1632x56x384 ![0, 1, 2] bcast_S1x1x384_S1632x56x384_0_1_2 (broadcastInDim S1x1x384 ![2] bcast_S384_S1x1x384_2
      (shapeCast S384 (extractStridedSlice S1x384 ![l.val, 0] b hb) shapeCasts_S1x384_S384)))

/-- The queries, the keys or the values, by heads. -/
def rPart (o : ℕ) (hs : S1632x56x384.Slices ![0, 0, o] S1632x56x128) (y : FVec Ideal S1632x56x384 .f32) : FVec Ideal S1632x8x56x16 .f32 :=
  transpose S1632x8x56x16 [0, 2, 1, 3] (shapeCast S1632x56x8x16 (extractStridedSlice S1632x56x128 ![0, 0, o] y hs)
    shapeCasts_S1632x56x128_S1632x56x8x16) transposes_S1632x56x8x16_S1632x8x56x16_0_2_1_3

/-- The bias of the keys. -/
def rBias (mask : FVec Ideal S1632x56 .f32) : FVec Ideal S1632x1x1x56 .f32 :=
  mulf (broadcastInDim S1632x1x1x56 ![0, 3] bcast_S1632x56_S1632x1x1x56_0_3
      (subf (broadcastInDim S1632x56 ![] bcast_S_S1632x56 (constant S_ .f32 0x3F800000#32)) mask))
    (broadcastInDim S1632x1x1x56 ![] bcast_S_S1632x1x1x56 (constant S_ .f32 0xCE6E6B28#32))

/-- The scores of every head. -/
def rScore (bias : FVec Ideal S1632x1x1x56 .f32) (q k : FVec Ideal S1632x8x56x16 .f32) : FVec Ideal S1632x8x56x56 .f32 :=
  addf (Host.divf (Host.dotGeneral dot_S1632x8x56x16_S1632x8x56x16_S1632x8x56x56_3_3_2_2_01_01 none q k)
      (broadcastInDim S1632x8x56x56 ![] bcast_S_S1632x8x56x56 (Host.sqrt (constant S_ .f32 0x41800000#32))))
    (broadcastInDim S1632x8x56x56 ![0, 1, 2, 3] bcast_S1632x1x1x56_S1632x8x56x56_0_1_2_3 bias)

/-- The greatest score of every row. -/
def rMax (s : FVec Ideal S1632x8x56x56 .f32) : FVec Ideal S1632x8x56 .f32 :=
  Host.reduce FloatOps.maximumf s (constant S_ .f32 0xFF800000#32) reducesTo_S1632x8x56x56_S1632x8x56_d3 h_S_

/-- The exponentials of the scores less their maxima. -/
def rExp (s : FVec Ideal S1632x8x56x56 .f32) (M : FVec Ideal S1632x8x56 .f32) : FVec Ideal S1632x8x56x56 .f32 :=
  Host.exp (subf s (broadcastInDim S1632x8x56x56 ![0, 1, 2, 3] bcast_S1632x8x56x1_S1632x8x56x56_0_1_2_3
    (broadcastInDim S1632x8x56x1 ![0, 1, 2] bcast_S1632x8x56_S1632x8x56x1_0_1_2
      (maximumf (broadcastInDim S1632x8x56 ![] bcast_S_S1632x8x56 (constant S_ .f32 0xFF800000#32)) M))))

/-- The heads' weighted means, side by side. -/
def rMeans (p : FVec Ideal S1632x8x56x56 .f32) (v : FVec Ideal S1632x8x56x16 .f32) : FVec Ideal S1632x56x128 .f32 :=
  shapeCast S1632x56x128 (transpose S1632x56x8x16 [0, 2, 1, 3]
    (Host.dotGeneral dot_S1632x8x56x56_S1632x8x56x16_S1632x8x56x16_3_2_2_3_01_01 none
      (Host.divf p (broadcastInDim S1632x8x56x56 ![0, 1, 2, 3] bcast_S1632x8x56x1_S1632x8x56x56_0_1_2_3
        (broadcastInDim S1632x8x56x1 ![0, 1, 2] bcast_S1632x8x56_S1632x8x56x1_0_1_2
          (Host.reduceAdd p (constant S_ .f32 0x00000000#32) reducesTo_S1632x8x56x56_S1632x8x56_d3 h_S_)))) v)
    transposes_S1632x8x56x16_S1632x56x8x16_0_2_1_3) shapeCasts_S1632x56x8x16_S1632x56x128

/-- A product with one of two square matrices. -/
def rProj (l : Fin 2) (hW : S2x128x128.Slices ![l.val, 0, 0] S1x128x128) (x : FVec Ideal S1632x56x128 .f32) (W : FVec Ideal S2x128x128 .f32) :
    FVec Ideal S1632x56x128 .f32 :=
  Host.dotGeneral dot_S1632x56x128_S128x128_S1632x56x128_2_0_01_1_n_n none x
    (transpose S128x128 [1, 0] (shapeCast S128x128 (extractStridedSlice S1x128x128 ![l.val, 0, 0] W hW) shapeCasts_S1x128x128_S128x128)
      transposes_S128x128_S128x128_1_0)

/-- The mean of every row. -/
def rMean (x : FVec Ideal S1632x56x128 .f32) : FVec Ideal S1632x56x1 .f32 :=
  Host.divf (broadcastInDim S1632x56x1 ![0, 1] bcast_S1632x56_S1632x56x1_0_1
      (Host.reduceAdd x (constant S_ .f32 0x00000000#32) reducesTo_S1632x56x128_S1632x56_d2 h_S_))
    (broadcastInDim S1632x56x1 ![] bcast_S_S1632x56x1 (constant S_ .f32 0x43000000#32))

/-- Every row less its mean. -/
def rCentred (x : FVec Ideal S1632x56x128 .f32) : FVec Ideal S1632x56x128 .f32 :=
  subf x (broadcastInDim S1632x56x128 ![0, 1, 2] bcast_S1632x56x1_S1632x56x128_0_1_2 (rMean x))

/-- Every row normalised, scaled and shifted. -/
def rNorm (l : Fin 2) (hb : S2x128.Slices ![l.val, 0] S1x128) (x : FVec Ideal S1632x56x128 .f32) (g b : FVec Ideal S2x128 .f32) :
    FVec Ideal S1632x56x128 .f32 :=
  addf (mulf (Host.divf (rCentred x) (broadcastInDim S1632x56x128 ![0, 1, 2] bcast_S1632x56x1_S1632x56x128_0_1_2
      (Host.sqrt (addf (rMean (mulf (rCentred x) (rCentred x))) (broadcastInDim S1632x56x1 ![] bcast_S_S1632x56x1 (constant S_ .f32 0x3727C5AC#32))))))
    (rRow l hb g)) (rRow l hb b)

/-- The feed-forward map of every row. -/
def rFeed (l : Fin 2) (h1 : S2x512x128.Slices ![l.val, 0, 0] S1x512x128) (hc : S2x512.Slices ![l.val, 0] S1x512)
    (h2 : S2x128x512.Slices ![l.val, 0, 0] S1x128x512) (hb : S2x128.Slices ![l.val, 0] S1x128) (x : FVec Ideal S1632x56x128 .f32)
    (W1 : FVec Ideal S2x512x128 .f32) (b1 : FVec Ideal S2x512 .f32) (W2 : FVec Ideal S2x128x512 .f32) (b2 : FVec Ideal S2x128 .f32) :
    FVec Ideal S1632x56x128 .f32 :=
  addf (Host.dotGeneral dot_S1632x56x512_S512x128_S1632x56x128_2_0_01_1_n_n none
      (maximumf (addf (Host.dotGeneral dot_S1632x56x128_S128x512_S1632x56x512_2_0_01_1_n_n none x
            (transpose S128x512 [1, 0] (shapeCast S512x128 (extractStridedSlice S1x512x128 ![l.val, 0, 0] W1 h1) shapeCasts_S1x512x128_S512x128)
              transposes_S512x128_S128x512_1_0))
          (broadcastInDim S1632x56x512 ![0, 1, 2] bcast_S1x1x512_S1632x56x512_0_1_2 (broadcastInDim S1x1x512 ![2] bcast_S512_S1x1x512_2
            (shapeCast S512 (extractStridedSlice S1x512 ![l.val, 0] b1 hc) shapeCasts_S1x512_S512))))
        (broadcastInDim S1632x56x512 ![] bcast_S_S1632x56x512 (constant S_ .f32 0x00000000#32)))
      (transpose S512x128 [1, 0] (shapeCast S128x512 (extractStridedSlice S1x128x512 ![l.val, 0, 0] W2 h2) shapeCasts_S1x128x512_S128x512)
        transposes_S128x512_S512x128_1_0)) (rRow l hb b2)

/-- Each token's vector times its mask. -/
def rSeq (x : FVec Ideal S1632x56x128 .f32) (mask : FVec Ideal S1632x56 .f32) : FVec Ideal S1632x56x128 .f32 :=
  mulf x (broadcastInDim S1632x56x128 ![0, 1, 2] bcast_S1632x56x1_S1632x56x128_0_1_2
    (broadcastInDim S1632x56x1 ![0, 1] bcast_S1632x56_S1632x56x1_0_1 mask))

/-- The mix of the sequences with their encoding, the masked rows zero. -/
def rMixed (x : FVec Ideal S1632x56x128 .f32) (mask : FVec Ideal S1632x56 .f32) (mixer : FVec Ideal S1 .f32) (y : FVec Ideal S1632x56x128 .f32) :
    FVec Ideal S1632x56x128 .f32 :=
  rSeq (addf (mulf (broadcastInDim S1632x56x128 ![0, 1, 2] bcast_S1x1x1_S1632x56x128_0_1_2 (broadcastInDim S1x1x1 ![2] bcast_S1_S1x1x1_2 mixer)) x)
    (mulf (broadcastInDim S1632x56x128 ![0, 1, 2] bcast_S1x1x1_S1632x56x128_0_1_2 (broadcastInDim S1x1x1 ![2] bcast_S1_S1x1x1_2
      (subf (broadcastInDim S1 ![] bcast_S_S1 (constant S_ .f32 0x3F800000#32)) mixer))) y)) mask

/-- Every row divided by its norm. -/
def rUnit (z : FVec Ideal S1632x56x128 .f32) : FVec Ideal S1632x56x128 .f32 :=
  Host.divf z (broadcastInDim S1632x56x128 ![0, 1, 2] bcast_S1632x56x1_S1632x56x128_0_1_2
    (addf (Host.sqrt (broadcastInDim S1632x56x1 ![0, 1] bcast_S1632x56_S1632x56x1_0_1
        (Host.reduceAdd (mulf z z) (constant S_ .f32 0x00000000#32) reducesTo_S1632x56x128_S1632x56_d2 h_S_)))
      (broadcastInDim S1632x56x1 ![] bcast_S_S1632x56x1 (constant S_ .f32 0x29E12E13#32))))

/-! ## The pieces at an index -/

/-- Sequence `n` of an array of sequences. -/
def seqs {N : ℕ} (x : FVec Ideal (⟨3, ![1632, 56, N]⟩ : Shape) .f32) (n : Fin 1632) : Mat 56 N := fun i e => x (ix3 n i e)

theorem bot_bits : Ideal.ofBits .f32 0xFF800000#32 = ⊥ := by simp [Ideal.ofBits, Ideal.ieee]

theorem rRow_apply (l : Fin 2) (hb : S2x128.Slices ![l.val, 0] S1x128) (b : FVec Ideal S2x128 .f32) (n : Fin 1632) (i : Fin 56) (e : Fin 128) :
    rRow l hb b (ix3 n i e) = b (ix2 l e) := by
  pointwise [rRow]

theorem rQkv_apply (l : Fin 2) (hW : S2x384x128.Slices ![l.val, 0, 0] S1x384x128) (hb : S2x384.Slices ![l.val, 0] S1x384)
    (x : FVec Ideal S1632x56x128 .f32) (W : FVec Ideal S2x384x128 .f32) (b : FVec Ideal S2x384 .f32) (n : Fin 1632) :
    seqs (rQkv l hW hb x W b) n = lin (seqs x n) (fun j k => W (ix3 l j k)) (fun j => b (ix2 l j)) := by
  funext i j; pointwise [rQkv, seqs, lin]

theorem rPart_apply (o : ℕ) (ho : o + 128 ≤ 384) (hs : S1632x56x384.Slices ![0, 0, o] S1632x56x128) (y : FVec Ideal S1632x56x384 .f32)
    (n : Fin 1632) (h : Fin 8) (i : Fin 56) (d : Fin 16) : rPart o hs y (ix4 n h i d) = part (seqs y n) o ho i (col h d) := by
  pointwise [rPart, part, seqs, col]
  exact congrArg (fun e => y (ix3 n i e)) (Fin.ext (by show o + (h.val * 16 + d.val) = o + (16 * h.val + d.val); omega))

theorem rScore_apply (mask : FVec Ideal S1632x56 .f32) (q k : FVec Ideal S1632x8x56x16 .f32) (n : Fin 1632) (h : Fin 8) (i j : Fin 56) :
    rScore (rBias mask) q k (ix4 n h i j) = (∑ d : Fin 16, q (ix4 n h i d) * k (ix4 n h j d)) * quarter + maskBias (fun j => mask (ix2 n j)) j := by
  pointwise [rScore, rBias, maskBias, lowered, div_four, Ideal.ofBits_one_f32]

theorem rMax_apply (s : FVec Ideal S1632x8x56x56 .f32) (n : Fin 1632) (h : Fin 8) (i : Fin 56) :
    rMax s (ix3 n h i) = rowMax fun j => s (ix4 n h i j) := by
  rw [rMax, hostReduce_maximumf_eq_multiReduction s 0xFF800000#32 _ _ (by decide) (.inl rfl) rfl]
  pointwise [rowMax, bot_bits]

theorem rExp_apply (s : FVec Ideal S1632x8x56x56 .f32) (M : FVec Ideal S1632x8x56 .f32) (n : Fin 1632) (h : Fin 8) (i j : Fin 56) :
    rExp s M (ix4 n h i j) = Ideal.exp (s (ix4 n h i j) - M (ix3 n h i)) := by
  rw [← max_eq_right (bot_le : ⊥ ≤ M (ix3 n h i))]
  pointwise [rExp, bot_bits]

theorem rMeans_apply (p : FVec Ideal S1632x8x56x56 .f32) (v : FVec Ideal S1632x8x56x16 .f32) (n : Fin 1632) (i : Fin 56) (e : Fin 128) :
    rMeans p v (ix3 n i e) = ∑ j, Ideal.div (p (ix4 n ⟨e / 16, by omega⟩ i j)) (∑ j, p (ix4 n ⟨e / 16, by omega⟩ i j))
      * v (ix4 n ⟨e / 16, by omega⟩ j ⟨e % 16, by omega⟩) := by
  pointwise [rMeans]

theorem rProj_apply (l : Fin 2) (hW : S2x128x128.Slices ![l.val, 0, 0] S1x128x128) (x : FVec Ideal S1632x56x128 .f32)
    (W : FVec Ideal S2x128x128 .f32) (n : Fin 1632) (i : Fin 56) (e : Fin 128) :
    rProj l hW x W (ix3 n i e) = ∑ k, seqs x n i k * W (ix3 l e k) := by
  pointwise [rProj, seqs]

theorem rNorm_apply (l : Fin 2) (hb : S2x128.Slices ![l.val, 0] S1x128) (x : FVec Ideal S1632x56x128 .f32) (g b : FVec Ideal S2x128 .f32)
    (n : Fin 1632) (i : Fin 56) : seqs (rNorm l hb x g b) n i = Enc.norm (seqs x n i) (fun e => g (ix2 l e)) (fun e => b (ix2 l e)) := by
  funext e
  rw [← norm_div]
  pointwise [rNorm, rRow_apply, rCentred, rMean, seqs, var, mean, width, eps]

theorem rFeed_apply (l : Fin 2) (h1 : S2x512x128.Slices ![l.val, 0, 0] S1x512x128) (hc : S2x512.Slices ![l.val, 0] S1x512)
    (h2 : S2x128x512.Slices ![l.val, 0, 0] S1x128x512) (hb : S2x128.Slices ![l.val, 0] S1x128) (x : FVec Ideal S1632x56x128 .f32)
    (W1 : FVec Ideal S2x512x128 .f32) (b1 : FVec Ideal S2x512 .f32) (W2 : FVec Ideal S2x128x512 .f32) (b2 : FVec Ideal S2x128 .f32) (n : Fin 1632) :
    seqs (rFeed l h1 hc h2 hb x W1 b1 W2 b2) n
      = lin (fun i j => max (lin (seqs x n) (fun j k => W1 (ix3 l j k)) (fun j => b1 (ix2 l j)) i j) 0)
        (fun j k => W2 (ix3 l j k)) (fun j => b2 (ix2 l j)) := by
  funext i j; pointwise [rFeed, rRow_apply, seqs, lin]

theorem rSeq_apply (x : FVec Ideal S1632x56x128 .f32) (mask : FVec Ideal S1632x56 .f32) (n : Fin 1632) :
    seqs (rSeq x mask) n = fun i e => x (ix3 n i e) * mask (ix2 n i) := by
  funext i e; pointwise [rSeq, seqs]

theorem rMixed_apply (x : FVec Ideal S1632x56x128 .f32) (mask : FVec Ideal S1632x56 .f32) (mixer : FVec Ideal S1 .f32)
    (y : FVec Ideal S1632x56x128 .f32) (n : Fin 1632) (i : Fin 56) (e : Fin 128) :
    rMixed x mask mixer y (ix3 n i e) = (mixer (ix1 0) * seqs x n i e + (1 - mixer (ix1 0)) * seqs y n i e) * mask (ix2 n i) := by
  pointwise [rMixed, rSeq, seqs, Ideal.ofBits_one_f32]

theorem rUnit_apply (z : FVec Ideal S1632x56x128 .f32) (n : Fin 1632) (i : Fin 56) : seqs (rUnit z) n i = Enc.unit (seqs z n i) := by
  funext e; pointwise [rUnit, seqs, Enc.unit, tiny]

/-- The heads' means of one layer, from its queries, keys and values. -/
def rAttend (mask : FVec Ideal S1632x56 .f32) (y : FVec Ideal S1632x56x384 .f32) : FVec Ideal S1632x56x128 .f32 :=
  let s := rScore (rBias mask) (rPart 0 slices_S1632x56x384_S1632x56x128_0_0_0 y) (rPart 128 slices_S1632x56x384_S1632x56x128_0_0_128 y)
  rMeans (rExp s (rMax s)) (rPart 256 slices_S1632x56x384_S1632x56x128_0_0_256 y)

theorem rAttend_apply (mask : FVec Ideal S1632x56 .f32) (y : FVec Ideal S1632x56x384 .f32) (n : Fin 1632) :
    seqs (rAttend mask y) n = attend (part (seqs y n) 0 (by omega)) (part (seqs y n) 128 (by omega)) (part (seqs y n) 256 (by omega))
      (maskBias fun j => mask (ix2 n j)) := by
  funext i e
  show rAttend mask y (ix3 n i e) = _
  unfold rAttend
  simp only [rMeans_apply, rExp_apply, rMax_apply, rScore_apply, rPart_apply _ (show 0 + 128 ≤ 384 by omega),
    rPart_apply _ (show 128 + 128 ≤ 384 by omega), rPart_apply _ (show 256 + 128 ≤ 384 by omega)]
  rfl

/-- The first half of a layer. -/
def rHalf (l : Fin 2) (hq : S2x384x128.Slices ![l.val, 0, 0] S1x384x128) (hbq : S2x384.Slices ![l.val, 0] S1x384)
    (ho : S2x128x128.Slices ![l.val, 0, 0] S1x128x128) (h1 : S2x512x128.Slices ![l.val, 0, 0] S1x512x128)
    (hb1 : S2x512.Slices ![l.val, 0] S1x512) (h2 : S2x128x512.Slices ![l.val, 0, 0] S1x128x512) (hb : S2x128.Slices ![l.val, 0] S1x128)
    (x : FVec Ideal S1632x56x128 .f32) (mask : FVec Ideal S1632x56 .f32)
    (Wqkv : FVec Ideal S2x384x128 .f32) (bqkv : FVec Ideal S2x384 .f32) (Wo : FVec Ideal S2x128x128 .f32) (bo : FVec Ideal S2x128 .f32)
    (W1 : FVec Ideal S2x512x128 .f32) (b1 : FVec Ideal S2x512 .f32) (W2 : FVec Ideal S2x128x512 .f32) (b2 g1 n1 g2 n2 : FVec Ideal S2x128 .f32) : FVec Ideal S1632x56x128 .f32 :=
  rNorm l hb (addf (addf x (rProj l ho (rAttend mask (rQkv l hq hbq x Wqkv bqkv)) Wo)) (rRow l hb bo)) g1 n1

/-- One layer. -/
def rLayer (l : Fin 2) (hq : S2x384x128.Slices ![l.val, 0, 0] S1x384x128) (hbq : S2x384.Slices ![l.val, 0] S1x384)
    (ho : S2x128x128.Slices ![l.val, 0, 0] S1x128x128) (h1 : S2x512x128.Slices ![l.val, 0, 0] S1x512x128)
    (hb1 : S2x512.Slices ![l.val, 0] S1x512) (h2 : S2x128x512.Slices ![l.val, 0, 0] S1x128x512) (hb : S2x128.Slices ![l.val, 0] S1x128)
    (x : FVec Ideal S1632x56x128 .f32) (mask : FVec Ideal S1632x56 .f32)
    (Wqkv : FVec Ideal S2x384x128 .f32) (bqkv : FVec Ideal S2x384 .f32) (Wo : FVec Ideal S2x128x128 .f32) (bo : FVec Ideal S2x128 .f32)
    (W1 : FVec Ideal S2x512x128 .f32) (b1 : FVec Ideal S2x512 .f32) (W2 : FVec Ideal S2x128x512 .f32) (b2 g1 n1 g2 n2 : FVec Ideal S2x128 .f32) : FVec Ideal S1632x56x128 .f32 :=
  let y := rHalf l hq hbq ho h1 hb1 h2 hb x mask Wqkv bqkv Wo bo W1 b1 W2 b2 g1 n1 g2 n2
  rNorm l hb (addf y (rFeed l h1 hb1 h2 hb y W1 b1 W2 b2)) g2 n2

/-- One layer treats each sequence as the layer of `Spec` does. -/
theorem rLayer_apply (l : Fin 2) (hq : S2x384x128.Slices ![l.val, 0, 0] S1x384x128) (hbq : S2x384.Slices ![l.val, 0] S1x384)
    (ho : S2x128x128.Slices ![l.val, 0, 0] S1x128x128) (h1 : S2x512x128.Slices ![l.val, 0, 0] S1x512x128)
    (hb1 : S2x512.Slices ![l.val, 0] S1x512) (h2 : S2x128x512.Slices ![l.val, 0, 0] S1x128x512) (hb : S2x128.Slices ![l.val, 0] S1x128)
    (x : FVec Ideal S1632x56x128 .f32) (mask : FVec Ideal S1632x56 .f32)
    (Wqkv : FVec Ideal S2x384x128 .f32) (bqkv : FVec Ideal S2x384 .f32) (Wo : FVec Ideal S2x128x128 .f32) (bo : FVec Ideal S2x128 .f32)
    (W1 : FVec Ideal S2x512x128 .f32) (b1 : FVec Ideal S2x512 .f32) (W2 : FVec Ideal S2x128x512 .f32) (b2 g1 n1 g2 n2 : FVec Ideal S2x128 .f32) (n : Fin 1632) :
    seqs (rLayer l hq hbq ho h1 hb1 h2 hb x mask Wqkv bqkv Wo bo W1 b1 W2 b2 g1 n1 g2 n2) n
      = layer (seqs x n) (maskBias fun j => mask (ix2 n j)) (layerWeights Wqkv bqkv Wo bo W1 b1 W2 b2 g1 n1 g2 n2 l) := by
  have hadd (y z : FVec Ideal S1632x56x128 .f32) (i : Fin 56) : seqs (addf y z) n i = fun e => seqs y n i e + seqs z n i e := rfl
  have hhalf : seqs (rHalf l hq hbq ho h1 hb1 h2 hb x mask Wqkv bqkv Wo bo W1 b1 W2 b2 g1 n1 g2 n2) n
      = half (seqs x n) (maskBias fun j => mask (ix2 n j)) (layerWeights Wqkv bqkv Wo bo W1 b1 W2 b2 g1 n1 g2 n2 l) := by
    funext i
    have h (e : Fin 128) : seqs (rProj l ho (rAttend mask (rQkv l hq hbq x Wqkv bqkv)) Wo) n i e + seqs (rRow l hb bo) n i e
        = attn (seqs x n) (maskBias fun j => mask (ix2 n j)) (layerWeights Wqkv bqkv Wo bo W1 b1 W2 b2 g1 n1 g2 n2 l) i e := by
      show rProj l ho _ Wo (ix3 n i e) + rRow l hb bo (ix3 n i e) = _
      rw [rProj_apply, rRow_apply, rAttend_apply, rQkv_apply]
      rfl
    rw [rHalf, rNorm_apply]
    simp only [hadd, add_assoc, h]
    rfl
  funext i
  rw [rLayer, rNorm_apply, hadd, rFeed_apply, hhalf]
  rfl

end Cert.ReferenceIdeal.Encoder

end
-- ==== Proof.RefValue.lean ====
/- The reference's result: each sequence of it is what that sequence of the inputs becomes. -/
module

public import proofs.«01_k».proof.Proof.Gen.ReferenceIdeal.Run
public import proofs.«01_k».proof.Proof.RefOps

@[expose] public section

set_option maxRecDepth 16384

noncomputable section

namespace Cert.ReferenceIdeal.Encoder

open Cert.ReferenceIdeal Cert.ReferenceIdeal.Gen Cert.ReferenceIdeal.Value
open Idealize.ShloMosaic Idealize.ShloMosaic.TcCoe Idealize.ShloMosaic.StableHlo Idealize.SL.Sem Cert.Enc

variable (V0 : Valuation τ sig (Elt Ideal))

/-- What a buffer holds. -/
abbrev A (b : Ref sig .tc) := V0 (Proc.devRef .tc b)

/-! ## The named values are the pieces of `RefOps` -/

theorem eq_v2 : res_main_v2 V0 = rSeq (A V0 main_arg0) (A V0 main_arg1) := rfl

theorem eq_v16 : res_main_v16 V0 = rQkv 0 slices_S2x384x128_S1x384x128_0_0_0 slices_S2x384_S1x384_0_0 (res_main_v2 V0) (A V0 main_arg3) (A V0 main_arg4) := rfl
theorem eq_v31 : res_main_v31 V0 = rScore (rBias (A V0 main_arg1)) (rPart 0 slices_S1632x56x384_S1632x56x128_0_0_0 (res_main_v16 V0))
    (rPart 128 slices_S1632x56x384_S1632x56x128_0_0_128 (res_main_v16 V0)) := rfl
theorem eq_v38 : res_main_v38 V0 = rExp (res_main_v31 V0) (rMax (res_main_v31 V0)) := rfl
theorem eq_v55 : res_main_v55 V0 = addf (addf (res_main_v2 V0) (rProj 0 slices_S2x128x128_S1x128x128_0_0_0 (rMeans (res_main_v38 V0)
    (rPart 256 slices_S1632x56x384_S1632x56x128_0_0_256 (res_main_v16 V0))) (A V0 main_arg5))) (rRow 0 slices_S2x128_S1x128_0_0 (A V0 main_arg6)) := rfl
theorem eq_v65 : res_main_v65 V0 = rCentred (res_main_v55 V0) := rfl
theorem eq_v83 : res_main_v83 V0 = rHalf 0 slices_S2x384x128_S1x384x128_0_0_0 slices_S2x384_S1x384_0_0 slices_S2x128x128_S1x128x128_0_0_0 slices_S2x512x128_S1x512x128_0_0_0 slices_S2x512_S1x512_0_0 slices_S2x128x512_S1x128x512_0_0_0 slices_S2x128_S1x128_0_0
    (res_main_v2 V0) (A V0 main_arg1) (A V0 main_arg3) (A V0 main_arg4) (A V0 main_arg5) (A V0 main_arg6) (A V0 main_arg7) (A V0 main_arg8) (A V0 main_arg9) (A V0 main_arg10) (A V0 main_arg11) (A V0 main_arg12) (A V0 main_arg13) (A V0 main_arg14) := by
  have h : res_main_v83 V0 = rNorm 0 slices_S2x128_S1x128_0_0 (res_main_v55 V0) (A V0 main_arg11) (A V0 main_arg12) := rfl
  rw [h, eq_v55, eq_v38, eq_v31, eq_v16]
  rfl
theorem eq_v103 : res_main_v103 V0 = addf (res_main_v83 V0) (rFeed 0 slices_S2x512x128_S1x512x128_0_0_0 slices_S2x512_S1x512_0_0 slices_S2x128x512_S1x128x512_0_0_0 slices_S2x128_S1x128_0_0
    (res_main_v83 V0) (A V0 main_arg7) (A V0 main_arg8) (A V0 main_arg9) (A V0 main_arg10)) := rfl
theorem eq_v131 : res_main_v131 V0 = rLayer 0 slices_S2x384x128_S1x384x128_0_0_0 slices_S2x384_S1x384_0_0 slices_S2x128x128_S1x128x128_0_0_0 slices_S2x512x128_S1x512x128_0_0_0 slices_S2x512_S1x512_0_0 slices_S2x128x512_S1x128x512_0_0_0 slices_S2x128_S1x128_0_0
    (res_main_v2 V0) (A V0 main_arg1) (A V0 main_arg3) (A V0 main_arg4) (A V0 main_arg5) (A V0 main_arg6) (A V0 main_arg7) (A V0 main_arg8) (A V0 main_arg9) (A V0 main_arg10) (A V0 main_arg11) (A V0 main_arg12) (A V0 main_arg13) (A V0 main_arg14) := by
  have h : res_main_v131 V0 = rNorm 0 slices_S2x128_S1x128_0_0 (res_main_v103 V0) (A V0 main_arg13) (A V0 main_arg14) := rfl
  rw [h, eq_v103, eq_v83]
  rfl

theorem eq_v140 : res_main_v140 V0 = rQkv 1 slices_S2x384x128_S1x384x128_1_0_0 slices_S2x384_S1x384_1_0 (res_main_v131 V0) (A V0 main_arg3) (A V0 main_arg4) := rfl
theorem eq_v155 : res_main_v155 V0 = rScore (rBias (A V0 main_arg1)) (rPart 0 slices_S1632x56x384_S1632x56x128_0_0_0 (res_main_v140 V0))
    (rPart 128 slices_S1632x56x384_S1632x56x128_0_0_128 (res_main_v140 V0)) := rfl
theorem eq_v162 : res_main_v162 V0 = rExp (res_main_v155 V0) (rMax (res_main_v155 V0)) := rfl
theorem eq_v179 : res_main_v179 V0 = addf (addf (res_main_v131 V0) (rProj 1 slices_S2x128x128_S1x128x128_1_0_0 (rMeans (res_main_v162 V0)
    (rPart 256 slices_S1632x56x384_S1632x56x128_0_0_256 (res_main_v140 V0))) (A V0 main_arg5))) (rRow 1 slices_S2x128_S1x128_1_0 (A V0 main_arg6)) := rfl
theorem eq_v189 : res_main_v189 V0 = rCentred (res_main_v179 V0) := rfl
theorem eq_v207 : res_main_v207 V0 = rHalf 1 slices_S2x384x128_S1x384x128_1_0_0 slices_S2x384_S1x384_1_0 slices_S2x128x128_S1x128x128_1_0_0 slices_S2x512x128_S1x512x128_1_0_0 slices_S2x512_S1x512_1_0 slices_S2x128x512_S1x128x512_1_0_0 slices_S2x128_S1x128_1_0
    (res_main_v131 V0) (A V0 main_arg1) (A V0 main_arg3) (A V0 main_arg4) (A V0 main_arg5) (A V0 main_arg6) (A V0 main_arg7) (A V0 main_arg8) (A V0 main_arg9) (A V0 main_arg10) (A V0 main_arg11) (A V0 main_arg12) (A V0 main_arg13) (A V0 main_arg14) := by
  have h : res_main_v207 V0 = rNorm 1 slices_S2x128_S1x128_1_0 (res_main_v179 V0) (A V0 main_arg11) (A V0 main_arg12) := rfl
  rw [h, eq_v179, eq_v162, eq_v155, eq_v140]
  rfl
theorem eq_v227 : res_main_v227 V0 = addf (res_main_v207 V0) (rFeed 1 slices_S2x512x128_S1x512x128_1_0_0 slices_S2x512_S1x512_1_0 slices_S2x128x512_S1x128x512_1_0_0 slices_S2x128_S1x128_1_0
    (res_main_v207 V0) (A V0 main_arg7) (A V0 main_arg8) (A V0 main_arg9) (A V0 main_arg10)) := rfl
theorem eq_v267 : res_main_v267 V0 = rMixed (res_main_v2 V0) (A V0 main_arg1) (A V0 main_arg2) (rLayer 1 slices_S2x384x128_S1x384x128_1_0_0 slices_S2x384_S1x384_1_0 slices_S2x128x128_S1x128x128_1_0_0 slices_S2x512x128_S1x512x128_1_0_0 slices_S2x512_S1x512_1_0 slices_S2x128x512_S1x128x512_1_0_0 slices_S2x128_S1x128_1_0
    (res_main_v131 V0) (A V0 main_arg1) (A V0 main_arg3) (A V0 main_arg4) (A V0 main_arg5) (A V0 main_arg6) (A V0 main_arg7) (A V0 main_arg8) (A V0 main_arg9) (A V0 main_arg10) (A V0 main_arg11) (A V0 main_arg12) (A V0 main_arg13) (A V0 main_arg14)) := by
  have h : res_main_v267 V0 = rMixed (res_main_v2 V0) (A V0 main_arg1) (A V0 main_arg2) (rNorm 1 slices_S2x128_S1x128_1_0 (res_main_v227 V0) (A V0 main_arg13) (A V0 main_arg14)) := rfl
  rw [h, eq_v227, eq_v207]
  rfl

/-- The reference's result, at an index. -/
theorem result_eq : rUnit (res_main_v267 V0) = Encoded (A V0 main_arg0) (A V0 main_arg1) (A V0 main_arg2) (A V0 main_arg3) (A V0 main_arg4) (A V0 main_arg5) (A V0 main_arg6) (A V0 main_arg7) (A V0 main_arg8) (A V0 main_arg9) (A V0 main_arg10) (A V0 main_arg11) (A V0 main_arg12) (A V0 main_arg13) (A V0 main_arg14) := by
  funext j
  obtain ⟨n, i, e, rfl⟩ : ∃ (n : Fin 1632) (i : Fin 56) (e : Fin 128), j = ix3 n i e := ⟨j 0, j 1, j 2, by idx_vars j⟩
  refine (congrFun (rUnit_apply _ n i) e).trans ?_
  have h : seqs (res_main_v267 V0) n i = mixed (seqs (res_main_v2 V0) n) (fun i => A V0 main_arg1 (ix2 n i)) (A V0 main_arg2 (ix1 0))
      (layerWeights (A V0 main_arg3) (A V0 main_arg4) (A V0 main_arg5) (A V0 main_arg6) (A V0 main_arg7) (A V0 main_arg8) (A V0 main_arg9) (A V0 main_arg10) (A V0 main_arg11) (A V0 main_arg12) (A V0 main_arg13) (A V0 main_arg14) 0) (layerWeights (A V0 main_arg3) (A V0 main_arg4) (A V0 main_arg5) (A V0 main_arg6) (A V0 main_arg7) (A V0 main_arg8) (A V0 main_arg9) (A V0 main_arg10) (A V0 main_arg11) (A V0 main_arg12) (A V0 main_arg13) (A V0 main_arg14) 1) i := by
    funext e
    rw [eq_v267]
    refine (rMixed_apply _ _ _ _ n i e).trans ?_
    rw [rLayer_apply, eq_v131, rLayer_apply]
    rfl
  rw [h, eq_v2, rSeq_apply]
  rfl

variable (m : (ℓ : Loc nD τ sig) → Buf (Elt Ideal) ℓ) (ρ : Dev nD → PrngReg)

/-- Every execution of the reference ends with its result at that, the arguments as they were. -/
theorem run : θ_run defs (onTc (τ := τ) (main (F := Ideal))) ⟨m, fun _ => 0, ρ⟩ (fun r => ∀ c : Dev nD,
      r.2.mem ((c : Thread nD τ).loc main_v272) = Encoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)) :=
  (θ_run defs _ _).mono (fun _ h c => ⟨(h c).1.trans (result_eq (launchContents m c)), (h c).2⟩) (Value.run (F := Ideal) m ρ)

end Cert.ReferenceIdeal.Encoder

end
-- ==== Proof.ScoreOps.lean ====
/- The pieces of the scoring kernel's body, and that what the body stores is made of them. -/
module

public import proofs.«01_k».proof.Proof.Gen.Kernel2Ideal
public import proofs.«01_k».proof.Proof.Gen.Kernel2Ideal.Frame
public import proofs.«01_k».proof.Proof.Gen.Kernel2Ideal.Value

@[expose] public section

set_option maxRecDepth 16384

noncomputable section

namespace Cert.Kernel2Ideal.Scoring

open Cert.Kernel2Ideal Cert.Kernel2Ideal.Gen
open Idealize.ShloMosaic

/-- A row of lanes for each query term. -/
abbrev Lanes := FVec Ideal S32x1024 .f32

/-- One row of lanes. -/
abbrev Row := FVec Ideal S1x1024 .f32

/-- Every row moved `n` lanes to the left, zeros coming in. -/
def shl {r : ℕ} (n k : ℕ) (hs : (⟨2, ![r, 1024]⟩ : Shape).Slices ![0, n] ⟨2, ![r, k]⟩)
    (hc : Shape.Concatenates [⟨2, ![r, k]⟩, ⟨2, ![r, n]⟩] ⟨2, ![r, 1024]⟩ 1)
    (a : FVec Ideal ⟨2, ![r, 1024]⟩ .f32) : FVec Ideal ⟨2, ![r, 1024]⟩ .f32 :=
  concatenate ⟨2, ![r, 1024]⟩ 1 [⟨⟨2, ![r, k]⟩, extractStridedSlice ⟨2, ![r, k]⟩ ![0, n] a hs⟩,
    ⟨⟨2, ![r, n]⟩, broadcast ⟨2, ![r, n]⟩ (Scalar.ofBits (F := Ideal) .f32 0x00000000#32)⟩] hc

/-- Every row moved `n` lanes to the right, zeros coming in. -/
def shr {r : ℕ} (n k : ℕ) (hs : (⟨2, ![r, 1024]⟩ : Shape).Slices ![0, 0] ⟨2, ![r, k]⟩)
    (hc : Shape.Concatenates [⟨2, ![r, n]⟩, ⟨2, ![r, k]⟩] ⟨2, ![r, 1024]⟩ 1)
    (a : FVec Ideal ⟨2, ![r, 1024]⟩ .f32) : FVec Ideal ⟨2, ![r, 1024]⟩ .f32 :=
  concatenate ⟨2, ![r, 1024]⟩ 1 [⟨⟨2, ![r, n]⟩, broadcast ⟨2, ![r, n]⟩ (Scalar.ofBits (F := Ideal) .f32 0x00000000#32)⟩,
    ⟨⟨2, ![r, k]⟩, extractStridedSlice ⟨2, ![r, k]⟩ ![0, 0] a hs⟩] hc

/-- The first four steps of the doubling. -/
def prefix4 (a : Lanes) : Lanes :=
  have b : Lanes := addf a (shr 1 1023 slices_S32x1024_o0_0_S32x1023 concatenates_S32x1_S32x1023_S32x1024_d1 a)
  have c : Lanes := addf b (shr 2 1022 slices_S32x1024_o0_0_S32x1022 concatenates_S32x2_S32x1022_S32x1024_d1 b)
  have d : Lanes := addf c (shr 4 1020 slices_S32x1024_o0_0_S32x1020 concatenates_S32x4_S32x1020_S32x1024_d1 c)
  addf d (shr 8 1016 slices_S32x1024_o0_0_S32x1016 concatenates_S32x8_S32x1016_S32x1024_d1 d)

/-- The sums of each row's first lanes, by doubling. -/
def prefixes (a : Lanes) : Lanes :=
  have e : Lanes := prefix4 a
  have f : Lanes := addf e (shr 16 1008 slices_S32x1024_o0_0_S32x1008 concatenates_S32x16_S32x1008_S32x1024_d1 e)
  have g : Lanes := addf f (shr 32 992 slices_S32x1024_o0_0_S32x992 concatenates_S32x32_S32x992_S32x1024_d1 f)
  have h : Lanes := addf g (shr 64 960 slices_S32x1024_o0_0_S32x960 concatenates_S32x64_S32x960_S32x1024_d1 g)
  have i : Lanes := addf h (shr 128 896 slices_S32x1024_o0_0_S32x896 concatenates_S32x128_S32x896_S32x1024_d1 h)
  have j : Lanes := addf i (shr 256 768 slices_S32x1024_o0_0_S32x768 concatenates_S32x256_S32x768_S32x1024_d1 i)
  addf j (shr 512 512 slices_S32x1024_o0_0_S32x512 concatenates_S32x512_S32x512_S32x1024_d1 j)

/-- The first kernel's gain. -/
def sharp0 : Ideal .f32 := Named.named (F := Ideal) κ "sharp0" (φ := .f32) 0x48F42400#32

/-- The other kernels' gain. -/
def sharp : Ideal .f32 := Named.named (F := Ideal) κ "sharp" (φ := .f32) 0x42480000#32

/-- The kernel with mean `μ` and gain `g` at each cosine, times the mask. -/
def bells (μ : BitVec 32) (g : Ideal .f32) (m : Row) (c : Lanes) : Lanes :=
  have d : Lanes := subf c (broadcast S32x1024 (Scalar.ofBits (F := Ideal) .f32 μ))
  mulf (exp (mulf (subf (broadcast S32x1024 (Scalar.ofBits (F := Ideal) .f32 0x00000000#32)) (mulf d d))
    (broadcast S32x1024 g))) (broadcastTo S32x1024 m broadcasts_S1x1024_S32x1024)

/-- The sums over the windows of 25 tokens. -/
def sums25 (e o : Lanes) : Lanes :=
  have p : Lanes := prefixes (addf e o)
  addf (subf (shl 11 1013 slices_S32x1024_o0_11_S32x1013 concatenates_S32x1013_S32x11_S32x1024_d1 p)
      (shr 1 1023 slices_S32x1024_o0_0_S32x1023 concatenates_S32x1_S32x1023_S32x1024_d1 p))
    (shl 12 1012 slices_S32x1024_o0_12_S32x1012 concatenates_S32x1012_S32x12_S32x1024_d1 e)

/-- The sums over the windows of 35 tokens. -/
def sums35 (e o : Lanes) : Lanes :=
  have p : Lanes := prefixes (addf e o)
  addf (subf (shl 16 1008 slices_S32x1024_o0_16_S32x1008 concatenates_S32x1008_S32x16_S32x1024_d1 p)
      (shr 1 1023 slices_S32x1024_o0_0_S32x1023 concatenates_S32x1_S32x1023_S32x1024_d1 p))
    (shl 17 1007 slices_S32x1024_o0_17_S32x1007 concatenates_S32x1007_S32x17_S32x1024_d1 e)

/-- The sums of 4 pairs. -/
def pairs4 (me mo : Row) : Row :=
  have a : Row := addf me mo
  have b : Row := addf a (shl 1 1023 slices_S1x1024_o0_1_S1x1023 concatenates_S1x1023_S1x1_S1x1024_d1 a)
  addf b (shl 2 1022 slices_S1x1024_o0_2_S1x1022 concatenates_S1x1022_S1x2_S1x1024_d1 b)

/-- The sums of 8 pairs. -/
def pairs8 (me mo : Row) : Row :=
  have c : Row := pairs4 me mo
  addf c (shl 4 1020 slices_S1x1024_o0_4_S1x1020 concatenates_S1x1020_S1x4_S1x1024_d1 c)

/-- The number of tokens of each window of 25. -/
def len25 (me mo : Row) : Row :=
  addf (addf (pairs8 me mo) (shl 8 1016 slices_S1x1024_o0_8_S1x1016 concatenates_S1x1016_S1x8_S1x1024_d1 (pairs4 me mo)))
    (shl 12 1012 slices_S1x1024_o0_12_S1x1012 concatenates_S1x1012_S1x12_S1x1024_d1 me)

/-- The number of tokens of each window of 35. -/
def len35 (me mo : Row) : Row :=
  addf (addf (addf (pairs8 me mo) (shl 8 1016 slices_S1x1024_o0_8_S1x1016 concatenates_S1x1016_S1x8_S1x1024_d1 (pairs8 me mo)))
      (shl 16 1008 slices_S1x1024_o0_16_S1x1008 concatenates_S1x1008_S1x16_S1x1024_d1 (addf me mo)))
    (shl 17 1007 slices_S1x1024_o0_17_S1x1007 concatenates_S1x1007_S1x17_S1x1024_d1 me)

/-- Parameter `i`, alone. -/
def par1 (i : ℕ) (h : S1x24.Slices ![0, i] S1x1) (p : FVec Ideal S1x24 .f32) : FVec Ideal S1x1 .f32 := extractStridedSlice S1x1 ![0, i] p h

/-- Parameter `i`. -/
def par (i : ℕ) (h : S1x24.Slices ![0, i] S1x1) (p : FVec Ideal S1x24 .f32) : Ideal .f32 :=
  extractAt ![0, 0] (par1 i h p) inpos_S1x1_p0_0

/-- A linear form of the inverse document frequency and of the window's length. -/
def linear (u v w : Ideal .f32) (d : FVec Ideal S32x1 .f32) (L : Row) : Lanes :=
  addf (broadcastTo S32x1024 (mulf (broadcast S32x1 u) d) broadcasts_S32x1_S32x1024)
    (broadcastTo S32x1024 (addf (mulf (broadcast S1x1024 v) L) (broadcast S1x1024 w)) broadcasts_S1x1024_S32x1024)

/-- Whether the window has a token. -/
def positive (L : Row) : Row :=
  sitofp .f32 (extui 32 (cmpf .ogt L (broadcast S1x1024 (Scalar.ofBits (F := Ideal) .f32 0x00000000#32))) natLt_1_32)

/-- One kernel's part of the windows' scores. -/
def part (qm : FVec Ideal S32x1 .f32) (s1 s2 s3 : Lanes) (pos : Row) (P : Lanes) (dw : Ideal .f32) : Row :=
  mulf (shapeCast S1x1024 (multiReduction (F := Ideal) .add [0] S1024
      (mulf (mulf (subf (mulf s1 (exp (mulf s2 (log (maximumf P (broadcast S32x1024 (Scalar.ofBits (F := Ideal) .f32 0x2EDBE6FF#32))))))) s3)
        (broadcastTo S32x1024 qm broadcasts_S32x1_S32x1024)) (broadcastTo S32x1024 pos broadcasts_S1x1024_S32x1024))
      0x00000000#32 reduces_S32x1024_S1024 (.inl rfl) rfl) shapeCasts_S1024_S1x1024) (broadcast S1x1024 dw)

/-- The scores, those that are zero replaced. -/
def replaced (s : Row) : Row :=
  select (cmpf .oeq s (broadcast S1x1024 (Scalar.ofBits (F := Ideal) .f32 0x00000000#32)))
    (broadcast S1x1024 (Scalar.ofBits (F := Ideal) .f32 0xC61AB000#32)) s

/-- The numbers of the lanes. -/
def lanes : Row := sitofp (F := Ideal) .f32 (iota .tc S1x1024 32 [1] iota_S1x1024_d1_w32)

/-- The scores of the lanes below `n`, the others' minus infinity. -/
def below (n : BitVec 32) (s : Row) : Row :=
  select (cmpf .olt lanes (broadcast S1x1024 (Scalar.ofBits (F := Ideal) .f32 n))) s
    (broadcast S1x1024 (Named.named (F := Ideal) κ "none" (φ := .f32) 0xF149F2CA#32))

/-- The one entry of a fold over the lanes. -/
def one (x : FVec Ideal S1 .f32) : FVec Ideal S1x1 .f32 :=
  broadcast S1x1 (extractAt ![0, 0, 0] (shapeCast S1x1x1 x shapeCasts_S1_S1x1x1) inpos_S1x1x1_p0_0_0)

/-- The first lane with the greatest score. -/
def firstMax (s : Row) : FVec Ideal S1x1 .f32 :=
  one (multiReduction (F := Ideal) .minimumf [1, 2] S1 (shapeCast S1x1x1024 (select (cmpf .oeq s (broadcastTo S1x1024
      (one (multiReduction (F := Ideal) .maximumf [1, 2] S1 (shapeCast S1x1x1024 s shapeCasts_S1x1024_S1x1x1024) 0xFF800000#32 reduces_S1x1x1024_S1 (.inl rfl) rfl))
      broadcasts_S1x1_S1x1024)) lanes (broadcast S1x1024 (Scalar.ofBits (F := Ideal) .f32 0x44800000#32)))
    shapeCasts_S1x1024_S1x1x1024) 0x7F800000#32 reduces_S1x1x1024_S1 (.inl rfl) rfl)

/-- The score of the lane `b`, zero if it is a replaced one. -/
def scoreAt (s : Row) (b : FVec Ideal S1x1 .f32) : FVec Ideal S1x1 .f32 :=
  have v : FVec Ideal S1x1 .f32 := one (multiReduction (F := Ideal) .add [1, 2] S1 (shapeCast S1x1x1024 (select (cmpf .oeq lanes (broadcastTo S1x1024 b broadcasts_S1x1_S1x1024)) s
    (broadcast S1x1024 (Scalar.ofBits (F := Ideal) .f32 0x00000000#32))) shapeCasts_S1x1024_S1x1x1024) 0x00000000#32 reduces_S1x1x1024_S1 (.inl rfl) rfl)
  select (cmpf .ole v (broadcast S1x1 (Scalar.ofBits (F := Ideal) .f32 0xC61AB000#32)))
    (broadcast S1x1 (Scalar.ofBits (F := Ideal) .f32 0x00000000#32)) v

/-- The scores, those of the lanes of the region nearer to `b` than `h` replaced. -/
def without (h v : BitVec 32) (b : FVec Ideal S1x1 .f32) (s : Row) : Row :=
  select (andi (cmpf .olt (absf (subf lanes (broadcastTo S1x1024 b broadcasts_S1x1_S1x1024))) (broadcast S1x1024 (Scalar.ofBits (F := Ideal) .f32 h)))
      (cmpf .olt lanes (broadcast S1x1024 (Scalar.ofBits (F := Ideal) .f32 0x42B60000#32))))
    (broadcast S1x1024 (Scalar.ofBits (F := Ideal) .f32 v)) s

/-- The region's scores without the best one's neighbours. -/
def second (n h : BitVec 32) (s : Row) : Row := without h 0xC61C4400#32 (firstMax (below n s)) (below 0x42B60000#32 s)

/-- The region's scores without the two best ones' neighbours. -/
def third (n h : BitVec 32) (s : Row) : Row := without h 0xC61C4800#32 (firstMax (second n h s)) (second n h s)

/-- The three best windows' scores, weighted. -/
def best (n h : BitVec 32) (p : FVec Ideal S1x24 .f32) (s : Row) : FVec Ideal S1x1 .f32 :=
  addf (addf (addf (broadcast S1x1 (Scalar.ofBits (F := Ideal) .f32 0x00000000#32))
      (mulf (par1 20 slices_S1x24_o0_20_S1x1 p) (scoreAt s (firstMax (below n s)))))
    (mulf (par1 21 slices_S1x24_o0_21_S1x1 p) (scoreAt s (firstMax (second n h s)))))
    (mulf (par1 22 slices_S1x24_o0_22_S1x1 p) (scoreAt s (firstMax (third n h s))))

/-- The two windows' results, weighted by the distance of the wanted size from theirs. -/
def blend (p : FVec Ideal S1x24 .f32) (a b : FVec Ideal S1x1 .f32) : FVec Ideal S1x1x1 .f32 :=
  shapeCast S1x1x1 (addf
    (mulf (divf (subf (broadcast S1x1 (Scalar.ofBits (F := Ideal) .f32 0x420C0000#32)) (par1 23 slices_S1x24_o0_23_S1x1 p)) (broadcast S1x1 (Scalar.ofBits (F := Ideal) .f32 0x41200000#32))) a)
    (mulf (divf (subf (par1 23 slices_S1x24_o0_23_S1x1 p) (broadcast S1x1 (Scalar.ofBits (F := Ideal) .f32 0x41C80000#32))) (broadcast S1x1 (Scalar.ofBits (F := Ideal) .f32 0x41200000#32))) b))
    shapeCasts_S1x1_S1x1x1

section
variable (x0 : Vec Ideal S1x32x128 .f32) (x1 x2 : Vec Ideal S1x1024x128 .f32) (x3 x4 : Vec Ideal S1x1x1024 .f32) (x5 x6 : Vec Ideal S1x32x1 .f32) (x7 : Vec Ideal S1x24 .f32)

/-- The cosines of the query terms with one parity's tokens. -/
def cosines (q : FVec Ideal S1x32x128 .f32) (t : FVec Ideal S1x1024x128 .f32) : Lanes :=
  matmul dot_S32x128_S1024x128_S32x1024_1_1_0_0_n_n none (shapeCast S32x128 q shapeCasts_S1x32x128_S32x128)
    (shapeCast S1024x128 t shapeCasts_S1x1024x128_S1024x128) (constant S32x1024 .f32 0x00000000#32)

/-- A mask as a row. -/
def row (m : FVec Ideal S1x1x1024 .f32) : Row := shapeCast S1x1024 m shapeCasts_S1x1x1024_S1x1024

/-- A column of the query. -/
def column (d : FVec Ideal S1x32x1 .f32) : FVec Ideal S32x1 .f32 := shapeCast S32x1 d shapeCasts_S1x32x1_S32x1

/-- The parameters. -/
def params (p : FVec Ideal S1x24 .f32) : FVec Ideal S1x24 .f32 := shapeCast S1x24 p shapeCasts_S1x24_S1x24

end

/-- A kernel's part of the scores over windows with the sums `P` and the lengths `L`. -/
def partOf (p : FVec Ideal S1x24 .f32) (d qm : FVec Ideal S32x1 .f32) (L : Row) (P : Lanes) (dw : Ideal .f32) : Row :=
  part qm
    (linear (par 0 slices_S1x24_o0_0_S1x1 p) (par 1 slices_S1x24_o0_1_S1x1 p) (par 2 slices_S1x24_o0_2_S1x1 p) d L)
    (divf (broadcast S32x1024 (Scalar.ofBits (F := Ideal) .f32 0x3F800000#32))
      (linear (par 3 slices_S1x24_o0_3_S1x1 p) (par 4 slices_S1x24_o0_4_S1x1 p) (par 5 slices_S1x24_o0_5_S1x1 p) d L))
    (linear (par 6 slices_S1x24_o0_6_S1x1 p) (par 7 slices_S1x24_o0_7_S1x1 p) (par 8 slices_S1x24_o0_8_S1x1 p) d L)
    (positive L) P dw

/-- The sums over the windows of 25 tokens of the kernel with mean `μ` and gain `g`. -/
def bellSums25 (μ : BitVec 32) (g : Ideal .f32) (me mo : Row) (ce co : Lanes) : Lanes := sums25 (bells μ g me ce) (bells μ g mo co)

/-- The sums over the windows of 35 tokens of the kernel with mean `μ` and gain `g`. -/
def bellSums35 (μ : BitVec 32) (g : Ideal .f32) (me mo : Row) (ce co : Lanes) : Lanes := sums35 (bells μ g me ce) (bells μ g mo co)

section
variable (me mo : Row) (ce co : Lanes) (d qm : FVec Ideal S32x1 .f32) (p : FVec Ideal S1x24 .f32)

/-- A kernel's part of the scores of the windows of 25 tokens. -/
def part25 (μ : BitVec 32) (g : Ideal .f32) (dw : Ideal .f32) : Row := partOf p d qm (len25 me mo) (bellSums25 μ g me mo ce co) dw

/-- A kernel's part of the scores of the windows of 35 tokens. -/
def part35 (μ : BitVec 32) (g : Ideal .f32) (dw : Ideal .f32) : Row := partOf p d qm (len35 me mo) (bellSums35 μ g me mo ce co) dw

/-- A row of zeros. -/
def zeroRow : Row := broadcast S1x1024 (Scalar.ofBits (F := Ideal) .f32 0x00000000#32)

/-- The scores of the windows of 25 tokens. -/
def scores25 : Row := addf (addf (addf (addf (addf (addf (addf (addf (addf (addf (addf zeroRow
    (part25 me mo ce co d qm p 0x3F800000#32 sharp0 (par 9 slices_S1x24_o0_9_S1x1 p)))
    (part25 me mo ce co d qm p 0x3F666666#32 sharp (par 10 slices_S1x24_o0_10_S1x1 p)))
    (part25 me mo ce co d qm p 0x3F333333#32 sharp (par 11 slices_S1x24_o0_11_S1x1 p)))
    (part25 me mo ce co d qm p 0x3F000000#32 sharp (par 12 slices_S1x24_o0_12_S1x1 p)))
    (part25 me mo ce co d qm p 0x3E99999A#32 sharp (par 13 slices_S1x24_o0_13_S1x1 p)))
    (part25 me mo ce co d qm p 0x3DCCCCCD#32 sharp (par 14 slices_S1x24_o0_14_S1x1 p)))
    (part25 me mo ce co d qm p 0xBDCCCCCD#32 sharp (par 15 slices_S1x24_o0_15_S1x1 p)))
    (part25 me mo ce co d qm p 0xBE99999A#32 sharp (par 16 slices_S1x24_o0_16_S1x1 p)))
    (part25 me mo ce co d qm p 0xBF000000#32 sharp (par 17 slices_S1x24_o0_17_S1x1 p)))
    (part25 me mo ce co d qm p 0xBF333333#32 sharp (par 18 slices_S1x24_o0_18_S1x1 p)))
    (part25 me mo ce co d qm p 0xBF666666#32 sharp (par 19 slices_S1x24_o0_19_S1x1 p))

/-- The scores of the windows of 35 tokens. -/
def scores35 : Row := addf (addf (addf (addf (addf (addf (addf (addf (addf (addf (addf zeroRow
    (part35 me mo ce co d qm p 0x3F800000#32 sharp0 (par 9 slices_S1x24_o0_9_S1x1 p)))
    (part35 me mo ce co d qm p 0x3F666666#32 sharp (par 10 slices_S1x24_o0_10_S1x1 p)))
    (part35 me mo ce co d qm p 0x3F333333#32 sharp (par 11 slices_S1x24_o0_11_S1x1 p)))
    (part35 me mo ce co d qm p 0x3F000000#32 sharp (par 12 slices_S1x24_o0_12_S1x1 p)))
    (part35 me mo ce co d qm p 0x3E99999A#32 sharp (par 13 slices_S1x24_o0_13_S1x1 p)))
    (part35 me mo ce co d qm p 0x3DCCCCCD#32 sharp (par 14 slices_S1x24_o0_14_S1x1 p)))
    (part35 me mo ce co d qm p 0xBDCCCCCD#32 sharp (par 15 slices_S1x24_o0_15_S1x1 p)))
    (part35 me mo ce co d qm p 0xBE99999A#32 sharp (par 16 slices_S1x24_o0_16_S1x1 p)))
    (part35 me mo ce co d qm p 0xBF000000#32 sharp (par 17 slices_S1x24_o0_17_S1x1 p)))
    (part35 me mo ce co d qm p 0xBF333333#32 sharp (par 18 slices_S1x24_o0_18_S1x1 p)))
    (part35 me mo ce co d qm p 0xBF666666#32 sharp (par 19 slices_S1x24_o0_19_S1x1 p))

end

section
variable (x0 : Vec Ideal S1x32x128 .f32) (x1 x2 : Vec Ideal S1x1024x128 .f32) (x3 x4 : Vec Ideal S1x1x1024 .f32) (x5 x6 : Vec Ideal S1x32x1 .f32) (x7 : Vec Ideal S1x24 .f32)

theorem scores25_eq : k0_pay216 x0 x1 x2 x3 x4 x5 x6 x7 = replaced (scores25 (k0_pay160 x0 x1 x2 x3 x4 x5 x6 x7) (k0_pay161 x0 x1 x2 x3 x4 x5 x6 x7) (k0_pay165 x0 x1 x2 x3 x4 x5 x6 x7) (k0_pay166 x0 x1 x2 x3 x4 x5 x6 x7) (k0_pay162 x0 x1 x2 x3 x4 x5 x6 x7) (k0_pay163 x0 x1 x2 x3 x4 x5 x6 x7) (k0_pay164 x0 x1 x2 x3 x4 x5 x6 x7)) := rfl

theorem scores35_eq : k0_pay214 x0 x1 x2 x3 x4 x5 x6 x7 = scores35 (k0_pay160 x0 x1 x2 x3 x4 x5 x6 x7) (k0_pay161 x0 x1 x2 x3 x4 x5 x6 x7) (k0_pay165 x0 x1 x2 x3 x4 x5 x6 x7) (k0_pay166 x0 x1 x2 x3 x4 x5 x6 x7) (k0_pay162 x0 x1 x2 x3 x4 x5 x6 x7) (k0_pay163 x0 x1 x2 x3 x4 x5 x6 x7) (k0_pay164 x0 x1 x2 x3 x4 x5 x6 x7) := rfl

/-- What the body stores. -/
theorem stored_eq : out0_8 x0 x1 x2 x3 x4 x5 x6 x7 = View.canon [⟨r0_5, blend (k0_pay164 x0 x1 x2 x3 x4 x5 x6 x7) (best 0x44770000#32 0x41480000#32 (k0_pay164 x0 x1 x2 x3 x4 x5 x6 x7) (replaced (scores25 (k0_pay160 x0 x1 x2 x3 x4 x5 x6 x7) (k0_pay161 x0 x1 x2 x3 x4 x5 x6 x7) (k0_pay165 x0 x1 x2 x3 x4 x5 x6 x7) (k0_pay166 x0 x1 x2 x3 x4 x5 x6 x7) (k0_pay162 x0 x1 x2 x3 x4 x5 x6 x7) (k0_pay163 x0 x1 x2 x3 x4 x5 x6 x7) (k0_pay164 x0 x1 x2 x3 x4 x5 x6 x7))))
    (best 0x4475C000#32 0x418C0000#32 (k0_pay164 x0 x1 x2 x3 x4 x5 x6 x7) (replaced (scores35 (k0_pay160 x0 x1 x2 x3 x4 x5 x6 x7) (k0_pay161 x0 x1 x2 x3 x4 x5 x6 x7) (k0_pay165 x0 x1 x2 x3 x4 x5 x6 x7) (k0_pay166 x0 x1 x2 x3 x4 x5 x6 x7) (k0_pay162 x0 x1 x2 x3 x4 x5 x6 x7) (k0_pay163 x0 x1 x2 x3 x4 x5 x6 x7) (k0_pay164 x0 x1 x2 x3 x4 x5 x6 x7))))⟩] := rfl
end

end Cert.Kernel2Ideal.Scoring

end
-- ==== Proof.Score.lean ====
/- The scoring of a document's windows against a query, entry by entry over the extended reals. -/
module

public import Idealize.ShloMosaic.PureOps.Ideal
public import Idealize.ShloMosaic.PureOps.Ideal.Laws

@[expose] public section

noncomputable section

namespace Cert.Score

open Idealize.ShloMosaic

/-- The kernel with mean `μ` and gain `g` at `x`. -/
def bell (μ g x : EReal) : EReal := Ideal.exp ((0 - (x - μ) * (x - μ)) * g)

/-- The sum of `n` entries from entry `2 w` on. -/
def win (a : ℕ → EReal) (n w : ℕ) : EReal := ∑ t ∈ Finset.range n, a (2 * w + t)

/-- A linear form in two variables, with a constant. -/
def lin (u v w d L : EReal) : EReal := u * d + (v * L + w)

/-- The smallest sum of which a power is taken. -/
def tiny : EReal := Ideal.ofBits .f32 0x2EDBE6FF#32

/-- The score of the windows that have none. -/
def none : EReal := Ideal.ofBits .f32 0xC61AB000#32

/-- A query term's saturated share: `P` is its kernel's sum over the window, `L` the window's number of tokens. -/
def sat (p : ℕ → EReal) (d qm P L : EReal) : EReal :=
  (lin (p 0) (p 1) (p 2) d L * Ideal.exp (Ideal.div 1 (lin (p 3) (p 4) (p 5) d L) * Ideal.log (max P tiny)) - lin (p 6) (p 7) (p 8) d L)
    * qm * (if 0 < L then 1 else 0)

/-- The means of the kernels. -/
def mean (k : Fin 11) : EReal := Ideal.ofBits .f32 ((![0x3F800000#32, 0x3F666666#32, 0x3F333333#32, 0x3F000000#32, 0x3E99999A#32, 0x3DCCCCCD#32,
  0xBDCCCCCD#32, 0xBE99999A#32, 0xBF000000#32, 0xBF333333#32, 0xBF666666#32] : Fin 11 → BitVec 32) k)

/-- The gains of the kernels. -/
def gain (k : Fin 11) : EReal := if k = 0 then ((4398046511104 / 8796093 : ℝ) : EReal) else ((268435456 / 5368709 : ℝ) : EReal)

/-- What a token contributes to a kernel: `c` are the cosines and `m` the mask. -/
def act (k : Fin 11) (c m : ℕ → EReal) (t : ℕ) : EReal := bell (mean k) (gain k) (c t) * m t

/-- A window's score, before the windows without one are marked. -/
def raw (p : ℕ → EReal) (d qm : Fin 30 → EReal) (c : Fin 30 → ℕ → EReal) (m : ℕ → EReal) (n w : ℕ) : EReal :=
  ∑ k : Fin 11, (∑ q : Fin 30, sat p (d q) (qm q) (win (act k (c q) m) n w) (win m n w)) * p (9 + k)

/-- The windows without a score are marked. -/
def marked (x : EReal) : EReal := if x = 0 then none else x

/-- The entry `i` is the first of the greatest among the first `n`. -/
def IsFirst (n : ℕ) (s : ℕ → EReal) (i : ℕ) : Prop := i < n ∧ (∀ j < n, s j ≤ s i) ∧ ∀ j < i, s j < s i

theorem IsFirst.unique {n : ℕ} {s : ℕ → EReal} {i j : ℕ} (hi : IsFirst n s i) (hj : IsFirst n s j) : i = j := by
  rcases lt_trichotomy i j with h | h | h
  · exact absurd (hi.2.1 j hj.1) (not_le.2 (hj.2.2 i h))
  · exact h
  · exact absurd (hj.2.1 i hi.1) (not_le.2 (hi.2.2 j h))

theorem exists_isFirst {n : ℕ} (hn : 0 < n) (s : ℕ → EReal) : ∃ i, IsFirst n s i := by
  classical
  obtain ⟨m, hm, hmax⟩ := Finset.exists_max_image (Finset.range n) s ⟨0, by simpa using hn⟩
  have hex : ∃ i, i < n ∧ s i = s m := ⟨m, by simpa using hm, rfl⟩
  refine ⟨Nat.find hex, (Nat.find_spec hex).1, fun j hj => ?_, fun j hj => ?_⟩
  · rw [(Nat.find_spec hex).2]
    exact hmax j (by simpa using hj)
  · have hlt : j < n := hj.trans (Nat.find_spec hex).1
    rw [(Nat.find_spec hex).2]
    exact lt_of_le_of_ne (hmax j (by simpa using hlt)) fun he => Nat.find_min hex hj ⟨hlt, he⟩

open Classical in
/-- The first of the greatest among the first `n` entries. -/
def first (n : ℕ) (s : ℕ → EReal) : ℕ := if h : ∃ i, IsFirst n s i then h.choose else 0

theorem first_spec {n : ℕ} (hn : 0 < n) (s : ℕ → EReal) : IsFirst n s (first n s) := by
  rw [first, dif_pos (exists_isFirst hn s)]
  exact (exists_isFirst hn s).choose_spec

theorem first_eq {n : ℕ} {s : ℕ → EReal} {i : ℕ} (h : IsFirst n s i) : first n s = i :=
  (first_spec (by have := h.1; omega) s).unique h

theorem first_congr {n : ℕ} (hn : 0 < n) {s t : ℕ → EReal} (h : ∀ i < n, s i = t i) : first n s = first n t := by
  have f := first_spec hn t
  refine first_eq ⟨f.1, fun j hj => ?_, fun j hj => ?_⟩
  · rw [h j hj, h _ f.1]; exact f.2.1 j hj
  · rw [h j (hj.trans f.1), h _ f.1]; exact f.2.2 j hj

/-- The scores, those of the windows nearer to `b` than half of `W` replaced by `v`. -/
def knock (W : ℕ) (v : EReal) (b : ℕ) (s : ℕ → EReal) (i : ℕ) : EReal := if 2 * (i - b) < W ∧ 2 * (b - i) < W then v else s i

/-- The scores after the first pick. -/
def after1 (n W : ℕ) (s : ℕ → EReal) : ℕ → EReal := knock W (Ideal.ofBits .f32 0xC61C4400#32) (first n s) s

/-- The scores after the second pick. -/
def after2 (n W : ℕ) (s : ℕ → EReal) : ℕ → EReal := knock W (Ideal.ofBits .f32 0xC61C4800#32) (first 91 (after1 n W s)) (after1 n W s)

/-- A picked window's score, zero for the windows without one. -/
def val (s : ℕ → EReal) (b : ℕ) : EReal := if s b ≤ none then 0 else s b

/-- The picked windows' scores, weighted: the first is picked among all windows, the others among the first 91 windows. -/
def pooled (p : ℕ → EReal) (n W : ℕ) (s : ℕ → EReal) : EReal :=
  p 20 * val s (first n s) + p 21 * val s (first 91 (after1 n W s)) + p 22 * val s (first 91 (after2 n W s))

/-- The document's score: the two window sizes' scores, weighted by the distance of the wanted size from theirs. -/
def document (p : ℕ → EReal) (d qm : Fin 30 → EReal) (c : Fin 30 → ℕ → EReal) (m : ℕ → EReal) : EReal :=
  Ideal.div (Ideal.ofBits .f32 0x420C0000#32 - p 23) (Ideal.ofBits .f32 0x41200000#32) * pooled p 988 25 (fun w => marked (raw p d qm c m 25 w))
    + Ideal.div (p 23 - Ideal.ofBits .f32 0x41C80000#32) (Ideal.ofBits .f32 0x41200000#32) * pooled p 983 35 (fun w => marked (raw p d qm c m 35 w))

/-- Neither infinity. -/
def IsReal (x : EReal) : Prop := ∃ r : ℝ, x = r

theorem IsReal.add {x y : EReal} : IsReal x → IsReal y → IsReal (x + y)
  | ⟨a, ha⟩, ⟨b, hb⟩ => ⟨a + b, by rw [ha, hb]; rfl⟩

theorem IsReal.sub {x y : EReal} : IsReal x → IsReal y → IsReal (x - y)
  | ⟨a, ha⟩, ⟨b, hb⟩ => ⟨a - b, by rw [ha, hb]; rfl⟩

theorem IsReal.mul {x y : EReal} : IsReal x → IsReal y → IsReal (x * y)
  | ⟨a, ha⟩, ⟨b, hb⟩ => ⟨a * b, by rw [ha, hb]; rfl⟩

theorem isReal_zero : IsReal 0 := ⟨0, rfl⟩

theorem IsReal.sum {ι : Type*} (s : Finset ι) {f : ι → EReal} (h : ∀ i ∈ s, IsReal (f i)) : IsReal (∑ i ∈ s, f i) := by
  classical
  induction s using Finset.induction_on with
  | empty => simpa using isReal_zero
  | insert a s ha ih =>
    rw [Finset.sum_insert ha]
    exact (h a (by simp)).add (ih fun i hi => h i (by simp [hi]))

theorem isReal_mean (k : Fin 11) : IsReal (mean k) := by
  fin_cases k <;> exact ⟨_, by simp only [mean, Ideal.ofBits, Ideal.ieee]; simp [-EReal.coe_mul, -EReal.coe_neg]; rfl⟩

theorem isReal_gain (k : Fin 11) : IsReal (gain k) := by
  unfold gain
  split <;> exact ⟨_, rfl⟩

/-- A kernel at a real is a positive real. -/
theorem bell_pos {μ g x : EReal} (hμ : IsReal μ) (hg : IsReal g) (hx : IsReal x) : ∃ r : ℝ, 0 < r ∧ bell μ g x = r := by
  obtain ⟨y, hy⟩ := (isReal_zero.sub ((hx.sub hμ).mul (hx.sub hμ))).mul hg
  exact ⟨Real.exp y, Real.exp_pos y, by rw [bell, hy]; rfl⟩

/-- A token's contribution is real where its cosine and its mask are. -/
theorem isReal_act (k : Fin 11) {c m : ℕ → EReal} {t : ℕ} (hc : IsReal (c t)) (hm : IsReal (m t)) : IsReal (act k c m t) := by
  obtain ⟨r, -, hr⟩ := bell_pos (isReal_mean k) (isReal_gain k) hc
  exact IsReal.mul ⟨r, hr⟩ hm

/-- A window's sum, in pairs. -/
theorem win_pairs (a : ℕ → EReal) (k w : ℕ) :
    win a (2 * k + 1) w = ∑ j ∈ Finset.range k, (a (2 * (w + j)) + a (2 * (w + j) + 1)) + a (2 * (w + k)) := by
  unfold win
  induction k with
  | zero => simp
  | succ k ih =>
    rw [show 2 * (k + 1) + 1 = 2 * k + 1 + 1 + 1 by ring, Finset.sum_range_succ, Finset.sum_range_succ, ih, Finset.sum_range_succ _ k,
      show 2 * w + (2 * k + 1) = 2 * (w + k) + 1 by ring, show 2 * w + (2 * k + 1 + 1) = 2 * (w + (k + 1)) by ring]
    simp only [add_assoc]

/-- A sum of reals, less the sum of its first terms. -/
theorem sum_sub_sum {a : ℕ → EReal} {n : ℕ} (w : ℕ) (ha : ∀ t < w + n, ∃ r : ℝ, a t = r) :
    ∑ t ∈ Finset.range (w + n), a t - ∑ t ∈ Finset.range w, a t = ∑ t ∈ Finset.range n, a (w + t) := by
  have hw : ∃ r : ℝ, ∑ t ∈ Finset.range w, a t = r := by
    have : ∀ m ≤ w, ∃ r : ℝ, ∑ t ∈ Finset.range m, a t = r := by
      intro m
      induction m with
      | zero => exact fun _ => ⟨0, by simp⟩
      | succ m ih =>
        intro hm
        obtain ⟨r, hr⟩ := ih (by omega)
        obtain ⟨r', hr'⟩ := ha m (by omega)
        exact ⟨r + r', by rw [Finset.sum_range_succ, hr, hr']; push_cast; rfl⟩
    exact this w le_rfl
  obtain ⟨r, hr⟩ := hw
  rw [Finset.sum_range_add, hr, add_comm, EReal.add_sub_cancel_right]

end Cert.Score

end
-- ==== Proof.ScoreLanes.lean ====
/- The shifts and sums of lanes of the scoring kernel's body, read at a lane. -/
module

public import proofs.«01_k».proof.Proof.ScoreOps
public import proofs.«01_k».proof.Proof.Score
public import Idealize.ShloMosaic.Lib.Pointwise
public import Idealize.ShloMosaic.Lib.IdealHost
public import Idealize.ShloMosaic.Lib.KernelVsHost

@[expose] public section

set_option maxRecDepth 16384

noncomputable section

namespace Cert.Kernel2Ideal.Scoring

open Cert.Kernel2Ideal Cert.Kernel2Ideal.Gen
open Idealize.ShloMosaic

/-- Row `q` of some lanes at lane `i`, zero outside. -/
def lane {r : ℕ} (x : FVec Ideal ⟨2, ![r, 1024]⟩ .f32) (q : Fin r) (i : ℕ) : EReal := if h : i < 1024 then x (ix2 q ⟨i, h⟩) else 0

theorem lane_of_lt {r : ℕ} (x : FVec Ideal ⟨2, ![r, 1024]⟩ .f32) (q : Fin r) {i : ℕ} (h : i < 1024) : lane x q i = x (ix2 q ⟨i, h⟩) := dif_pos h

theorem lane_addf {r : ℕ} (x y : FVec Ideal ⟨2, ![r, 1024]⟩ .f32) (q : Fin r) (i : ℕ) : lane (addf x y) q i = lane x q i + lane y q i := by
  unfold lane
  split <;> rename_i h
  · pointwise
  · simp

/-- Lanes moved to the left. -/
theorem lane_shl {r : ℕ} (n k : ℕ) (hk : k + n = 1024) (hs : (⟨2, ![r, 1024]⟩ : Shape).Slices ![0, n] ⟨2, ![r, k]⟩)
    (hc : Shape.Concatenates [⟨2, ![r, k]⟩, ⟨2, ![r, n]⟩] ⟨2, ![r, 1024]⟩ 1)
    (a : FVec Ideal ⟨2, ![r, 1024]⟩ .f32) (q : Fin r) (i : ℕ) : lane (shl n k hs hc a) q i = lane a q (i + n) := by
  unfold lane
  split <;> rename_i h
  · pointwise [shl]
    by_cases hi : i < k
    · rw [dif_pos (by simpa using hi), dif_pos (by omega)]
      refine congrArg a (funext fun b => Fin.ext ?_)
      match b with
      | ⟨0, _⟩ => exact Nat.zero_add _
      | ⟨1, _⟩ => exact Nat.add_comm _ _
    · rw [dif_neg (by simpa using hi), dif_neg (by omega)]
  · rw [dif_neg (by omega)]

/-- Lanes moved to the right. -/
theorem lane_shr {r : ℕ} (n k : ℕ) (hk : n + k = 1024) (hs : (⟨2, ![r, 1024]⟩ : Shape).Slices ![0, 0] ⟨2, ![r, k]⟩)
    (hc : Shape.Concatenates [⟨2, ![r, n]⟩, ⟨2, ![r, k]⟩] ⟨2, ![r, 1024]⟩ 1)
    (a : FVec Ideal ⟨2, ![r, 1024]⟩ .f32) (q : Fin r) {i : ℕ} (h : i < 1024) :
    lane (shr n k hs hc a) q i = if n ≤ i then lane a q (i - n) else 0 := by
  rw [lane_of_lt _ _ h]
  pointwise [shr]
  by_cases hi : i < n
  · rw [dif_pos (by simpa using hi), if_neg (by omega)]
  · rw [dif_neg (by simpa using hi), if_pos (by omega), lane_of_lt _ _ (by omega)]
    refine congrArg a (funext fun b => Fin.ext ?_)
    match b with
    | ⟨0, _⟩ => exact Nat.zero_add _
    | ⟨1, _⟩ => exact Nat.zero_add _

/-- Each lane of row `q` holds the sum of the last `n` of `A`'s entries up to it. -/
def Sums (A : ℕ → EReal) (n : ℕ) (b : Lanes) (q : Fin 32) : Prop := ∀ i < 1024, lane b q i = ∑ j ∈ Finset.Ico (i + 1 - n) (i + 1), A j

/-- One step of the doubling. -/
theorem Sums.step {A : ℕ → EReal} {n : ℕ} {b : Lanes} {q : Fin 32} (hb : Sums A n b q) (k : ℕ) (hk : n + k = 1024)
    (hs : (⟨2, ![32, 1024]⟩ : Shape).Slices ![0, 0] ⟨2, ![32, k]⟩)
    (hc : Shape.Concatenates [⟨2, ![32, n]⟩, ⟨2, ![32, k]⟩] ⟨2, ![32, 1024]⟩ 1) : Sums A (n + n) (addf b (shr n k hs hc b)) q := by
  intro i hi
  rw [lane_addf, lane_shr n k hk hs hc b q hi, hb i hi]
  split
  · rename_i hn
    rw [hb (i - n) (by omega), add_comm, show i - n + 1 = i + 1 - n by omega, show i + 1 - n - n = i + 1 - (n + n) by omega]
    exact Finset.sum_Ico_consecutive _ (by omega) (by omega)
  · rw [add_zero, show i + 1 - n = 0 by omega, show i + 1 - (n + n) = 0 by omega]

/-- The doubling sums each row's first lanes. -/
theorem lane_prefixes (a : Lanes) (q : Fin 32) {i : ℕ} (hi : i < 1024) : lane (prefixes a) q i = ∑ j ∈ Finset.range (i + 1), lane a q j := by
  have h0 : Sums (lane a q) 1 a q := fun i _ => by rw [show i + 1 - 1 = i by omega]; simp
  have h := (((((((((h0.step 1023 rfl slices_S32x1024_o0_0_S32x1023 concatenates_S32x1_S32x1023_S32x1024_d1).step
    1022 rfl slices_S32x1024_o0_0_S32x1022 concatenates_S32x2_S32x1022_S32x1024_d1).step
    1020 rfl slices_S32x1024_o0_0_S32x1020 concatenates_S32x4_S32x1020_S32x1024_d1).step
    1016 rfl slices_S32x1024_o0_0_S32x1016 concatenates_S32x8_S32x1016_S32x1024_d1).step
    1008 rfl slices_S32x1024_o0_0_S32x1008 concatenates_S32x16_S32x1008_S32x1024_d1).step
    992 rfl slices_S32x1024_o0_0_S32x992 concatenates_S32x32_S32x992_S32x1024_d1).step
    960 rfl slices_S32x1024_o0_0_S32x960 concatenates_S32x64_S32x960_S32x1024_d1).step
    896 rfl slices_S32x1024_o0_0_S32x896 concatenates_S32x128_S32x896_S32x1024_d1).step
    768 rfl slices_S32x1024_o0_0_S32x768 concatenates_S32x256_S32x768_S32x1024_d1).step
    512 rfl slices_S32x1024_o0_0_S32x512 concatenates_S32x512_S32x512_S32x1024_d1
  have hi' := h i hi
  rw [show i + 1 - (512 + 512) = 0 by omega, ← Finset.range_eq_Ico] at hi'
  exact hi'

/-- A difference of two sums of first lanes. -/
theorem prefixes_sub (a : Lanes) (q : Fin 32) (n k : ℕ) (hk : k + n = 1024) (hs : (⟨2, ![32, 1024]⟩ : Shape).Slices ![0, n] ⟨2, ![32, k]⟩)
    (hc : Shape.Concatenates [⟨2, ![32, k]⟩, ⟨2, ![32, n]⟩] ⟨2, ![32, 1024]⟩ 1) (ha : ∀ i < 1024, ∃ r : ℝ, lane a q i = r) {w : ℕ} (hw : w + n < 1024) :
    lane (subf (shl n k hs hc (prefixes a)) (shr 1 1023 slices_S32x1024_o0_0_S32x1023 concatenates_S32x1_S32x1023_S32x1024_d1 (prefixes a))) q w
      = ∑ j ∈ Finset.range (n + 1), lane a q (w + j) := by
  have hsub : ∀ x y : Lanes, lane (subf x y) q w = lane x q w - lane y q w := fun x y => by
    rw [lane_of_lt _ _ (by omega), lane_of_lt _ _ (by omega), lane_of_lt _ _ (by omega)]
    pointwise
  rw [hsub, lane_shl n k hk, lane_prefixes a q hw, lane_shr 1 1023 rfl _ _ _ q (by omega), ← Cert.Score.sum_sub_sum w fun t ht => ha t (by omega)]
  congr 1
  split
  · rw [lane_prefixes a q (by omega), show w - 1 + 1 = w by omega]
  · rw [show w = 0 by omega]; rfl

/-- The lanes of the two parities, in one row: entry `2 i` is the even ones' lane `i`, entry `2 i + 1` the odd ones'. -/
def weave {r : ℕ} (e o : FVec Ideal ⟨2, ![r, 1024]⟩ .f32) (q : Fin r) (t : ℕ) : EReal := if t % 2 = 0 then lane e q (t / 2) else lane o q (t / 2)

theorem weave_even {r : ℕ} (e o : FVec Ideal ⟨2, ![r, 1024]⟩ .f32) (q : Fin r) (i : ℕ) : weave e o q (2 * i) = lane e q i := by
  rw [weave, if_pos (by omega), show 2 * i / 2 = i by omega]

theorem weave_odd {r : ℕ} (e o : FVec Ideal ⟨2, ![r, 1024]⟩ .f32) (q : Fin r) (i : ℕ) : weave e o q (2 * i + 1) = lane o q i := by
  rw [weave, if_neg (by omega), show (2 * i + 1) / 2 = i by omega]

/-- The sums over the windows of 25 tokens. -/
theorem lane_sums25 (e o : Lanes) (q : Fin 32) (he : ∀ i < 1024, ∃ r : ℝ, lane e q i = r) (ho : ∀ i < 1024, ∃ r : ℝ, lane o q i = r) {w : ℕ} (hw : w < 988) :
    lane (sums25 e o) q w = Cert.Score.win (weave e o q) 25 w := by
  have ha : ∀ i < 1024, ∃ r : ℝ, lane (addf e o) q i = r := fun i hi => by
    obtain ⟨x, hx⟩ := he i hi
    obtain ⟨y, hy⟩ := ho i hi
    exact ⟨x + y, by rw [lane_addf, hx, hy]; rfl⟩
  rw [show (25 : ℕ) = 2 * 12 + 1 from rfl, Cert.Score.win_pairs]
  simp only [weave_even, weave_odd]
  refine (lane_addf _ _ q w).trans (congrArg₂ (· + ·) ((prefixes_sub (addf e o) q 11 1013 rfl _ _ ha (by omega)).trans ?_) (lane_shl 12 1012 rfl _ _ e q w))
  exact Finset.sum_congr rfl fun j _ => lane_addf e o q (w + j)

/-- The sums over the windows of 35 tokens. -/
theorem lane_sums35 (e o : Lanes) (q : Fin 32) (he : ∀ i < 1024, ∃ r : ℝ, lane e q i = r) (ho : ∀ i < 1024, ∃ r : ℝ, lane o q i = r) {w : ℕ} (hw : w < 983) :
    lane (sums35 e o) q w = Cert.Score.win (weave e o q) 35 w := by
  have ha : ∀ i < 1024, ∃ r : ℝ, lane (addf e o) q i = r := fun i hi => by
    obtain ⟨x, hx⟩ := he i hi
    obtain ⟨y, hy⟩ := ho i hi
    exact ⟨x + y, by rw [lane_addf, hx, hy]; rfl⟩
  rw [show (35 : ℕ) = 2 * 17 + 1 from rfl, Cert.Score.win_pairs]
  simp only [weave_even, weave_odd]
  refine (lane_addf _ _ q w).trans (congrArg₂ (· + ·) ((prefixes_sub (addf e o) q 16 1008 rfl _ _ ha (by omega)).trans ?_) (lane_shl 17 1007 rfl _ _ e q w))
  exact Finset.sum_congr rfl fun j _ => lane_addf e o q (w + j)

/-- The number of tokens of each window of 25. -/
theorem lane_len25 (me mo : Row) (w : ℕ) : lane (len25 me mo) 0 w = Cert.Score.win (weave me mo 0) 25 w := by
  rw [show (25 : ℕ) = 2 * 12 + 1 from rfl, Cert.Score.win_pairs]
  simp only [weave_even, weave_odd, len25, pairs8, pairs4, lane_addf, lane_shl _ _ (show 1023 + 1 = 1024 from rfl), lane_shl _ _ (show 1022 + 2 = 1024 from rfl),
    lane_shl _ _ (show 1020 + 4 = 1024 from rfl), lane_shl _ _ (show 1016 + 8 = 1024 from rfl), lane_shl _ _ (show 1012 + 12 = 1024 from rfl),
    Finset.sum_range_succ, Finset.sum_range_zero, zero_add, Nat.add_assoc, Nat.reduceAdd, Nat.add_zero, add_assoc]

/-- The number of tokens of each window of 35. -/
theorem lane_len35 (me mo : Row) (w : ℕ) : lane (len35 me mo) 0 w = Cert.Score.win (weave me mo 0) 35 w := by
  rw [show (35 : ℕ) = 2 * 17 + 1 from rfl, Cert.Score.win_pairs]
  simp only [weave_even, weave_odd, len35, pairs8, pairs4, lane_addf, lane_shl _ _ (show 1023 + 1 = 1024 from rfl), lane_shl _ _ (show 1022 + 2 = 1024 from rfl),
    lane_shl _ _ (show 1020 + 4 = 1024 from rfl), lane_shl _ _ (show 1016 + 8 = 1024 from rfl), lane_shl _ _ (show 1008 + 16 = 1024 from rfl),
    lane_shl _ _ (show 1007 + 17 = 1024 from rfl),
    Finset.sum_range_succ, Finset.sum_range_zero, zero_add, Nat.add_assoc, Nat.reduceAdd, Nat.add_zero, add_assoc]

end Cert.Kernel2Ideal.Scoring

end
-- ==== Proof.ScoreWindows.lean ====
/- The windows' scores of the scoring kernel's body, read at a window. -/
module

public import proofs.«01_k».proof.Proof.ScoreLanes

@[expose] public section

set_option maxRecDepth 16384

noncomputable section

namespace Cert.Kernel2Ideal.Scoring

open Cert.Kernel2Ideal Cert.Kernel2Ideal.Gen
open Idealize.ShloMosaic Cert.Score

/-- The parameters, numbered. -/
def entry (p : FVec Ideal S1x24 .f32) (i : ℕ) : EReal := if h : i < 24 then p (ix2 0 ⟨i, h⟩) else 0

theorem par_eq (i : ℕ) (hi : i < 24) (h : S1x24.Slices ![0, i] S1x1) (p : FVec Ideal S1x24 .f32) : par i h p = entry p i := by
  rw [entry, dif_pos hi]
  pointwise [par, par1]

/-- A kernel's value at each token, times the mask. -/
theorem lane_bells (μ : BitVec 32) (g : Ideal .f32) (m : Row) (c : Lanes) (q : Fin 32) {i : ℕ} (hi : i < 1024) :
    lane (bells μ g m c) q i = bell (Ideal.ofBits .f32 μ) g (lane c q i) * lane m 0 i := by
  rw [lane_of_lt _ _ hi, lane_of_lt _ _ hi, lane_of_lt _ _ hi]
  pointwise [bells]
  rfl

theorem weave_bells (μ : BitVec 32) (g : Ideal .f32) (me mo : Row) (ce co : Lanes) (q : Fin 32) {t : ℕ} (ht : t < 2048) :
    weave (bells μ g me ce) (bells μ g mo co) q t = bell (Ideal.ofBits .f32 μ) g (weave ce co q t) * weave me mo 0 t := by
  unfold weave
  split
  · exact lane_bells μ g me ce q (by omega)
  · exact lane_bells μ g mo co q (by omega)

theorem gain_first : sharp0 = gain 0 := rfl

theorem gain_other (k : Fin 11) (hk : k ≠ 0) : sharp = gain k := by
  rw [gain, if_neg hk]
  rfl

section
variable (me mo : Row) (ce co : Lanes) (d qm : FVec Ideal S32x1 .f32) (p : FVec Ideal S1x24 .f32)

/-- All the lanes are real. -/
def Real2 {r : ℕ} (x : FVec Ideal ⟨2, ![r, 1024]⟩ .f32) : Prop := ∀ q, ∀ i < 1024, IsReal (lane x q i)

variable {me mo ce co}

theorem real_bells {μ : BitVec 32} {g : Ideal .f32} {k : Fin 11} (hμ : Ideal.ofBits .f32 μ = mean k) (hg : g = gain k) {m : Row} {c : Lanes}
    (hm : Real2 m) (hc : Real2 c) : Real2 (bells μ g m c) := fun q i hi => by
  rw [lane_bells μ g m c q hi, hμ, hg]
  exact isReal_act k (c := lane c q) (m := lane m 0) (hc q i hi) (hm 0 i hi)

/-- A kernel's sums over the windows of 25 tokens. -/
theorem lane_bellSums25 {μ : BitVec 32} {g : Ideal .f32} {k : Fin 11} (hμ : Ideal.ofBits .f32 μ = mean k) (hg : g = gain k)
    (hme : Real2 me) (hmo : Real2 mo) (hce : Real2 ce) (hco : Real2 co) (q : Fin 32) {w : ℕ} (hw : w < 988) :
    lane (bellSums25 μ g me mo ce co) q w = win (act k (weave ce co q) (weave me mo 0)) 25 w := by
  rw [bellSums25, lane_sums25 _ _ q (real_bells hμ hg hme hce q) (real_bells hμ hg hmo hco q) hw]
  refine Finset.sum_congr rfl fun t ht => ?_
  have := Finset.mem_range.1 ht
  rw [weave_bells μ g me mo ce co q (by omega), hμ, hg]
  rfl

/-- A kernel's sums over the windows of 35 tokens. -/
theorem lane_bellSums35 {μ : BitVec 32} {g : Ideal .f32} {k : Fin 11} (hμ : Ideal.ofBits .f32 μ = mean k) (hg : g = gain k)
    (hme : Real2 me) (hmo : Real2 mo) (hce : Real2 ce) (hco : Real2 co) (q : Fin 32) {w : ℕ} (hw : w < 983) :
    lane (bellSums35 μ g me mo ce co) q w = win (act k (weave ce co q) (weave me mo 0)) 35 w := by
  rw [bellSums35, lane_sums35 _ _ q (real_bells hμ hg hme hce q) (real_bells hμ hg hmo hco q) hw]
  refine Finset.sum_congr rfl fun t ht => ?_
  have := Finset.mem_range.1 ht
  rw [weave_bells μ g me mo ce co q (by omega), hμ, hg]
  rfl

theorem positive_apply (L : Row) (i : Fin 1024) : positive L (ix2 0 i) = if 0 < L (ix2 0 i) then (1 : EReal) else 0 := by
  pointwise [positive]
  by_cases h : 0 < L (ix2 0 i) <;> simp [h, FloatOps.sitofp]

/-- The query's rows, without the padding. -/
abbrev term (q : Fin 30) : Fin 32 := q.castLE (by omega)

/-- A kernel's part of the scores: the padding's rows contribute nothing. -/
theorem lane_partOf (L : Row) (P : Lanes) (dw : Ideal .f32) (hq : ∀ q : Fin 32, 30 ≤ q.val → qm (ix2 q 0) = 0) {w : ℕ} (hw : w < 1024) :
    lane (partOf p d qm L P dw) 0 w
      = (∑ q : Fin 30, sat (entry p) (d (ix2 (term q) 0)) (qm (ix2 (term q) 0)) (lane P (term q) w) (lane L 0 w)) * dw := by
  have h : lane (partOf p d qm L P dw) 0 w
      = (∑ q : Fin 32, sat (entry p) (d (ix2 q 0)) (qm (ix2 q 0)) (lane P q w) (lane L 0 w)) * dw := by
    rw [lane_of_lt _ _ hw, partOf]
    simp only [lane_of_lt _ _ hw, par_eq _ (show (0 : ℕ) < 24 by omega), par_eq _ (show (1 : ℕ) < 24 by omega), par_eq _ (show (2 : ℕ) < 24 by omega),
      par_eq _ (show (3 : ℕ) < 24 by omega), par_eq _ (show (4 : ℕ) < 24 by omega), par_eq _ (show (5 : ℕ) < 24 by omega),
      par_eq _ (show (6 : ℕ) < 24 by omega), par_eq _ (show (7 : ℕ) < 24 by omega), par_eq _ (show (8 : ℕ) < 24 by omega)]
    pointwise [part, linear]
    simp only [positive_apply]
    rfl
  rw [h]
  congr 1
  rw [Fin.sum_univ_castSucc, Fin.sum_univ_castSucc]
  simp only [sat]
  rw [hq (Fin.castSucc (Fin.last 30)) (by decide), hq (Fin.last 31) (by decide)]
  simp only [mul_zero, zero_mul, add_zero]
  rfl

variable (me mo ce co)

/-- The scores of the windows of 25 tokens. -/
theorem lane_scores25 (hq : ∀ q : Fin 32, 30 ≤ q.val → qm (ix2 q 0) = 0)
    (hme : Real2 me) (hmo : Real2 mo) (hce : Real2 ce) (hco : Real2 co) {w : ℕ} (hw : w < 988) :
    lane (scores25 me mo ce co d qm p) 0 w
      = raw (entry p) (fun q => d (ix2 (term q) 0)) (fun q => qm (ix2 (term q) 0)) (fun q => weave ce co (term q)) (weave me mo 0) 25 w := by
  have hp : ∀ (k : Fin 11) (μ : BitVec 32) (g : Ideal .f32) (dw : Ideal .f32), Ideal.ofBits .f32 μ = mean k → g = gain k → dw = entry p (9 + k) →
      lane (part25 me mo ce co d qm p μ g dw) 0 w = (∑ q : Fin 30, sat (entry p) (d (ix2 (term q) 0)) (qm (ix2 (term q) 0))
        (win (act k (weave ce co (term q)) (weave me mo 0)) 25 w) (win (weave me mo 0) 25 w)) * entry p (9 + k) := by
    intro k μ g dw hμ hg hd
    rw [part25, lane_partOf d qm p _ _ dw hq (by omega), lane_len25, hd]
    simp only [lane_bellSums25 hμ hg hme hmo hce hco _ hw]
  have hz : lane zeroRow 0 w = 0 := by
    rw [lane_of_lt _ _ (by omega)]
    pointwise [zeroRow]
  simp only [scores25, lane_addf, hz, zero_add]
  rw [hp 0 0x3F800000#32 _ _ rfl gain_first (par_eq 9 (by omega) _ p), hp 1 0x3F666666#32 _ _ rfl (gain_other 1 (by decide)) (par_eq 10 (by omega) _ p),
    hp 2 0x3F333333#32 _ _ rfl (gain_other 2 (by decide)) (par_eq 11 (by omega) _ p), hp 3 0x3F000000#32 _ _ rfl (gain_other 3 (by decide)) (par_eq 12 (by omega) _ p),
    hp 4 0x3E99999A#32 _ _ rfl (gain_other 4 (by decide)) (par_eq 13 (by omega) _ p), hp 5 0x3DCCCCCD#32 _ _ rfl (gain_other 5 (by decide)) (par_eq 14 (by omega) _ p),
    hp 6 0xBDCCCCCD#32 _ _ rfl (gain_other 6 (by decide)) (par_eq 15 (by omega) _ p), hp 7 0xBE99999A#32 _ _ rfl (gain_other 7 (by decide)) (par_eq 16 (by omega) _ p),
    hp 8 0xBF000000#32 _ _ rfl (gain_other 8 (by decide)) (par_eq 17 (by omega) _ p), hp 9 0xBF333333#32 _ _ rfl (gain_other 9 (by decide)) (par_eq 18 (by omega) _ p),
    hp 10 0xBF666666#32 _ _ rfl (gain_other 10 (by decide)) (par_eq 19 (by omega) _ p)]
  simp only [raw, Fin.sum_univ_castSucc (n := 10), Fin.sum_univ_castSucc (n := 9), Fin.sum_univ_castSucc (n := 8), Fin.sum_univ_castSucc (n := 7),
    Fin.sum_univ_castSucc (n := 6), Fin.sum_univ_castSucc (n := 5), Fin.sum_univ_castSucc (n := 4), Fin.sum_univ_castSucc (n := 3),
    Fin.sum_univ_castSucc (n := 2), Fin.sum_univ_castSucc (n := 1), Fin.sum_univ_castSucc (n := 0), Fin.sum_univ_zero, zero_add]
  rfl

/-- The scores of the windows of 35 tokens. -/
theorem lane_scores35 (hq : ∀ q : Fin 32, 30 ≤ q.val → qm (ix2 q 0) = 0)
    (hme : Real2 me) (hmo : Real2 mo) (hce : Real2 ce) (hco : Real2 co) {w : ℕ} (hw : w < 983) :
    lane (scores35 me mo ce co d qm p) 0 w
      = raw (entry p) (fun q => d (ix2 (term q) 0)) (fun q => qm (ix2 (term q) 0)) (fun q => weave ce co (term q)) (weave me mo 0) 35 w := by
  have hp : ∀ (k : Fin 11) (μ : BitVec 32) (g : Ideal .f32) (dw : Ideal .f32), Ideal.ofBits .f32 μ = mean k → g = gain k → dw = entry p (9 + k) →
      lane (part35 me mo ce co d qm p μ g dw) 0 w = (∑ q : Fin 30, sat (entry p) (d (ix2 (term q) 0)) (qm (ix2 (term q) 0))
        (win (act k (weave ce co (term q)) (weave me mo 0)) 35 w) (win (weave me mo 0) 35 w)) * entry p (9 + k) := by
    intro k μ g dw hμ hg hd
    rw [part35, lane_partOf d qm p _ _ dw hq (by omega), lane_len35, hd]
    simp only [lane_bellSums35 hμ hg hme hmo hce hco _ hw]
  have hz : lane zeroRow 0 w = 0 := by
    rw [lane_of_lt _ _ (by omega)]
    pointwise [zeroRow]
  simp only [scores35, lane_addf, hz, zero_add]
  rw [hp 0 0x3F800000#32 _ _ rfl gain_first (par_eq 9 (by omega) _ p), hp 1 0x3F666666#32 _ _ rfl (gain_other 1 (by decide)) (par_eq 10 (by omega) _ p),
    hp 2 0x3F333333#32 _ _ rfl (gain_other 2 (by decide)) (par_eq 11 (by omega) _ p), hp 3 0x3F000000#32 _ _ rfl (gain_other 3 (by decide)) (par_eq 12 (by omega) _ p),
    hp 4 0x3E99999A#32 _ _ rfl (gain_other 4 (by decide)) (par_eq 13 (by omega) _ p), hp 5 0x3DCCCCCD#32 _ _ rfl (gain_other 5 (by decide)) (par_eq 14 (by omega) _ p),
    hp 6 0xBDCCCCCD#32 _ _ rfl (gain_other 6 (by decide)) (par_eq 15 (by omega) _ p), hp 7 0xBE99999A#32 _ _ rfl (gain_other 7 (by decide)) (par_eq 16 (by omega) _ p),
    hp 8 0xBF000000#32 _ _ rfl (gain_other 8 (by decide)) (par_eq 17 (by omega) _ p), hp 9 0xBF333333#32 _ _ rfl (gain_other 9 (by decide)) (par_eq 18 (by omega) _ p),
    hp 10 0xBF666666#32 _ _ rfl (gain_other 10 (by decide)) (par_eq 19 (by omega) _ p)]
  simp only [raw, Fin.sum_univ_castSucc (n := 10), Fin.sum_univ_castSucc (n := 9), Fin.sum_univ_castSucc (n := 8), Fin.sum_univ_castSucc (n := 7),
    Fin.sum_univ_castSucc (n := 6), Fin.sum_univ_castSucc (n := 5), Fin.sum_univ_castSucc (n := 4), Fin.sum_univ_castSucc (n := 3),
    Fin.sum_univ_castSucc (n := 2), Fin.sum_univ_castSucc (n := 1), Fin.sum_univ_castSucc (n := 0), Fin.sum_univ_zero, zero_add]
  rfl

end

end Cert.Kernel2Ideal.Scoring

end
-- ==== Proof.ScorePicks.lean ====
/- The choice of the best windows in the scoring kernel's body. -/
module

public import proofs.«01_k».proof.Proof.ScoreWindows

@[expose] public section

set_option maxRecDepth 16384

noncomputable section

namespace Cert.Kernel2Ideal.Scoring

open Cert.Kernel2Ideal Cert.Kernel2Ideal.Gen
open Idealize.ShloMosaic Cert.Score

/-- A lane's number. -/
theorem number {i : ℕ} (hi : i < 1024) : FloatOps.sitofp (F := Ideal) .f32 (BitVec.ofNat 32 i) = ((i : ℝ) : EReal) := by
  show (((BitVec.ofNat 32 i).toInt : ℝ) : EReal) = _
  have h : (BitVec.ofNat 32 i).toInt = (i : ℤ) := by
    rw [BitVec.toInt_eq_toNat_of_lt (by simp only [BitVec.toNat_ofNat]; omega)]
    simp only [BitVec.toNat_ofNat]
    omega
  rw [h]
  norm_cast

theorem top_bits : Ideal.ofBits .f32 0x7F800000#32 = ⊤ := by simp [Ideal.ofBits, Ideal.ieee]
theorem bot_bits : Ideal.ofBits .f32 0xFF800000#32 = ⊥ := by simp [Ideal.ofBits, Ideal.ieee]
theorem size_bits : Ideal.ofBits .f32 0x44800000#32 = ((1024 : ℝ) : EReal) := by simp [Ideal.ofBits, Ideal.ieee, -EReal.coe_mul]; norm_num
theorem region_bits : Ideal.ofBits .f32 0x42B60000#32 = ((91 : ℝ) : EReal) := by simp [Ideal.ofBits, Ideal.ieee, -EReal.coe_mul]; norm_num
theorem count25_bits : Ideal.ofBits .f32 0x44770000#32 = ((988 : ℝ) : EReal) := by simp [Ideal.ofBits, Ideal.ieee, -EReal.coe_mul]; norm_num
theorem count35_bits : Ideal.ofBits .f32 0x4475C000#32 = ((983 : ℝ) : EReal) := by simp [Ideal.ofBits, Ideal.ieee, -EReal.coe_mul]; norm_num
theorem half25_bits : Ideal.ofBits .f32 0x41480000#32 = ((25 / 2 : ℝ) : EReal) := by simp [Ideal.ofBits, Ideal.ieee, -EReal.coe_mul]; norm_num
theorem half35_bits : Ideal.ofBits .f32 0x418C0000#32 = ((35 / 2 : ℝ) : EReal) := by simp [Ideal.ofBits, Ideal.ieee, -EReal.coe_mul]; norm_num

/-- The row holds `f` in its first `n` lanes and minus infinity in the others. -/
def Holds (n : ℕ) (f : ℕ → EReal) (r : Row) : Prop := ∀ i < 1024, lane r 0 i = if i < n then f i else ⊥

/-- The first lane with the greatest score. -/
theorem firstMax_eq {n : ℕ} (hn : 0 < n) (hn' : n ≤ 1024) {f : ℕ → EReal} {r : Row} (h : Holds n f r) :
    firstMax r (ix2 0 0) = ((first n f : ℝ) : EReal) := by
  obtain ⟨hb, hmax, hlt⟩ := first_spec hn f
  set b := first n f with hbdef
  have hr : ∀ i : Fin 1024, r (ix2 0 i) = if i.val < n then f i else ⊥ := fun i => by rw [← h i i.isLt, lane_of_lt _ _ i.isLt]
  have hm : Finset.fold max (Ideal.ofBits .f32 0xFF800000#32) (fun x : Fin 1 × Fin 1024 => r (ix2 0 x.2)) Finset.univ = f b := by
    apply le_antisymm
    · refine (Finset.fold_max_le _).2 ⟨by rw [bot_bits]; exact bot_le, fun x _ => ?_⟩
      rw [hr]
      split
      · exact hmax _ (by assumption)
      · exact bot_le
    · refine (Finset.le_fold_max _).2 (.inr ⟨(0, ⟨b, by omega⟩), Finset.mem_univ _, ?_⟩)
      rw [hr, if_pos hb]
  pointwise [firstMax, lanes, one]
  rw [hm]
  apply le_antisymm
  · refine (Finset.fold_min_le _).2 (.inr ⟨(0, ⟨b, by omega⟩), Finset.mem_univ _, ?_⟩)
    rw [if_pos (by rw [hr, if_pos hb]), number (by omega)]
  · refine (Finset.le_fold_min _).2 ⟨by rw [top_bits]; exact le_top, fun x _ => ?_⟩
    split
    · rename_i he
      rw [number x.2.isLt]
      refine EReal.coe_le_coe_iff.2 (Nat.cast_le.2 ?_)
      by_contra hlt'
      have hx := hlt x.2 (by omega)
      rw [hr, if_pos (by omega)] at he
      exact absurd he hx.ne
    · rw [size_bits]
      refine EReal.coe_le_coe_iff.2 ?_
      have : ((b : ℕ) : ℝ) ≤ ((1024 : ℕ) : ℝ) := Nat.cast_le.2 (by omega)
      exact_mod_cast this

/-- The score of a lane. -/
theorem scoreAt_eq {r : Row} {f : ℕ → EReal} {b : FVec Ideal S1x1 .f32} {k : ℕ} (hk : k < 1024) (hb : b (ix2 0 0) = ((k : ℝ) : EReal))
    (hf : lane r 0 k = f k) : scoreAt r b (ix2 0 0) = val f k := by
  have hs : (∑ x : Fin 1, ∑ i : Fin 1024, if FloatOps.sitofp (F := Ideal) .f32 (BitVec.ofNat 32 i) = b (ix2 0 0) then r (ix2 0 i) else (0 : EReal)) = f k := by
    rw [Fin.sum_univ_one, Finset.sum_eq_single (⟨k, hk⟩ : Fin 1024)]
    · rw [if_pos (by rw [number hk, hb]), ← lane_of_lt r 0 hk, hf]
    · intro i _ hi
      rw [number i.isLt, hb, if_neg]
      intro he
      exact hi (Fin.ext (by exact_mod_cast he))
    · simp
  pointwise [scoreAt, lanes, one]
  rw [hs]
  rfl

/-- The lanes below `n`. -/
theorem holds_below {n : BitVec 32} {k : ℕ} (hn : Ideal.ofBits .f32 n = ((k : ℝ) : EReal)) {r : Row} {f : ℕ → EReal} (hf : ∀ i < k, lane r 0 i = f i) :
    Holds k f (below n r) := by
  intro i hi
  rw [lane_of_lt _ _ hi]
  pointwise [below, lanes]
  rw [number hi, hn]
  by_cases h : i < k
  · rw [if_pos (by exact_mod_cast h), if_pos h, ← hf i h, lane_of_lt _ _ hi]
  · rw [if_neg (by exact_mod_cast h), if_neg h]
    rfl

/-- The picked lane's neighbours replaced. -/
theorem holds_without {h : BitVec 32} {W : ℕ} (hh : Ideal.ofBits .f32 h = ((W / 2 : ℝ) : EReal)) (v : BitVec 32) {b : FVec Ideal S1x1 .f32} {k : ℕ}
    (hb : b (ix2 0 0) = ((k : ℝ) : EReal)) {r : Row} {f : ℕ → EReal} (hr : Holds 91 f r) :
    Holds 91 (knock W (Ideal.ofBits .f32 v) k f) (without h v b r) := by
  intro i hi
  have hri := hr i hi
  rw [lane_of_lt _ _ hi] at hri ⊢
  pointwise [without, lanes]
  rw [number hi, hb, hh, region_bits, hri]
  have hnear : (FloatOps.absf (F := Ideal) (φ := .f32) (((i : ℝ) : EReal) - ((k : ℝ) : EReal)) < ((W / 2 : ℝ) : EReal))
      ↔ 2 * (i - k) < W ∧ 2 * (k - i) < W := by
    show max (((i : ℝ) : EReal) - ((k : ℝ) : EReal)) (-(((i : ℝ) : EReal) - ((k : ℝ) : EReal))) < _ ↔ _
    rw [← EReal.coe_sub, ← EReal.coe_neg, max_lt_iff, EReal.coe_lt_coe_iff, EReal.coe_lt_coe_iff]
    have e1 : ((i : ℝ) - k < W / 2) ↔ 2 * i < W + 2 * k := by
      rw [← Nat.cast_lt (α := ℝ)]; push_cast; constructor <;> intro _ <;> linarith
    have e2 : (-((i : ℝ) - k) < W / 2) ↔ 2 * k < W + 2 * i := by
      rw [← Nat.cast_lt (α := ℝ)]; push_cast; constructor <;> intro _ <;> linarith
    rw [e1, e2]
    by_cases hW : W = 0
    · subst hW; omega
    · omega
  have hreg : (((i : ℝ) : EReal) < ((91 : ℝ) : EReal)) ↔ i < 91 := by
    rw [EReal.coe_lt_coe_iff]; exact_mod_cast Iff.rfl
  by_cases h1 : i < 91
  · by_cases h2 : 2 * (i - k) < W ∧ 2 * (k - i) < W
    · simp only [decide_eq_true (hnear.2 h2), decide_eq_true (hreg.2 h1), if_pos h1, knock, if_pos h2]
      rfl
    · simp only [decide_eq_false (mt hnear.1 h2), decide_eq_true (hreg.2 h1), if_pos h1, knock, if_neg h2]
      rfl
  · simp only [decide_eq_false (mt hreg.1 h1), if_neg h1]
    cases decide (FloatOps.absf (F := Ideal) (φ := .f32) (((i : ℝ) : EReal) - ((k : ℝ) : EReal)) < ((W / 2 : ℝ) : EReal)) <;> rfl

/-- The three best windows' scores, weighted. -/
theorem best_eq {n h : BitVec 32} {N W : ℕ} (hN : 91 ≤ N) (hN' : N < 1024) (hn : Ideal.ofBits .f32 n = ((N : ℝ) : EReal))
    (hh : Ideal.ofBits .f32 h = ((W / 2 : ℝ) : EReal)) (p : FVec Ideal S1x24 .f32) {s : Row} {f : ℕ → EReal} (hf : ∀ i < N, lane s 0 i = f i) :
    best n h p s (ix2 0 0) = pooled (entry p) N W f := by
  have h1 := firstMax_eq (by omega) (by omega) (holds_below hn hf)
  have g2 : Holds 91 (after1 N W f) (second n h s) :=
    holds_without hh 0xC61C4400#32 h1 (holds_below (k := 91) (by rw [region_bits]; norm_num) fun i hi => hf i (by omega))
  have h2 := firstMax_eq (by omega) (by omega) g2
  have g3 : Holds 91 (after2 N W f) (third n h s) := holds_without hh 0xC61C4800#32 h2 g2
  have h3 := firstMax_eq (by omega) (by omega) g3
  have b1 := (first_spec (show 0 < N by omega) f).1
  have b2 := (first_spec (show 0 < 91 by omega) (after1 N W f)).1
  have b3 := (first_spec (show 0 < 91 by omega) (after2 N W f)).1
  have e : ∀ (i : ℕ) (hi : i < 24) (hs : S1x24.Slices ![0, i] S1x1), par1 i hs p (ix2 0 0) = entry p i := fun i hi hs => by
    rw [entry, dif_pos hi]
    pointwise [par1]
  pointwise [best]
  rw [scoreAt_eq (by omega) h1 (hf _ b1), scoreAt_eq (by omega) h2 (hf _ (by omega)), scoreAt_eq (by omega) h3 (hf _ (by omega)),
    e 20 (by omega), e 21 (by omega), e 22 (by omega)]
  rfl

/-- The two window sizes' results, weighted. -/
theorem blend_eq (p : FVec Ideal S1x24 .f32) (a b : FVec Ideal S1x1 .f32) :
    blend p a b (ix3 0 0 0) = Ideal.div (Ideal.ofBits .f32 0x420C0000#32 - entry p 23) (Ideal.ofBits .f32 0x41200000#32) * a (ix2 0 0)
      + Ideal.div (entry p 23 - Ideal.ofBits .f32 0x41C80000#32) (Ideal.ofBits .f32 0x41200000#32) * b (ix2 0 0) := by
  rw [entry, dif_pos (by omega)]
  pointwise [blend, par1]

/-- The marked scores. -/
theorem lane_replaced (s : Row) {i : ℕ} (hi : i < 1024) : lane (replaced s) 0 i = marked (lane s 0 i) := by
  rw [lane_of_lt _ _ hi, lane_of_lt _ _ hi]
  pointwise [replaced]
  rfl

section
variable (me mo : Row) (ce co : Lanes) (d qm : FVec Ideal S32x1 .f32) (p : FVec Ideal S1x24 .f32)

/-- What the body makes of a document and a query. -/
theorem body_eq (hq : ∀ q : Fin 32, 30 ≤ q.val → qm (ix2 q 0) = 0) (hme : Real2 me) (hmo : Real2 mo) (hce : Real2 ce) (hco : Real2 co) :
    blend p (best 0x44770000#32 0x41480000#32 p (replaced (scores25 me mo ce co d qm p)))
        (best 0x4475C000#32 0x418C0000#32 p (replaced (scores35 me mo ce co d qm p))) (ix3 0 0 0)
      = document (entry p) (fun q => d (ix2 (term q) 0)) (fun q => qm (ix2 (term q) 0)) (fun q => weave ce co (term q)) (weave me mo 0) := by
  rw [blend_eq,
    best_eq (N := 988) (W := 25) (by omega) (by omega) (by rw [count25_bits]; norm_num) (by rw [half25_bits]; norm_num) p fun i hi =>
      (lane_replaced _ (by omega)).trans (congrArg marked (lane_scores25 me mo ce co d qm p hq hme hmo hce hco hi)),
    best_eq (N := 983) (W := 35) (by omega) (by omega) (by rw [count35_bits]; norm_num) (by rw [half35_bits]; norm_num) p fun i hi =>
      (lane_replaced _ (by omega)).trans (congrArg marked (lane_scores35 me mo ce co d qm p hq hme hmo hce hco hi))]
  rfl

end

end Cert.Kernel2Ideal.Scoring

end
-- ==== Proof.ScoreResult.lean ====
/- The documents' scores, from the arrays of embeddings, masks and parameters. -/
module

public import proofs.«01_k».proof.Proof.Score
public import Idealize.ShloMosaic.Lib.Pointwise

@[expose] public section

noncomputable section

namespace Cert.Score

open Idealize.ShloMosaic

/-- The 24 parameters, in one row. -/
def parameters (w1 : FVec Ideal ⟨2, ![1, 2]⟩ .f32) (b1 : FVec Ideal ⟨1, ![1]⟩ .f32) (w2 : FVec Ideal ⟨2, ![1, 2]⟩ .f32) (b2 : FVec Ideal ⟨1, ![1]⟩ .f32)
    (w3 : FVec Ideal ⟨2, ![1, 2]⟩ .f32) (b3 : FVec Ideal ⟨1, ![1]⟩ .f32) (dw : FVec Ideal ⟨2, ![1, 11]⟩ .f32) (cs : FVec Ideal ⟨2, ![1, 3]⟩ .f32)
    (ws : FVec Ideal ⟨1, ![1]⟩ .f32) : ℕ → EReal
  | 0 => w1 (ix2 0 0) | 1 => w1 (ix2 0 1) | 2 => b1 (ix1 0)
  | 3 => w2 (ix2 0 0) | 4 => w2 (ix2 0 1) | 5 => b2 (ix1 0)
  | 6 => w3 (ix2 0 0) | 7 => w3 (ix2 0 1) | 8 => b3 (ix1 0)
  | 20 => cs (ix2 0 0) | 21 => cs (ix2 0 1) | 22 => cs (ix2 0 2) | 23 => ws (ix1 0)
  | i => if h : i - 9 < 11 then dw (ix2 0 ⟨i - 9, h⟩) else 0

/-- The cosine of query term `q` and token `t` of document `b`: token `t` is in chunk `t / 40`, behind 5 tokens of overlap. -/
def cosine (x : FVec Ideal ⟨3, ![1632, 56, 128]⟩ .f32) (b : Fin 32) (q : Fin 30) (t : ℕ) : EReal :=
  if h : t < 2000 then ∑ e : Fin 128, x (ix3 ⟨1600 + b, by omega⟩ ⟨q, by omega⟩ e) * x (ix3 ⟨b * 50 + t / 40, by omega⟩ ⟨5 + t % 40, by omega⟩ e) else 0

/-- The mask of token `t` of document `b`. -/
def tokenMask (m : FVec Ideal ⟨2, ![32, 2000]⟩ .f32) (b : Fin 32) (t : ℕ) : EReal := if h : t < 2000 then m (ix2 b ⟨t, h⟩) else 0

/-- The documents' scores. -/
def Scored (x : FVec Ideal ⟨3, ![1632, 56, 128]⟩ .f32) (qm : FVec Ideal ⟨2, ![32, 30]⟩ .f32) (m : FVec Ideal ⟨2, ![32, 2000]⟩ .f32)
    (d : FVec Ideal ⟨3, ![32, 30, 1]⟩ .f32) (w1 : FVec Ideal ⟨2, ![1, 2]⟩ .f32) (b1 : FVec Ideal ⟨1, ![1]⟩ .f32)
    (w2 : FVec Ideal ⟨2, ![1, 2]⟩ .f32) (b2 : FVec Ideal ⟨1, ![1]⟩ .f32)
    (w3 : FVec Ideal ⟨2, ![1, 2]⟩ .f32) (b3 : FVec Ideal ⟨1, ![1]⟩ .f32) (dw : FVec Ideal ⟨2, ![1, 11]⟩ .f32) (cs : FVec Ideal ⟨2, ![1, 3]⟩ .f32)
    (ws : FVec Ideal ⟨1, ![1]⟩ .f32) : FVec Ideal ⟨3, ![32, 1, 1]⟩ .f32 := fun j =>
  document (parameters w1 b1 w2 b2 w3 b3 dw cs ws) (fun q => d (ix3 (j 0) q 0)) (fun q => qm (ix2 (j 0) q)) (cosine x (j 0)) (tokenMask m (j 0))

theorem Scored_apply (x : FVec Ideal ⟨3, ![1632, 56, 128]⟩ .f32) (qm : FVec Ideal ⟨2, ![32, 30]⟩ .f32) (m : FVec Ideal ⟨2, ![32, 2000]⟩ .f32)
    (d : FVec Ideal ⟨3, ![32, 30, 1]⟩ .f32) (w1 : FVec Ideal ⟨2, ![1, 2]⟩ .f32) (b1 : FVec Ideal ⟨1, ![1]⟩ .f32)
    (w2 : FVec Ideal ⟨2, ![1, 2]⟩ .f32) (b2 : FVec Ideal ⟨1, ![1]⟩ .f32)
    (w3 : FVec Ideal ⟨2, ![1, 2]⟩ .f32) (b3 : FVec Ideal ⟨1, ![1]⟩ .f32) (dw : FVec Ideal ⟨2, ![1, 11]⟩ .f32) (cs : FVec Ideal ⟨2, ![1, 3]⟩ .f32)
    (ws : FVec Ideal ⟨1, ![1]⟩ .f32) (b : Fin 32) : Scored x qm m d w1 b1 w2 b2 w3 b3 dw cs ws (ix3 b 0 0) =
  document (parameters w1 b1 w2 b2 w3 b3 dw cs ws) (fun q => d (ix3 b q 0)) (fun q => qm (ix2 b q)) (cosine x b) (tokenMask m b) := rfl

theorem isReal_cosine {x : FVec Ideal ⟨3, ![1632, 56, 128]⟩ .f32} (hx : ∀ j, IsReal (x j)) (b : Fin 32) (q : Fin 30) (t : ℕ) : IsReal (cosine x b q t) := by
  unfold cosine
  split
  · exact IsReal.sum _ fun e _ => (hx _).mul (hx _)
  · exact isReal_zero

theorem isReal_tokenMask {m : FVec Ideal ⟨2, ![32, 2000]⟩ .f32} (hm : ∀ j, m j = 0 ∨ m j = 1) (b : Fin 32) (t : ℕ) : IsReal (tokenMask m b t) := by
  unfold tokenMask
  split <;> rename_i h
  · rcases hm (ix2 b ⟨t, h⟩) with e | e <;> rw [e]
    · exact isReal_zero
    · exact ⟨1, rfl⟩
  · exact isReal_zero

end Cert.Score

end
-- ==== Proof.ScoreInputs.lean ====
/- The arrays the scoring kernel's grid is given, read at an entry. -/
module

public import proofs.«01_k».proof.Proof.ScorePicks
public import proofs.«01_k».proof.Proof.ScoreResult
public import Idealize.ShloMosaic.Lib.Claim

@[expose] public section

set_option maxRecDepth 16384

noncomputable section

namespace Cert.Kernel2Ideal.Scoring

open Cert.Kernel2Ideal Cert.Kernel2Ideal.Gen
open Idealize.ShloMosaic Idealize.ShloMosaic.TcCoe Idealize.SL.Sem Cert.Score

variable (m : (ℓ : Loc nD τ sig) → Buf (Elt Ideal) ℓ) (c : Dev nD)

/-- The normalised embeddings as launched. -/
abbrev normed : FVec Ideal S1632x56x128 .f32 := m ((c : Thread nD τ).loc main_arg0)

/-- The query mask as launched. -/
abbrev queryMask : FVec Ideal S32x30 .f32 := m ((c : Thread nD τ).loc main_arg1)

/-- The document mask as launched. -/
abbrev docMask : FVec Ideal S32x2000 .f32 := m ((c : Thread nD τ).loc main_arg2)

/-- The query terms' weights as launched. -/
abbrev idfs : FVec Ideal S32x30x1 .f32 := m ((c : Thread nD τ).loc main_arg3)

/-- The chunks' tokens, without the overlap, one document after the other. -/
abbrev tokens2 : FVec Ideal S32x2000x128 .f32 :=
  shapeCast S32x2000x128 (extractStridedSlice S1600x40x128 ![0, 5, 0] (normed m c) slices_S1632x56x128_S1600x40x128_0_5_0) shapeCasts_S1600x40x128_S32x2000x128

/-- The value of the padding. -/
abbrev zero0 : FVec Ideal S_ .f32 := sitofp (F := Ideal) .f32 (constantI S_ 32 0#32)

theorem queries_eq : V m c main_v13 = pad (α := Ideal .f32) S32x32x128 ![0, 0, 0] ![0, 2, 0] ![0, 0, 0]
    (extractStridedSlice S32x30x128 ![1600, 0, 0] (normed m c) slices_S1632x56x128_S32x30x128_1600_0_0) zero0 pads_S32x30x128_S32x32x128_000_020_000 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

theorem evens_eq : V m c main_v4 = pad (α := Ideal .f32) S32x1024x128 ![0, 0, 0] ![0, 24, 0] ![0, 0, 0]
    (Host.slice S32x1000x128 ![0, 0, 0] ![1, 2, 1] (tokens2 m c) slicesBy_S32x2000x128_S32x1000x128_0s1_0s2_0s1) zero0 pads_S32x1000x128_S32x1024x128_000_0240_000 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

theorem odds_eq : V m c main_v6 = pad (α := Ideal .f32) S32x1024x128 ![0, 0, 0] ![0, 24, 0] ![0, 0, 0]
    (Host.slice S32x1000x128 ![0, 1, 0] ![1, 2, 1] (tokens2 m c) slicesBy_S32x2000x128_S32x1000x128_0s1_1s2_0s1) zero0 pads_S32x1000x128_S32x1024x128_000_0240_000 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

theorem maskEvens_eq : V m c main_v9 = shapeCast (α := Ideal .f32) S32x1x1024 (pad S32x1024 ![0, 0] ![0, 24] ![0, 0]
    (Host.slice S32x1000 ![0, 0] ![1, 2] (docMask m c) slicesBy_S32x2000_S32x1000_0s1_0s2) zero0 pads_S32x1000_S32x1024_000_0240 h_S_) shapeCasts_S32x1024_S32x1x1024 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

theorem maskOdds_eq : V m c main_v12 = shapeCast (α := Ideal .f32) S32x1x1024 (pad S32x1024 ![0, 0] ![0, 24] ![0, 0]
    (Host.slice S32x1000 ![0, 1] ![1, 2] (docMask m c) slicesBy_S32x2000_S32x1000_0s1_1s2) zero0 pads_S32x1000_S32x1024_000_0240 h_S_) shapeCasts_S32x1024_S32x1x1024 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

theorem idfs_eq : V m c main_v14 = pad (α := Ideal .f32) S32x32x1 ![0, 0, 0] ![0, 2, 0] ![0, 0, 0] (idfs m c) zero0 pads_S32x30x1_S32x32x1_000_020_000 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

theorem queryMask_eq : V m c main_v16 = pad (α := Ideal .f32) S32x32x1 ![0, 0, 0] ![0, 2, 0] ![0, 0, 0]
    (broadcastInDim S32x30x1 ![0, 1] bcast_S32x30_S32x30x1_0_1 (queryMask m c)) zero0 pads_S32x30x1_S32x32x1_000_020_000 h_S_ := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

/-- The parameters as launched, in one row. -/
abbrev pars : ℕ → EReal :=
  parameters (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem params_eq : V m c main_v23 = shapeCast (α := Ideal .f32) S1x24 (concatenate S24 0
    [⟨S2, shapeCast S2 (m ((c : Thread nD τ).loc main_arg4)) shapeCasts_S1x2_S2⟩, ⟨S1, m ((c : Thread nD τ).loc main_arg5)⟩,
     ⟨S2, shapeCast S2 (m ((c : Thread nD τ).loc main_arg6)) shapeCasts_S1x2_S2⟩, ⟨S1, m ((c : Thread nD τ).loc main_arg7)⟩,
     ⟨S2, shapeCast S2 (m ((c : Thread nD τ).loc main_arg8)) shapeCasts_S1x2_S2⟩, ⟨S1, m ((c : Thread nD τ).loc main_arg9)⟩,
     ⟨S11, shapeCast S11 (m ((c : Thread nD τ).loc main_arg10)) shapeCasts_S1x11_S11⟩, ⟨S3, shapeCast S3 (m ((c : Thread nD τ).loc main_arg11)) shapeCasts_S1x3_S3⟩,
     ⟨S1, m ((c : Thread nD τ).loc main_arg12)⟩] concatenates_S2_S1_S2_S1_S2_S1_S11_S3_S1_S24_d0) shapeCasts_S24_S1x24 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_results
  rfl

theorem zero_eq (h : FTy) : (FloatOps.sitofp (F := Ideal) h (0#32) : EReal) = 0 := by
  show ((((0#32 : BitVec 32).toInt : ℤ) : ℝ) : EReal) = 0
  norm_num

/-- The row of parameters the grid is given. -/
theorem entry_params : entry (V m c main_v23) = pars m c := by
  have hd : ∀ (i : ℕ) (h9 : 9 ≤ i) (h20 : i < 20), entry (V m c main_v23) i = pars m c i := by
    intro i h9 h20
    rw [entry, dif_pos (by omega), params_eq]
    obtain ⟨k, rfl⟩ : ∃ k, i = 9 + k := ⟨i - 9, by omega⟩
    have hk : k < 11 := by omega
    interval_cases k <;> pointwise <;> rfl
  funext i
  by_cases h : i < 24
  · by_cases h9 : 9 ≤ i ∧ i < 20
    · exact hd i h9.1 h9.2
    · rw [entry, dif_pos h, params_eq]
      interval_cases i <;> first | omega | (pointwise; try rfl)
  · rw [entry, dif_neg h]
    obtain ⟨k, rfl⟩ : ∃ k, i = 24 + k := ⟨i - 24, by omega⟩
    rw [pars, parameters] <;> first | omega | rw [dif_neg (by omega)]

end Cert.Kernel2Ideal.Scoring

end
-- ==== Proof.ScoreArray.lean ====
/- The array the scoring run leaves: the documents' scores. -/
module

public import proofs.«01_k».proof.Proof.ScoreInputs
public import Idealize.ShloMosaic.Lib.Pipeline.ValueKit.Basic

@[expose] public section

set_option maxRecDepth 16384

noncomputable section

namespace Cert.Kernel2Ideal.Scoring

open Cert.Kernel2Ideal Cert.Kernel2Ideal.Gen
open Idealize.ShloMosaic Idealize.ShloMosaic.TcCoe Idealize.SL.Sem Cert.Score
open Idealize.ShloMosaic.Pipeline (Dat)

variable (m : (ℓ : Loc nD τ sig) → Buf (Elt Ideal) ℓ) (ρ : Dev nD → PrngReg) (c : Dev nD)

/-! ## The blocks of the inputs -/

theorem at_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem at_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem at_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem at_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem at_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem at_5 : ∀ t : Fin cfg0.N, win0_5.index t (0 : Fin 3) = t.val ∧ win0_5.index t (1 : Fin 3) = 0 ∧ win0_5.index t (2 : Fin 3) = 0 :=
  (by decide +kernel : ∀ t : Fin grid0.N, _)
theorem at_6 : ∀ t : Fin cfg0.N, win0_6.index t (0 : Fin 3) = t.val ∧ win0_6.index t (1 : Fin 3) = 0 ∧ win0_6.index t (2 : Fin 3) = 0 :=
  (by decide +kernel : ∀ t : Fin grid0.N, _)
theorem at_7 : ∀ (t : Fin cfg0.N) (a : Fin 2), win0_7.index t a = 0 := (by decide +kernel : ∀ (t : Fin grid0.N) (a : Fin 2), _)
theorem at_8 : ∀ t : Fin cfg0.N, win0_8.index t (0 : Fin 3) = t.val ∧ win0_8.index t (1 : Fin 3) = 0 ∧ win0_8.index t (2 : Fin 3) = 0 :=
  (by decide +kernel : ∀ t : Fin grid0.N, _)

/-- A grid point's document. -/
abbrev doc (t : Fin cfg0.N) : Fin 32 := ⟨t.val, t.isLt⟩

theorem read_0 (t : Fin cfg0.N) (q : Fin 32) (e : Fin 128) : iblk m c 0 t (ix3 0 q e) = V m c main_v13 (ix3 (doc t) q e) := by
  obtain ⟨e0, e1, e2⟩ := at_0 t
  show V m c main_v13 (((cfg0.win 0).blk t).view.emb (ix3 0 q e)) = _
  refine congrArg _ (funext fun a => Fin.ext ?_)
  match a with
  | ⟨0, _⟩ => show win0_0.index t (0 : Fin 3) * 1 + 1 * 0 = t.val; omega
  | ⟨1, _⟩ => show win0_0.index t (1 : Fin 3) * 32 + 1 * q.val = q.val; omega
  | ⟨2, _⟩ => show win0_0.index t (2 : Fin 3) * 128 + 1 * e.val = e.val; omega
theorem read_1 (t : Fin cfg0.N) (i : Fin 1024) (e : Fin 128) : iblk m c 1 t (ix3 0 i e) = V m c main_v4 (ix3 (doc t) i e) := by
  obtain ⟨e0, e1, e2⟩ := at_1 t
  show V m c main_v4 (((cfg0.win 1).blk t).view.emb (ix3 0 i e)) = _
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * i.val = i.val; omega
  | ⟨2, _⟩ => show win0_1.index t (2 : Fin 3) * 128 + 1 * e.val = e.val; omega
theorem read_2 (t : Fin cfg0.N) (i : Fin 1024) (e : Fin 128) : iblk m c 2 t (ix3 0 i e) = V m c main_v6 (ix3 (doc t) i e) := by
  obtain ⟨e0, e1, e2⟩ := at_2 t
  show V m c main_v6 (((cfg0.win 2).blk t).view.emb (ix3 0 i e)) = _
  refine congrArg _ (funext fun a => Fin.ext ?_)
  match a with
  | ⟨0, _⟩ => show win0_2.index t (0 : Fin 3) * 1 + 1 * 0 = t.val; omega
  | ⟨1, _⟩ => show win0_2.index t (1 : Fin 3) * 1024 + 1 * i.val = i.val; omega
  | ⟨2, _⟩ => show win0_2.index t (2 : Fin 3) * 128 + 1 * e.val = e.val; omega
theorem read_3 (t : Fin cfg0.N) (i : Fin 1024) : iblk m c 3 t (ix3 0 0 i) = V m c main_v9 (ix3 (doc t) 0 i) := by
  obtain ⟨e0, e1, e2⟩ := at_3 t
  show V m c main_v9 (((cfg0.win 3).blk t).view.emb (ix3 0 0 i)) = _
  refine congrArg _ (funext fun a => Fin.ext ?_)
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 1024 + 1 * i.val = i.val; omega
theorem read_4 (t : Fin cfg0.N) (i : Fin 1024) : iblk m c 4 t (ix3 0 0 i) = V m c main_v12 (ix3 (doc t) 0 i) := by
  obtain ⟨e0, e1, e2⟩ := at_4 t
  show V m c main_v12 (((cfg0.win 4).blk t).view.emb (ix3 0 0 i)) = _
  refine congrArg _ (funext fun a => Fin.ext ?_)
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 1024 + 1 * i.val = i.val; omega
theorem read_5 (t : Fin cfg0.N) (q : Fin 32) : iblk m c 5 t (ix3 0 q 0) = V m c main_v14 (ix3 (doc t) q 0) := by
  obtain ⟨e0, e1, e2⟩ := at_5 t
  show V m c main_v14 (((cfg0.win 5).blk t).view.emb (ix3 0 q 0)) = _
  refine congrArg _ (funext fun a => Fin.ext ?_)
  match a with
  | ⟨0, _⟩ => show win0_5.index t (0 : Fin 3) * 1 + 1 * 0 = t.val; omega
  | ⟨1, _⟩ => show win0_5.index t (1 : Fin 3) * 32 + 1 * q.val = q.val; omega
  | ⟨2, _⟩ => show win0_5.index t (2 : Fin 3) * 1 + 1 * 0 = 0; omega
theorem read_6 (t : Fin cfg0.N) (q : Fin 32) : iblk m c 6 t (ix3 0 q 0) = V m c main_v16 (ix3 (doc t) q 0) := by
  obtain ⟨e0, e1, e2⟩ := at_6 t
  show V m c main_v16 (((cfg0.win 6).blk t).view.emb (ix3 0 q 0)) = _
  refine congrArg _ (funext fun a => Fin.ext ?_)
  match a with
  | ⟨0, _⟩ => show win0_6.index t (0 : Fin 3) * 1 + 1 * 0 = t.val; omega
  | ⟨1, _⟩ => show win0_6.index t (1 : Fin 3) * 32 + 1 * q.val = q.val; omega
  | ⟨2, _⟩ => show win0_6.index t (2 : Fin 3) * 1 + 1 * 0 = 0; omega
theorem read_7 (t : Fin cfg0.N) : iblk m c 7 t = V m c main_v23 := by
  funext j
  show V m c main_v23 (((cfg0.win 7).blk t).view.emb j) = V m c main_v23 j
  refine congrArg _ (funext fun a => Fin.ext ?_)
  show win0_7.index t a * S1x24.size a + 1 * (j a).val = (j a).val
  rw [at_7]; omega

theorem place_8 (t : Fin cfg0.N) : ((cfg0.win 8).blk t).view.emb (ix3 0 0 0) = ix3 (doc t) 0 0 := by
  obtain ⟨e0, e1, e2⟩ := at_8 t
  refine funext fun a => Fin.ext ?_
  match a with
  | ⟨0, _⟩ => show win0_8.index t (0 : Fin 3) * 1 + 1 * 0 = t.val; omega
  | ⟨1, _⟩ => show win0_8.index t (1 : Fin 3) * 1 + 1 * 0 = 0; omega
  | ⟨2, _⟩ => show win0_8.index t (2 : Fin 3) * 1 + 1 * 0 = 0; omega

/-! ## What the body makes of its blocks -/

section
variable (x0 : Vec Ideal S1x32x128 .f32) (x1 x2 : Vec Ideal S1x1024x128 .f32) (x3 x4 : Vec Ideal S1x1x1024 .f32) (x5 x6 : Vec Ideal S1x32x1 .f32) (x7 : Vec Ideal S1x24 .f32)

theorem pay_0 (q : Fin 32) (i : Fin 1024) : k0_pay165 x0 x1 x2 x3 x4 x5 x6 x7 (ix2 q i) = ∑ e : Fin 128, (x0 (ix3 0 q e) : EReal) * x1 (ix3 0 i e) := by
  pointwise [k0_pay165, k0_pay8, k0_pay2]
theorem pay_1 (q : Fin 32) (i : Fin 1024) : k0_pay166 x0 x1 x2 x3 x4 x5 x6 x7 (ix2 q i) = ∑ e : Fin 128, (x0 (ix3 0 q e) : EReal) * x2 (ix3 0 i e) := by
  pointwise [k0_pay166, k0_pay9, k0_pay2]
theorem pay_2 (i : Fin 1024) : k0_pay160 x0 x1 x2 x3 x4 x5 x6 x7 (ix2 0 i) = x3 (ix3 0 0 i) := by
  pointwise [k0_pay160, k0_pay3]
theorem pay_3 (i : Fin 1024) : k0_pay161 x0 x1 x2 x3 x4 x5 x6 x7 (ix2 0 i) = x4 (ix3 0 0 i) := by
  pointwise [k0_pay161, k0_pay4]
theorem pay_4 (q : Fin 32) : k0_pay162 x0 x1 x2 x3 x4 x5 x6 x7 (ix2 q 0) = x5 (ix3 0 q 0) := by
  pointwise [k0_pay162, k0_pay5]
theorem pay_5 (q : Fin 32) : k0_pay163 x0 x1 x2 x3 x4 x5 x6 x7 (ix2 q 0) = x6 (ix3 0 q 0) := by
  pointwise [k0_pay163, k0_pay6]
theorem pay_6 (k : Fin 24) : k0_pay164 x0 x1 x2 x3 x4 x5 x6 x7 (ix2 0 k) = x7 (ix2 0 k) := by
  pointwise [k0_pay164, k0_pay7]

end

/-! ## What the body is given -/

section
variable (t : Fin cfg0.N)

/-- The cosines of the even tokens. -/
abbrev evenCos : Lanes := k0_pay165 (iblk m c 0 t) (iblk m c 1 t) (iblk m c 2 t) (iblk m c 3 t) (iblk m c 4 t) (iblk m c 5 t) (iblk m c 6 t) (iblk m c 7 t)

/-- The cosines of the odd tokens. -/
abbrev oddCos : Lanes := k0_pay166 (iblk m c 0 t) (iblk m c 1 t) (iblk m c 2 t) (iblk m c 3 t) (iblk m c 4 t) (iblk m c 5 t) (iblk m c 6 t) (iblk m c 7 t)

/-- The mask of the even tokens. -/
abbrev evenMask : Row := k0_pay160 (iblk m c 0 t) (iblk m c 1 t) (iblk m c 2 t) (iblk m c 3 t) (iblk m c 4 t) (iblk m c 5 t) (iblk m c 6 t) (iblk m c 7 t)

/-- The mask of the odd tokens. -/
abbrev oddMask : Row := k0_pay161 (iblk m c 0 t) (iblk m c 1 t) (iblk m c 2 t) (iblk m c 3 t) (iblk m c 4 t) (iblk m c 5 t) (iblk m c 6 t) (iblk m c 7 t)

/-- The terms' weights. -/
abbrev weights : FVec Ideal S32x1 .f32 := k0_pay162 (iblk m c 0 t) (iblk m c 1 t) (iblk m c 2 t) (iblk m c 3 t) (iblk m c 4 t) (iblk m c 5 t) (iblk m c 6 t) (iblk m c 7 t)

/-- The terms' mask. -/
abbrev termMask : FVec Ideal S32x1 .f32 := k0_pay163 (iblk m c 0 t) (iblk m c 1 t) (iblk m c 2 t) (iblk m c 3 t) (iblk m c 4 t) (iblk m c 5 t) (iblk m c 6 t) (iblk m c 7 t)

/-- The parameters. -/
abbrev paramRow : FVec Ideal S1x24 .f32 := k0_pay164 (iblk m c 0 t) (iblk m c 1 t) (iblk m c 2 t) (iblk m c 3 t) (iblk m c 4 t) (iblk m c 5 t) (iblk m c 6 t) (iblk m c 7 t)

theorem query_apply (b q : Fin 32) (e : Fin 128) : V m c main_v13 (ix3 b q e) = if h : q.val < 30 then normed m c (ix3 ⟨1600 + b, by omega⟩ ⟨q, by omega⟩ e) else (0 : EReal) := by
  rw [queries_eq]
  pointwise
  rw [zero_eq]

theorem even_apply (b : Fin 32) (i : Fin 1024) (e : Fin 128) : V m c main_v4 (ix3 b i e) = if h : i.val < 1000 then normed m c (ix3 ⟨b * 50 + 2 * i / 40, by omega⟩ ⟨5 + 2 * i % 40, by omega⟩ e) else (0 : EReal) := by
  rw [evens_eq]
  pointwise
  rw [zero_eq]

theorem odd_apply (b : Fin 32) (i : Fin 1024) (e : Fin 128) : V m c main_v6 (ix3 b i e) = if h : i.val < 1000 then normed m c (ix3 ⟨b * 50 + (1 + 2 * i) / 40, by omega⟩ ⟨5 + (1 + 2 * i) % 40, by omega⟩ e) else (0 : EReal) := by
  rw [odds_eq]
  pointwise
  rw [zero_eq]

/-- The cosines the body computes, of the even tokens. -/
theorem evenCos_apply (q : Fin 30) (i : Fin 1024) : evenCos m c t (ix2 (term q) i) = cosine (normed m c) (doc t) q (2 * i) := by
  have h : evenCos m c t (ix2 (term q) i) = ∑ e : Fin 128, HMul.hMul (α := EReal) (β := EReal) (γ := EReal) (V m c main_v13 (ix3 (doc t) (term q) e)) (V m c main_v4 (ix3 (doc t) i e)) :=
    (pay_0 _ _ _ _ _ _ _ _ _ _).trans (Finset.sum_congr rfl fun e _ => congrArg₂ (fun x y : EReal => x * y) (read_0 m c t (term q) e) (read_1 m c t i e))
  rw [h, cosine]
  split <;> rename_i hi
  · refine Finset.sum_congr rfl fun e _ => ?_
    rw [query_apply, even_apply, dif_pos (show (term q).val < 30 from q.isLt), dif_pos (by omega)]
    rfl
  · exact Finset.sum_eq_zero fun e _ => by rw [even_apply, dif_neg (by omega), mul_zero]

/-- The cosines the body computes, of the odd tokens. -/
theorem oddCos_apply (q : Fin 30) (i : Fin 1024) : oddCos m c t (ix2 (term q) i) = cosine (normed m c) (doc t) q (2 * i + 1) := by
  have h : oddCos m c t (ix2 (term q) i) = ∑ e : Fin 128, HMul.hMul (α := EReal) (β := EReal) (γ := EReal) (V m c main_v13 (ix3 (doc t) (term q) e)) (V m c main_v6 (ix3 (doc t) i e)) :=
    (pay_1 _ _ _ _ _ _ _ _ _ _).trans (Finset.sum_congr rfl fun e _ => congrArg₂ (fun x y : EReal => x * y) (read_0 m c t (term q) e) (read_2 m c t i e))
  rw [h, cosine]
  split <;> rename_i hi
  · refine Finset.sum_congr rfl fun e _ => ?_
    rw [query_apply, odd_apply, dif_pos (show (term q).val < 30 from q.isLt), dif_pos (by omega)]
    simp only [Nat.add_comm 1]
    rfl
  · exact Finset.sum_eq_zero fun e _ => by rw [odd_apply, dif_neg (by omega), mul_zero]

theorem evenMask_apply (i : Fin 1024) : evenMask m c t (ix2 0 i) = tokenMask (docMask m c) (doc t) (2 * i) := by
  have h : evenMask m c t (ix2 0 i) = V m c main_v9 (ix3 (doc t) 0 i) := (pay_2 _ _ _ _ _ _ _ _ _).trans (read_3 m c t _)
  rw [h, maskEvens_eq, tokenMask]
  pointwise
  rw [zero_eq]
  by_cases hi : i.val < 1000
  · rw [dif_pos hi, dif_pos (by omega)]
    rfl
  · rw [dif_neg hi, dif_neg (by omega)]

theorem oddMask_apply (i : Fin 1024) : oddMask m c t (ix2 0 i) = tokenMask (docMask m c) (doc t) (2 * i + 1) := by
  have h : oddMask m c t (ix2 0 i) = V m c main_v12 (ix3 (doc t) 0 i) := (pay_3 _ _ _ _ _ _ _ _ _).trans (read_4 m c t _)
  rw [h, maskOdds_eq, tokenMask]
  pointwise
  rw [zero_eq]
  by_cases hi : i.val < 1000
  · rw [dif_pos hi, dif_pos (by omega)]
    simp only [Nat.add_comm 1]
    rfl
  · rw [dif_neg hi, dif_neg (by omega)]

theorem weights_apply (q : Fin 30) : weights m c t (ix2 (term q) 0) = idfs m c (ix3 (doc t) q 0) := by
  have h : weights m c t (ix2 (term q) 0) = V m c main_v14 (ix3 (doc t) (term q) 0) := (pay_4 _ _ _ _ _ _ _ _ _).trans (read_5 m c t _)
  rw [h, idfs_eq]
  pointwise
  rw [dif_pos (show (term q).val < 30 from q.isLt)]
  rfl

theorem termMask_apply (q : Fin 32) : termMask m c t (ix2 q 0) = if h : q.val < 30 then queryMask m c (ix2 (doc t) ⟨q, h⟩) else (0 : EReal) := by
  have h : termMask m c t (ix2 q 0) = V m c main_v16 (ix3 (doc t) q 0) := (pay_5 _ _ _ _ _ _ _ _ _).trans (read_6 m c t _)
  rw [h, queryMask_eq]
  pointwise
  rw [zero_eq]
  rfl

theorem paramRow_eq : paramRow m c t = V m c main_v23 := by
  funext j
  obtain ⟨i, k, rfl⟩ : ∃ (i : Fin 1) (k : Fin 24), j = ix2 i k := ⟨j 0, j 1, by idx_vars j⟩
  obtain rfl : i = 0 := Subsingleton.elim _ _
  exact (pay_6 _ _ _ _ _ _ _ _ _).trans (congrFun (read_7 m c t) _)

/-- The tokens' cosines, all together. -/
theorem weave_cos (q : Fin 30) {i : ℕ} (hi : i < 2048) : weave (evenCos m c t) (oddCos m c t) (term q) i = cosine (normed m c) (doc t) q i := by
  unfold weave
  split
  · rw [lane_of_lt _ _ (show i / 2 < 1024 by omega), evenCos_apply]
    exact congrArg _ (show 2 * (i / 2) = i by omega)
  · rw [lane_of_lt _ _ (show i / 2 < 1024 by omega), oddCos_apply]
    exact congrArg _ (show 2 * (i / 2) + 1 = i by omega)

/-- The tokens' mask, all together. -/
theorem weave_mask {i : ℕ} (hi : i < 2048) : weave (evenMask m c t) (oddMask m c t) 0 i = tokenMask (docMask m c) (doc t) i := by
  unfold weave
  split
  · rw [lane_of_lt _ _ (show i / 2 < 1024 by omega), evenMask_apply]
    exact congrArg _ (show 2 * (i / 2) = i by omega)
  · rw [lane_of_lt _ _ (show i / 2 < 1024 by omega), oddMask_apply]
    exact congrArg _ (show 2 * (i / 2) + 1 = i by omega)

theorem lane_far {r : ℕ} (x : FVec Ideal ⟨2, ![r, 1024]⟩ .f32) (q : Fin r) {i : ℕ} (h : 1024 ≤ i) : lane x q i = 0 := dif_neg (by omega)

theorem weave_cos' (q : Fin 30) : weave (evenCos m c t) (oddCos m c t) (term q) = cosine (normed m c) (doc t) q := by
  funext i
  by_cases hi : i < 2048
  · exact weave_cos m c t q hi
  · rw [weave, lane_far _ _ (by omega), lane_far _ _ (by omega), ite_self, cosine, dif_neg (by omega)]

theorem weave_mask' : weave (evenMask m c t) (oddMask m c t) 0 = tokenMask (docMask m c) (doc t) := by
  funext i
  by_cases hi : i < 2048
  · exact weave_mask m c t hi
  · rw [weave, lane_far _ _ (by omega), lane_far _ _ (by omega), ite_self, tokenMask, dif_neg (by omega)]

variable {m c} (hx : ∀ j, IsReal (normed m c j)) (hm : ∀ j, docMask m c j = 0 ∨ docMask m c j = 1)
include hx hm

theorem real_evenMask : Real2 (evenMask m c t) := fun q i hi => by
  obtain rfl : q = 0 := Subsingleton.elim _ _
  rw [lane_of_lt _ _ hi, evenMask_apply]
  exact isReal_tokenMask hm _ _

theorem real_oddMask : Real2 (oddMask m c t) := fun q i hi => by
  obtain rfl : q = 0 := Subsingleton.elim _ _
  rw [lane_of_lt _ _ hi, oddMask_apply]
  exact isReal_tokenMask hm _ _

omit hm in
theorem real_query (b q : Fin 32) (e : Fin 128) : IsReal (V m c main_v13 (ix3 b q e)) := by
  rw [query_apply]
  split
  · exact hx _
  · exact isReal_zero

omit hm in
theorem real_evenCos : Real2 (evenCos m c t) := fun q i hi => by
  rw [lane_of_lt _ _ hi, evenCos, pay_0]
  refine IsReal.sum _ fun e _ => IsReal.mul ?_ ?_
  · rw [read_0]; exact real_query hx _ _ _
  · rw [read_1, even_apply]
    split
    · exact hx _
    · exact isReal_zero

omit hm in
theorem real_oddCos : Real2 (oddCos m c t) := fun q i hi => by
  rw [lane_of_lt _ _ hi, oddCos, pay_1]
  refine IsReal.sum _ fun e _ => IsReal.mul ?_ ?_
  · rw [read_0]; exact real_query hx _ _ _
  · rw [read_2, odd_apply]
    split
    · exact hx _
    · exact isReal_zero

variable (m c) in
/-- The documents' scores, from the arguments as launched. -/
abbrev result : FVec Ideal S32x1x1 .f32 :=
  Scored (normed m c) (queryMask m c) (docMask m c) (idfs m c) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- What a grid point stores is its document's score. -/
theorem out_eq : out0_8 (iblk m c 0 t) (iblk m c 1 t) (iblk m c 2 t) (iblk m c 3 t) (iblk m c 4 t) (iblk m c 5 t) (iblk m c 6 t) (iblk m c 7 t) (ix3 0 0 0)
    = result m c (ix3 (doc t) 0 0) := by
  rw [stored_eq]
  refine (congrFun (View.canon_cons_unit_lit _ _ _ (by decide)) _).trans ?_
  refine (body_eq (evenMask m c t) (oddMask m c t) (evenCos m c t) (oddCos m c t) (weights m c t) (termMask m c t) (paramRow m c t) (fun q hq => by rw [termMask_apply, dif_neg (by omega)])
    (real_evenMask t hx hm) (real_oddMask t hx hm) (real_evenCos t hx) (real_oddCos t hx)).trans ?_
  simp only [weave_cos', weave_mask', paramRow_eq, entry_params, weights_apply]
  have hq : (fun q : Fin 30 => termMask m c t (ix2 (term q) 0)) = fun q => queryMask m c (ix2 (doc t) q) := by
    funext q
    rw [termMask_apply, dif_pos (show (term q).val < 30 from q.isLt)]
    rfl
  rw [hq, result, Scored_apply]
  exact congrArg (fun p => document p _ _ _ _) (entry_params m c)

end

/-! ## The output -/

/-- What a grid point writes is its block of the scores. -/
theorem flushed_eq (hx : ∀ j, IsReal (normed m c j)) (hm : ∀ j, docMask m c j = 0 ∨ docMask m c j = 1) (t : Fin cfg0.N) :
    (dats m 0 c).flushed 8 t = ((cfg0.win 8).blk t).view.read (Elt Ideal) (result m c) := by
  refine (Cert.Kernel2Ideal.Value.flushed8 m c t).trans ?_
  funext j
  obtain ⟨x, y, z, rfl⟩ : ∃ (x y z : Fin 1), j = ix3 x y z := ⟨j 0, j 1, j 2, by idx_vars j⟩
  obtain rfl : x = 0 := Subsingleton.elim _ _
  obtain rfl : y = 0 := Subsingleton.elim _ _
  obtain rfl : z = 0 := Subsingleton.elim _ _
  show out0_8 (iblk m c 0 t) (iblk m c 1 t) (iblk m c 2 t) (iblk m c 3 t) (iblk m c 4 t) (iblk m c 5 t) (iblk m c 6 t) (iblk m c 7 t) (ix3 0 0 0) = result m c (((cfg0.win 8).blk t).view.emb (ix3 0 0 0))
  rw [place_8]
  exact out_eq t hx hm

/-- Every index of the output is in the block of some grid point. -/
theorem covered (j : S32x1x1.Idx) : ∃ t : Fin cfg0.N, (cfg0.win 8).flush t = true ∧ j ∈ ((cfg0.win 8).blk t).view.set := by
  obtain ⟨b, y, z, rfl⟩ : ∃ (b : Fin 32) (y z : Fin 1), j = ix3 b y z := ⟨j 0, j 1, j 2, by idx_vars j⟩
  obtain rfl : y = 0 := Subsingleton.elim _ _
  obtain rfl : z = 0 := Subsingleton.elim _ _
  refine ⟨⟨b.val, b.isLt⟩, flush0_8 _, ?_⟩
  have h := ((cfg0.win 8).blk ⟨b.val, b.isLt⟩).view.emb_mem_set (ix3 0 0 0)
  rwa [place_8] at h

/-- The output array after the run. -/
theorem final (hx : ∀ j, IsReal (normed m c j)) (hm : ∀ j, docMask m c j = 0 ∨ docMask m c j = 1) :
    (dats m 0 c).arrAt 8 cfg0.N = result m c :=
  (dats m 0 c).arrAt_eq_of_cover 8 (result m c) (fun t _ => flushed_eq m c hx hm t) covered

/-- Every execution ends with the output array at that, the arguments as they were. -/
theorem run (hx : ∀ (c : Dev nD) j, IsReal (normed m c j)) (hm : ∀ (c : Dev nD) j, docMask m c j = 0 ∨ docMask m c j = 1) :
    θ_run defs (onTc (τ := τ) (main (F := Ideal))) ⟨m, fun _ => 0, ρ⟩ (fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)) :=
  (θ_run defs _ _).mono (fun _ h c => ⟨((h.1 c).1 8).trans (final m c (hx c) (hm c)), h.2 c⟩)
    (θ_run_and (run_main m ρ) (unchanged m ρ))

end Cert.Kernel2Ideal.Scoring

end
-- ==== Proof.ScoreRefSums.lean ====
/- Running sums along an axis, as the scoring reference takes them, read at an entry. -/
module

public import proofs.«01_k».proof.Proof.Score
public import Idealize.ShloMosaic.Lib.Pointwise

@[expose] public section

noncomputable section

namespace Cert.Score

open Idealize.ShloMosaic

theorem foldl_add {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- The last `j + 1` positions of a window of `n + 1`. -/
theorem sum_last (f : ℕ → EReal) {n j : ℕ} (hj : j < n + 1) :
    ∑ i : Fin (n + 1), (if n ≤ j + i.val then f (j + i.val - n) else 0) = ∑ i ∈ Finset.range (j + 1), f i := by
  rw [Fin.sum_univ_eq_sum_range (fun i => if n ≤ j + i then f (j + i - n) else 0) (n + 1), show n + 1 = (n - j) + (j + 1) by omega, Finset.sum_range_add,
    Finset.sum_eq_zero fun i hi => if_neg (by have := Finset.mem_range.1 hi; omega), zero_add]
  exact Finset.sum_congr rfl fun i _ => by rw [if_pos (by omega), show j + (n - j + i) - n = i by omega]

/-- A sum over the positions of a window, in their order, is the sum over its indices. -/
theorem sum_positions (W : Shape) (F : EReal → Fin W.numel → EReal) (G : W.Idx → EReal) (v : EReal) (h : ∀ r n, F r n = r + G (W.rowMajor.symm n)) :
    (List.finRange W.numel).foldl F v = v + ∑ i, G i := by
  rw [show F = fun r n => r + G (W.rowMajor.symm n) from funext fun r => funext fun n => h r n, foldl_add, ← Fin.sum_univ_def, Equiv.sum_comp W.rowMajor.symm G]

/-- The running sums along the third of four axes. -/
theorem running4 {B Q n K : ℕ} (x : FVec Ideal ⟨4, ![B, Q, n + 1, K]⟩ .f32) (init : FVec Ideal ⟨0, ![]⟩ .f32) (hi : init ix0 = (0 : EReal))
    (h : (⟨4, ![B, Q, n + 1, K]⟩ : Shape).ReduceWindows (![1, 1, n + 1, 1] : Fin 4 → ℕ) ![1, 1, 1, 1] ![0, 0, n, 0] ![0, 0, 0, 0] ⟨4, ![B, Q, n + 1, K]⟩)
    (hu : 0 < (⟨0, ![]⟩ : Shape).numel) (b : Fin B) (q : Fin Q) (j : Fin (n + 1)) (k : Fin K) (f : ℕ → EReal)
    (hf : ∀ t : Fin (n + 1), x (ix4 b q t k) = f t.val) :
    Host.reduceWindowAdd ![1, 1, n + 1, 1] ![1, 1, 1, 1] ![0, 0, n, 0] ![0, 0, 0, 0] x init h hu (ix4 b q j k) = ∑ t ∈ Finset.range (j.val + 1), f t := by
  have hv : init (Shape.Idx.first hu) = (0 : EReal) := (congrArg init (ValueIdx.eq_ix0 _)).trans hi
  unfold Host.reduceWindowAdd
  rw [Ideal.hostReduceWindowAdd_def]
  unfold Ideal.hostReduceWindowAdd Host.reduceWindow
  dsimp only
  refine (sum_positions ⟨4, ![1, 1, n + 1, 1]⟩ _ (fun i => if n ≤ j.val + (i 2).val then f (j.val + (i 2).val - n) else 0) _ fun r p => ?_).trans ?_
  · refine congrArg (r + ·) ?_
    set i := Shape.rowMajor ⟨4, ![1, 1, n + 1, 1]⟩ |>.symm p
    have h0 : (i 0).val = 0 := Nat.lt_one_iff.1 (i 0).isLt
    have h1 : (i 1).val = 0 := Nat.lt_one_iff.1 (i 1).isLt
    have h3 : (i 3).val = 0 := Nat.lt_one_iff.1 (i 3).isLt
    split
    · next hin =>
      have hm := hin 2
      change n ≤ j.val * 1 + (i 2).val ∧ j.val * 1 + (i 2).val - n < n + 1 at hm
      rw [if_pos (show n ≤ j.val + (i 2).val by omega)]
      refine (congrArg x (funext fun a => Fin.ext ?_)).trans (hf ⟨j.val + (i 2).val - n, by omega⟩)
      match a with
      | ⟨0, _⟩ => exact (show b.val * 1 + (i 0).val - 0 = b.val by omega)
      | ⟨1, _⟩ => exact (show q.val * 1 + (i 1).val - 0 = q.val by omega)
      | ⟨2, _⟩ => exact (show j.val * 1 + (i 2).val - n = j.val + (i 2).val - n by omega)
      | ⟨3, _⟩ => exact (show k.val * 1 + (i 3).val - 0 = k.val by omega)
    · next hin =>
      have hi2 : (i 2).val < n + 1 := (i 2).isLt
      rw [if_neg fun (hle : n ≤ j.val + (i 2).val) => hin fun a => by
        match a with
        | ⟨0, _⟩ => exact (show 0 ≤ b.val * 1 + (i 0).val ∧ b.val * 1 + (i 0).val - 0 < B by have := b.isLt; omega)
        | ⟨1, _⟩ => exact (show 0 ≤ q.val * 1 + (i 1).val ∧ q.val * 1 + (i 1).val - 0 < Q by have := q.isLt; omega)
        | ⟨2, _⟩ => exact (show n ≤ j.val * 1 + (i 2).val ∧ j.val * 1 + (i 2).val - n < n + 1 by omega)
        | ⟨3, _⟩ => exact (show 0 ≤ k.val * 1 + (i 3).val ∧ k.val * 1 + (i 3).val - 0 < K by have := k.isLt; omega)]
      exact hv
  rw [hv, zero_add]
  have hbij : Function.Bijective (fun m : Fin (n + 1) => (ix4 0 0 m 0 : (⟨4, ![1, 1, n + 1, 1]⟩ : Shape).Idx)) := by
    refine ⟨fun a a' e => congrFun e 2, fun i => ⟨i 2, funext fun a => ?_⟩⟩
    match a with
    | ⟨0, _⟩ => exact (Subsingleton.elim (α := Fin 1) _ _)
    | ⟨1, _⟩ => exact (Subsingleton.elim (α := Fin 1) _ _)
    | ⟨2, _⟩ => rfl
    | ⟨3, _⟩ => exact (Subsingleton.elim (α := Fin 1) _ _)
  rw [← hbij.sum_comp, ← sum_last f j.isLt]
  exact Finset.sum_congr rfl fun m _ => rfl

/-- The running sums along the last of three axes. -/
theorem running3 {B Q n : ℕ} (x : FVec Ideal ⟨3, ![B, Q, n + 1]⟩ .f32) (init : FVec Ideal ⟨0, ![]⟩ .f32) (hi : init ix0 = (0 : EReal))
    (h : (⟨3, ![B, Q, n + 1]⟩ : Shape).ReduceWindows (![1, 1, n + 1] : Fin 3 → ℕ) ![1, 1, 1] ![0, 0, n] ![0, 0, 0] ⟨3, ![B, Q, n + 1]⟩)
    (hu : 0 < (⟨0, ![]⟩ : Shape).numel) (b : Fin B) (q : Fin Q) (j : Fin (n + 1)) (f : ℕ → EReal)
    (hf : ∀ t : Fin (n + 1), x (ix3 b q t) = f t.val) :
    Host.reduceWindowAdd ![1, 1, n + 1] ![1, 1, 1] ![0, 0, n] ![0, 0, 0] x init h hu (ix3 b q j) = ∑ t ∈ Finset.range (j.val + 1), f t := by
  have hv : init (Shape.Idx.first hu) = (0 : EReal) := (congrArg init (ValueIdx.eq_ix0 _)).trans hi
  unfold Host.reduceWindowAdd
  rw [Ideal.hostReduceWindowAdd_def]
  unfold Ideal.hostReduceWindowAdd Host.reduceWindow
  dsimp only
  refine (sum_positions ⟨3, ![1, 1, n + 1]⟩ _ (fun i => if n ≤ j.val + (i 2).val then f (j.val + (i 2).val - n) else 0) _ fun r p => ?_).trans ?_
  · refine congrArg (r + ·) ?_
    set i := Shape.rowMajor ⟨3, ![1, 1, n + 1]⟩ |>.symm p
    have h0 : (i 0).val = 0 := Nat.lt_one_iff.1 (i 0).isLt
    have h1 : (i 1).val = 0 := Nat.lt_one_iff.1 (i 1).isLt
    split
    · next hin =>
      have hm := hin 2
      change n ≤ j.val * 1 + (i 2).val ∧ j.val * 1 + (i 2).val - n < n + 1 at hm
      rw [if_pos (show n ≤ j.val + (i 2).val by omega)]
      refine (congrArg x (funext fun a => Fin.ext ?_)).trans (hf ⟨j.val + (i 2).val - n, by omega⟩)
      match a with
      | ⟨0, _⟩ => exact (show b.val * 1 + (i 0).val - 0 = b.val by omega)
      | ⟨1, _⟩ => exact (show q.val * 1 + (i 1).val - 0 = q.val by omega)
      | ⟨2, _⟩ => exact (show j.val * 1 + (i 2).val - n = j.val + (i 2).val - n by omega)
    · next hin =>
      have hi2 : (i 2).val < n + 1 := (i 2).isLt
      rw [if_neg fun (hle : n ≤ j.val + (i 2).val) => hin fun a => by
        match a with
        | ⟨0, _⟩ => exact (show 0 ≤ b.val * 1 + (i 0).val ∧ b.val * 1 + (i 0).val - 0 < B by have := b.isLt; omega)
        | ⟨1, _⟩ => exact (show 0 ≤ q.val * 1 + (i 1).val ∧ q.val * 1 + (i 1).val - 0 < Q by have := q.isLt; omega)
        | ⟨2, _⟩ => exact (show n ≤ j.val * 1 + (i 2).val ∧ j.val * 1 + (i 2).val - n < n + 1 by omega)]
      exact hv
  rw [hv, zero_add]
  have hbij : Function.Bijective (fun m : Fin (n + 1) => (ix3 0 0 m : (⟨3, ![1, 1, n + 1]⟩ : Shape).Idx)) := by
    refine ⟨fun a a' e => congrFun e 2, fun i => ⟨i 2, funext fun a => ?_⟩⟩
    match a with
    | ⟨0, _⟩ => exact (Subsingleton.elim (α := Fin 1) _ _)
    | ⟨1, _⟩ => exact (Subsingleton.elim (α := Fin 1) _ _)
    | ⟨2, _⟩ => rfl
  rw [← hbij.sum_comp, ← sum_last f j.isLt]
  exact Finset.sum_congr rfl fun m _ => rfl

end Cert.Score

end
-- ==== Proof.ScoreRefTokens.lean ====
/- The scoring reference up to the running sums: what a token adds to a kernel, and the sums of the tokens before one. -/
module

public import proofs.«01_k».proof.Proof.ScoreResult
public import proofs.«01_k».proof.Proof.ScoreRefSums
public import proofs.«01_k».proof.Proof.Gen.Reference2Ideal
public import proofs.«01_k».proof.Proof.Gen.Reference2Ideal.Run
public import Idealize.ShloMosaic.Lib.Claim

@[expose] public section

set_option maxRecDepth 16384

noncomputable section

namespace Cert.Reference2Ideal.Scoring

open Cert.Reference2Ideal Cert.Reference2Ideal.Gen Idealize.ShloMosaic.StableHlo
open Idealize.ShloMosaic Idealize.ShloMosaic.TcCoe Idealize.SL.Sem Cert.Score

variable (V0 : Valuation τ sig (Elt Ideal))

/-- The embeddings. -/
abbrev embeddings : FVec Ideal ⟨3, ![1632, 56, 128]⟩ .f32 := V0 (Proc.devRef .tc main_arg0)

/-- The documents' mask. -/
abbrev docMask : FVec Ideal ⟨2, ![32, 2000]⟩ .f32 := V0 (Proc.devRef .tc main_arg2)

/-- The reference's means are the kernels' means. -/
theorem mean_eq (k : Fin 11) : (Ideal.ofBits .f32 (lit0 (S11.rowMajor (ix1 k))) : EReal) = mean k := by
  fin_cases k <;> rfl

/-- A document's cosines less the kernels' means. -/
theorem shifted_apply (n : Fin 1600) (q : Fin 30) (t : Fin 40) (k : Fin 11) (b : Fin 32) (j : ℕ) (hb : n.val / 50 = b.val)
    (hj : b.val * 50 + j / 40 = n.val) (ht : j % 40 = t.val) (hlt : j < 2000) :
    Value.res_main_v17 V0 (ix4 n q t k) = cosine (embeddings V0) b q j - mean k := by
  unfold Value.res_main_v17
  pointwise
  rw [mean_eq, cosine, dif_pos hlt]
  refine congrArg (· - mean k) (Finset.sum_congr rfl fun e _ => ?_)
  refine congrArg₂ (HMul.hMul (α := EReal) (β := EReal) (γ := EReal)) (congrArg (embeddings V0) (funext fun a => Fin.ext ?_)) (congrArg (embeddings V0) (funext fun a => Fin.ext ?_))
  · match a with
    | ⟨0, _⟩ => exact congrArg (1600 + ·) hb
    | ⟨1, _⟩ => rfl
    | ⟨2, _⟩ => rfl
  · match a with
    | ⟨0, _⟩ => exact hj.symm
    | ⟨1, _⟩ => exact congrArg (5 + ·) ht.symm
    | ⟨2, _⟩ => rfl

/-- A gain times a number is the number over the constant the reference divides by. -/
theorem div_gain (x : EReal) (k : Fin 11) :
    Ideal.div x (if h : k.val < 1 then (Ideal.ofBits .f32 906377149#32 : EReal) else Ideal.ofBits .f32 1017370378#32) = x * gain k := by
  unfold gain
  by_cases hk : k = 0
  · rw [dif_pos (by rw [hk]; exact Nat.one_pos), if_pos hk]
    have e : (Ideal.ofBits .f32 906377149#32 : EReal) = ((8796093 / 4398046511104 : ℝ) : EReal) := by
      simp [Ideal.ofBits, Ideal.ieee, -EReal.coe_mul]; norm_num
    rw [e, Ideal.div, if_neg (by norm_num), ← EReal.coe_inv]; norm_num
  · rw [dif_neg (fun h => hk (Fin.ext (by simpa using h))), if_neg hk]
    have e : (Ideal.ofBits .f32 1017370378#32 : EReal) = ((5368709 / 268435456 : ℝ) : EReal) := by
      simp [Ideal.ofBits, Ideal.ieee, -EReal.coe_mul]; norm_num
    rw [e, Ideal.div, if_neg (by norm_num), ← EReal.coe_inv]; norm_num

/-- A chunk's mask is the documents' mask at its tokens. -/
theorem chunkMask_apply (n : Fin 1600) (t : Fin 40) :
    Value.res_main_v5 V0 (ix2 n t) = docMask V0 (ix2 ⟨n.val / 50, by omega⟩ ⟨n.val % 50 * 40 + t.val, by omega⟩) := by
  unfold Value.res_main_v5
  pointwise

/-- A number and the flag of being other than nothing. -/
theorem flag_true {p : Prop} [Decidable p] (h : p) : (FloatOps.uitofp (F := Ideal) .f32 (BitVec.ofBool (decide p)) : EReal) = 1 := by
  rw [decide_eq_true h]
  exact (show (((1#1 : BitVec 1).toNat : ℝ) : EReal) = 1 by norm_num)

theorem flag_false {p : Prop} [Decidable p] (h : ¬ p) : (FloatOps.uitofp (F := Ideal) .f32 (BitVec.ofBool (decide p)) : EReal) = 0 := by
  rw [decide_eq_false h]
  exact (show (((0#1 : BitVec 1).toNat : ℝ) : EReal) = 0 by norm_num)

/-- The flag of a chunk with a token changes nothing. -/
theorem gated (f : Fin 40 → EReal) (h01 : ∀ i, f i = 0 ∨ f i = 1) (i : Fin 40) (x : EReal) :
    x * f i * FloatOps.uitofp (F := Ideal) .f32 (BitVec.ofBool (decide (∑ i, f i ≠ 0))) = x * f i := by
  rcases h01 i with h | h
  · rw [h, mul_zero, zero_mul]
  · have hn : ∀ i ∈ Finset.univ, (0 : EReal) ≤ f i := fun i _ => by
      rcases h01 i with h | h
      · exact h.ge
      · exact zero_le_one.trans h.ge
    have h1 := Finset.single_le_sum hn (Finset.mem_univ i)
    rw [h] at h1
    exact (congrArg (HMul.hMul (α := EReal) (β := EReal) (γ := EReal) _) (flag_true (zero_lt_one.trans_le h1).ne')).trans (mul_one _)

theorem isMask_tokenMask {m : FVec Ideal ⟨2, ![32, 2000]⟩ .f32} (hm : ∀ j, m j = 0 ∨ m j = 1) (b : Fin 32) (t : ℕ) :
    tokenMask m b t = 0 ∨ tokenMask m b t = 1 := by
  unfold tokenMask
  split
  · exact hm _
  · exact .inl rfl

/-- What a token adds to a kernel. -/
theorem act_apply (b : Fin 32) (q : Fin 30) (t : Fin 2000) (k : Fin 11) (hM : ∀ j, docMask V0 j = 0 ∨ docMask V0 j = 1) :
    Value.res_main_v32 V0 (ix4 b q t k) = act k (cosine (embeddings V0) b q) (tokenMask (docMask V0) b) t.val := by
  have hd := shifted_apply V0 ⟨b.val * 50 + t.val / 40, by omega⟩ q ⟨t.val % 40, by omega⟩ k b t.val (by show (b.val * 50 + t.val / 40) / 50 = _; omega) rfl rfl t.isLt
  unfold Value.res_main_v32
  generalize Value.res_main_v17 V0 = d at hd ⊢
  have hmm := chunkMask_apply V0
  generalize Value.res_main_v5 V0 = mm at hmm ⊢
  pointwise
  have hval : mm (ix2 ⟨b.val * 50 + t.val / 40, by omega⟩ ⟨t.val % 40, by omega⟩) = tokenMask (docMask V0) b t.val := by
    rw [hmm, tokenMask, dif_pos t.isLt]
    refine congrArg (docMask V0) (funext fun a => Fin.ext ?_)
    match a with
    | ⟨0, _⟩ => exact (show (b.val * 50 + t.val / 40) / 50 = b.val by omega)
    | ⟨1, _⟩ => exact (show (b.val * 50 + t.val / 40) % 50 * 40 + t.val % 40 = t.val by omega)
  refine (gated (fun x => mm (ix2 ⟨b.val * 50 + t.val / 40, by omega⟩ x)) (fun x => (hmm _ _).symm ▸ hM _) ⟨t.val % 40, by omega⟩ _).trans ?_
  refine congrArg₂ (HMul.hMul (α := EReal) (β := EReal) (γ := EReal)) (congrArg Ideal.exp ?_) hval
  rw [hd, div_gain, zero_sub]

end Cert.Reference2Ideal.Scoring

end
-- ==== Proof.ScoreRefCounts.lean ====
/- The scoring reference's running sums: of what the tokens add to a kernel, and of the tokens that add anything. -/
module

public import proofs.«01_k».proof.Proof.ScoreRefTokens

@[expose] public section

set_option maxRecDepth 16384

noncomputable section

namespace Cert.Reference2Ideal.Scoring

open Cert.Reference2Ideal Cert.Reference2Ideal.Gen Idealize.ShloMosaic.StableHlo
open Idealize.ShloMosaic Idealize.ShloMosaic.TcCoe Idealize.SL.Sem Cert.Score

variable (V0 : Valuation τ sig (Elt Ideal))

/-- What the tokens before one add to a kernel. -/
theorem before_apply (hM : ∀ j, docMask V0 j = 0 ∨ docMask V0 j = 1) (b : Fin 32) (q : Fin 30) (t : Fin 2001) (k : Fin 11) :
    Value.res_main_v35 V0 (ix4 b q t k) = ∑ i ∈ Finset.range t.val, act k (cosine (embeddings V0) b q) (tokenMask (docMask V0) b) i := by
  have ha := fun s => act_apply V0 b q s k hM
  unfold Value.res_main_v35
  generalize Value.res_main_v32 V0 = d at ha ⊢
  pointwise
  split
  · next h => rw [Nat.lt_one_iff.1 h, Finset.sum_range_zero]
  · next h =>
    refine (running4 (n := 1999) d _ (by pointwise) _ _ b q ⟨t.val - 1, by omega⟩ k _ ha).trans ?_
    exact congrArg (fun n => Finset.sum (Finset.range n) _) (show t.val - 1 + 1 = t.val by omega)

/-- A token adds something to some kernel exactly when its mask is one. -/
theorem counts {c m : ℕ → EReal} {t : ℕ} (hc : IsReal (c t)) (hm : m t = 0 ∨ m t = 1) :
    FloatOps.uitofp (F := Ideal) .f32 (BitVec.ofBool (decide (∑ k : Fin 11, act k c m t ≠ 0))) = m t := by
  rcases hm with h | h
  · rw [flag_false (not_not.2 (Finset.sum_eq_zero fun k _ => by rw [act, h, mul_zero])), h]
  · rw [flag_true, h]
    have hp : ∀ k, 0 < act k c m t := fun k => by
      obtain ⟨r, hr, e⟩ := bell_pos (isReal_mean k) (isReal_gain k) hc
      rw [act, h, mul_one, e]
      exact EReal.coe_pos.2 hr
    exact ((hp 0).trans_le (Finset.single_le_sum (fun k _ => (hp k).le) (Finset.mem_univ 0))).ne'

/-- The tokens before one. -/
theorem count_apply (hX : ∀ j, IsReal (embeddings V0 j)) (hM : ∀ j, docMask V0 j = 0 ∨ docMask V0 j = 1) (b : Fin 32) (q : Fin 30) (t : Fin 2001) :
    Value.res_main_v42 V0 (ix3 b q t) = ∑ i ∈ Finset.range t.val, tokenMask (docMask V0) b i := by
  have ha := fun s k => act_apply V0 b q s k hM
  unfold Value.res_main_v42
  generalize Value.res_main_v32 V0 = d at ha ⊢
  pointwise
  split
  · next h => rw [Nat.lt_one_iff.1 h, Finset.sum_range_zero]
  · next h =>
    refine (running3 (n := 1999) _ _ (by pointwise) _ _ b q ⟨t.val - 1, by omega⟩ (tokenMask (docMask V0) b) fun s => ?_).trans ?_
    · pointwise
      simp only [ha]
      exact counts (isReal_cosine hX b q s.val) (isMask_tokenMask hM b s.val)
    exact congrArg (fun n => Finset.sum (Finset.range n) _) (show t.val - 1 + 1 = t.val by omega)

end Cert.Reference2Ideal.Scoring

end
-- ==== Proof.ScoreRefWindows.lean ====
/- The scoring reference's windows: their sums as differences of running sums, and their scores. -/
module

public import proofs.«01_k».proof.Proof.ScoreRefCounts

@[expose] public section

set_option maxRecDepth 16384

noncomputable section

namespace Cert.Score

open Idealize.ShloMosaic

/-- A power of a positive number is the exponential of the exponent times the logarithm. -/
theorem pow_eq {r : ℝ} (hr : 0 < r) (y : EReal) : Ideal.pow (r : EReal) y = Ideal.exp (y * Ideal.log (r : EReal)) := by
  have hlog : Ideal.log (r : EReal) = ((Real.log r : ℝ) : EReal) := if_neg (not_le.2 hr)
  rw [hlog]
  induction y with
  | coe y =>
    rw [← EReal.coe_mul]
    exact congrArg (fun x : ℝ => (x : EReal)) ((Real.rpow_def_of_pos hr y).trans (by rw [mul_comm]))
  | top =>
    show (if (r : ℝ) < 0 then (⊥ : EReal) else if 1 < r then ⊤ else if r = 1 then 1 else 0) = _
    rw [if_neg (not_lt.2 hr.le)]
    rcases lt_trichotomy r 1 with h | h | h
    · rw [if_neg (not_lt.2 h.le), if_neg h.ne, EReal.top_mul_coe_of_neg (Real.log_neg hr h)]; rfl
    · rw [if_neg (not_lt.2 h.le), if_pos h, h, Real.log_one, EReal.coe_zero, mul_zero]
      exact (congrArg (fun x : ℝ => (x : EReal)) Real.exp_zero).symm
    · rw [if_pos h, EReal.top_mul_coe_of_pos (Real.log_pos h)]; rfl
  | bot =>
    show (if (r : ℝ) < 0 then (⊥ : EReal) else if 1 < r then 0 else if r = 1 then 1 else ⊤) = _
    rw [if_neg (not_lt.2 hr.le)]
    rcases lt_trichotomy r 1 with h | h | h
    · rw [if_neg (not_lt.2 h.le), if_neg h.ne, EReal.bot_mul_coe_of_neg (Real.log_neg hr h)]; rfl
    · rw [if_neg (not_lt.2 h.le), if_pos h, h, Real.log_one, EReal.coe_zero, mul_zero]
      exact (congrArg (fun x : ℝ => (x : EReal)) Real.exp_zero).symm
    · rw [if_pos h, EReal.bot_mul_coe_of_pos (Real.log_pos h)]; rfl

theorem tiny_pos : ∃ r : ℝ, 0 < r ∧ tiny = r := by
  refine ⟨_, ?_, show tiny = ((_ : ℝ) : EReal) by unfold tiny; simp [Ideal.ofBits, Ideal.ieee, -EReal.coe_mul]; norm_num; rfl⟩
  norm_num

/-- A query term's saturated share, as the reference writes it. -/
theorem sat_eq (p : ℕ → EReal) (d qm P L : EReal) (hP : IsReal P) :
    ((d * p 0 + L * p 1 + p 2) * Ideal.pow (max tiny P) (Ideal.div 1 (d * p 3 + L * p 4 + p 5)) - (d * p 6 + L * p 7 + p 8)) * qm
      * FloatOps.uitofp (F := Ideal) .f32 (BitVec.ofBool (decide (0 < L))) = sat p d qm P L := by
  obtain ⟨r, hr, ht⟩ := tiny_pos
  obtain ⟨x, hx⟩ := hP
  have hm : max tiny P = ((max r x : ℝ) : EReal) := by rw [ht, hx]; exact (EReal.coe_strictMono.monotone.map_max (a := r) (b := x)).symm
  have hl : ∀ u v w : EReal, d * u + L * v + w = lin u v w d L := fun u v w => by rw [lin, mul_comm d, mul_comm L, add_assoc]
  rw [hl, hl, hl, hm, pow_eq (lt_max_of_lt_left hr), ← hm, max_comm tiny, sat]
  refine congrArg (HMul.hMul (α := EReal) (β := EReal) (γ := EReal) _) ?_
  by_cases h : 0 < L
  · rw [if_pos h]; exact Cert.Reference2Ideal.Scoring.flag_true h
  · rw [if_neg h]; exact Cert.Reference2Ideal.Scoring.flag_false h

end Cert.Score

namespace Cert.Reference2Ideal.Scoring

open Cert.Reference2Ideal Cert.Reference2Ideal.Gen Idealize.ShloMosaic.StableHlo
open Idealize.ShloMosaic Idealize.ShloMosaic.TcCoe Idealize.SL.Sem Cert.Score

variable (V0 : Valuation τ sig (Elt Ideal))

/-- The parameters. -/
abbrev params : ℕ → EReal :=
  parameters (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12))

theorem params_dense (k : Fin 11) : params V0 (9 + k.val) = V0 (Proc.devRef .tc main_arg10) (ix2 0 k) := by
  fin_cases k <;> rfl

/-- The query terms' weights. -/
abbrev weights : FVec Ideal ⟨3, ![32, 30, 1]⟩ .f32 := V0 (Proc.devRef .tc main_arg3)

/-- The queries' mask. -/
abbrev queryMask : FVec Ideal ⟨2, ![32, 30]⟩ .f32 := V0 (Proc.devRef .tc main_arg1)

/-- What a document's tokens add to a kernel. -/
abbrev adds (b : Fin 32) (q : Fin 30) (k : Fin 11) : ℕ → EReal := act k (cosine (embeddings V0) b q) (tokenMask (docMask V0) b)

theorem isReal_adds (hX : ∀ j, IsReal (embeddings V0 j)) (hM : ∀ j, docMask V0 j = 0 ∨ docMask V0 j = 1) (b : Fin 32) (q : Fin 30) (k : Fin 11) (t : ℕ) :
    IsReal (adds V0 b q k t) := isReal_act k (isReal_cosine hX b q t) (isReal_tokenMask hM b t)

/-- A window's sum of what its tokens add to a kernel. -/
theorem windowSum (hX : ∀ j, IsReal (embeddings V0 j)) (hM : ∀ j, docMask V0 j = 0 ∨ docMask V0 j = 1) (b : Fin 32) (q : Fin 30) (k : Fin 11)
    {n w : ℕ} (h : n + 2 * w < 2001) (h' : 2 * w < 2001) :
    HSub.hSub (α := EReal) (β := EReal) (γ := EReal) (Value.res_main_v35 V0 (ix4 b q ⟨n + 2 * w, h⟩ k)) (Value.res_main_v35 V0 (ix4 b q ⟨2 * w, h'⟩ k))
      = win (adds V0 b q k) n w := by
  rw [before_apply V0 hM, before_apply V0 hM]
  exact (congrArg (fun m => Finset.sum (Finset.range m) _ - _) (Nat.add_comm n (2 * w))).trans (sum_sub_sum (2 * w) fun t _ => isReal_adds V0 hX hM b q k t)

/-- A window's number of tokens. -/
theorem windowCount (hX : ∀ j, IsReal (embeddings V0 j)) (hM : ∀ j, docMask V0 j = 0 ∨ docMask V0 j = 1) (b : Fin 32) (q : Fin 30)
    {n w : ℕ} (h : n + 2 * w < 2001) (h' : 2 * w < 2001) :
    HSub.hSub (α := EReal) (β := EReal) (γ := EReal) (Value.res_main_v42 V0 (ix3 b q ⟨n + 2 * w, h⟩)) (Value.res_main_v42 V0 (ix3 b q ⟨2 * w, h'⟩))
      = win (tokenMask (docMask V0) b) n w := by
  rw [count_apply V0 hX hM, count_apply V0 hX hM]
  exact (congrArg (fun m => Finset.sum (Finset.range m) _ - _) (Nat.add_comm n (2 * w))).trans (sum_sub_sum (2 * w) fun t _ => isReal_tokenMask hM b t)

/-- A window's score. -/
abbrev score (b : Fin 32) (n w : ℕ) : EReal :=
  raw (params V0) (fun q => weights V0 (ix3 b q 0)) (fun q => queryMask V0 (ix2 b q)) (cosine (embeddings V0) b) (tokenMask (docMask V0) b) n w

/-- The reference's scores of the windows of 25 tokens. -/
theorem score_lo (hX : ∀ j, IsReal (embeddings V0 j)) (hM : ∀ j, docMask V0 j = 0 ∨ docMask V0 j = 1) (b : Fin 32) (w : Fin 988) :
    Value.res_main_v89 V0 (ix2 b w) = score V0 b 25 w.val := by
  have hs := fun q k => windowSum V0 hX hM b q k (n := 25) (w := w.val) (by omega) (by omega)
  have hc : ∀ q, Value.res_main_v48 V0 (ix3 b q w) = win (tokenMask (docMask V0) b) 25 w.val := fun q => by
    rw [← windowCount V0 hX hM b q (n := 25) (w := w.val) (by omega) (by omega)]
    unfold Value.res_main_v48
    generalize Value.res_main_v42 V0 = d
    pointwise
  unfold Value.res_main_v89 Value.res_main_v52
  generalize Value.res_main_v48 V0 = d at hc ⊢
  generalize Value.res_main_v35 V0 = e at hs ⊢
  pointwise
  simp only [Finset.univ_unique, Finset.sum_singleton]
  change @Eq EReal _ _
  refine Finset.sum_congr rfl fun k _ => congrArg₂ (HMul.hMul (α := EReal) (β := EReal) (γ := EReal)) (Finset.sum_congr rfl fun q _ => ?_) ?_
  · rw [hc, hs]
    exact sat_eq (params V0) _ _ _ _ (IsReal.sum _ fun t _ => isReal_adds V0 hX hM b q k _)
  · exact (params_dense V0 k).symm

/-- The reference's scores of the windows of 35 tokens. -/
theorem score_hi (hX : ∀ j, IsReal (embeddings V0 j)) (hM : ∀ j, docMask V0 j = 0 ∨ docMask V0 j = 1) (b : Fin 32) (w : Fin 983) :
    Value.res_main_v214 V0 (ix2 b w) = score V0 b 35 w.val := by
  have hs := fun q k => windowSum V0 hX hM b q k (n := 35) (w := w.val) (by omega) (by omega)
  have hc : ∀ q, Value.res_main_v173 V0 (ix3 b q w) = win (tokenMask (docMask V0) b) 35 w.val := fun q => by
    rw [← windowCount V0 hX hM b q (n := 35) (w := w.val) (by omega) (by omega)]
    unfold Value.res_main_v173
    generalize Value.res_main_v42 V0 = d
    pointwise
  unfold Value.res_main_v214 Value.res_main_v177
  generalize Value.res_main_v173 V0 = d at hc ⊢
  generalize Value.res_main_v35 V0 = e at hs ⊢
  pointwise
  simp only [Finset.univ_unique, Finset.sum_singleton]
  change @Eq EReal _ _
  refine Finset.sum_congr rfl fun k _ => congrArg₂ (HMul.hMul (α := EReal) (β := EReal) (γ := EReal)) (Finset.sum_congr rfl fun q _ => ?_) ?_
  · rw [hc, hs]
    exact sat_eq (params V0) _ _ _ _ (IsReal.sum _ fun t _ => isReal_adds V0 hX hM b q k _)
  · exact (params_dense V0 k).symm

/-- The same with the windows without a score marked. -/
theorem marked_lo (hX : ∀ j, IsReal (embeddings V0 j)) (hM : ∀ j, docMask V0 j = 0 ∨ docMask V0 j = 1) (b : Fin 32) (w : Fin 988) :
    Value.res_main_v92 V0 (ix2 b w) = marked (score V0 b 25 w.val) := by
  have h := score_lo V0 hX hM b w
  unfold Value.res_main_v92
  generalize Value.res_main_v89 V0 = s at h ⊢
  pointwise
  rw [h]
  rfl

/-- The same with the windows without a score marked. -/
theorem marked_hi (hX : ∀ j, IsReal (embeddings V0 j)) (hM : ∀ j, docMask V0 j = 0 ∨ docMask V0 j = 1) (b : Fin 32) (w : Fin 983) :
    Value.res_main_v217 V0 (ix2 b w) = marked (score V0 b 35 w.val) := by
  have h := score_hi V0 hX hM b w
  unfold Value.res_main_v217
  generalize Value.res_main_v214 V0 = s at h ⊢
  pointwise
  rw [h]
  rfl

end Cert.Reference2Ideal.Scoring

end
-- ==== Proof.ScoreRefFirst.lean ====
/- The first of the greatest entries, as the scoring reference finds it: the least of the numbers of the entries that equal the greatest. -/
module

public import proofs.«01_k».proof.Proof.Score
public import Idealize.ShloMosaic.Lib.Pointwise

@[expose] public section

noncomputable section

namespace Cert.Score

open Idealize.ShloMosaic

theorem toInt_minsi (x y : BitVec 32) : (IntOp.minsi x y).toInt = min x.toInt y.toInt := by
  unfold IntOp.minsi
  by_cases h : x.slt y = true
  · rw [if_pos h, min_eq_left (BitVec.slt_iff_toInt_lt.1 h).le]
  · rw [if_neg h, min_eq_right (not_lt.1 fun h' => h (BitVec.slt_iff_toInt_lt.2 h'))]

instance commutative_minsi : Std.Commutative (IntOp.minsi : BitVec 32 → BitVec 32 → BitVec 32) :=
  ⟨fun x y => BitVec.eq_of_toInt_eq (by rw [toInt_minsi, toInt_minsi, min_comm])⟩

instance associative_minsi : Std.Associative (IntOp.minsi : BitVec 32 → BitVec 32 → BitVec 32) :=
  ⟨fun x y z => BitVec.eq_of_toInt_eq (by rw [toInt_minsi, toInt_minsi, toInt_minsi, toInt_minsi, min_assoc])⟩

/-- The greatest entry is the first greatest one. -/
theorem fold_max {n : ℕ} (hn : 0 < n) (s : ℕ → EReal) : Finset.univ.fold max ⊥ (fun k : Fin n => s k.val) = s (first n s) := by
  have f := first_spec hn s
  exact le_antisymm ((Finset.fold_max_le _).2 ⟨bot_le, fun k _ => f.2.1 k.val k.isLt⟩) ((Finset.le_fold_max _).2 (.inr ⟨⟨_, f.1⟩, Finset.mem_univ _, le_rfl⟩))

theorem toInt_small {i : ℕ} (h : i < 2 ^ 31) : (BitVec.ofNat 32 i).toInt = i := by
  rw [BitVec.toInt_ofNat', Int.bmod_def]
  split <;> omega

/-- The least number of a greatest entry is the first's. -/
theorem fold_first {n : ℕ} (hn : 0 < n) (h31 : n < 2 ^ 31) (s : ℕ → EReal) :
    Finset.univ.fold IntOp.minsi 2147483647#32 (fun k : Fin n => if s k.val = s (first n s) then BitVec.ofNat 32 k.val else BitVec.ofNat 32 n)
      = BitVec.ofNat 32 (first n s) := by
  have f := first_spec hn s
  apply BitVec.eq_of_toInt_eq
  rw [← Finset.fold_hom (op' := min) toInt_minsi, toInt_small (f.1.trans h31)]
  apply le_antisymm
  · refine (Finset.fold_min_le _).2 (.inr ⟨⟨_, f.1⟩, Finset.mem_univ _, ?_⟩)
    rw [if_pos rfl, toInt_small (f.1.trans h31)]
  · refine (Finset.le_fold_min _).2 ⟨?_, fun k _ => ?_⟩
    · have := f.1
      exact (show ((first n s : ℕ) : ℤ) ≤ 2147483647 by omega)
    · split
      · next h =>
        rw [toInt_small (k.isLt.trans h31)]
        exact_mod_cast not_lt.1 fun hlt => (f.2.2 _ hlt).ne h
      · rw [toInt_small h31]
        exact_mod_cast f.1.le

/-- The number of the first of a row's greatest entries, as the reference takes it. -/
theorem first_word {n : ℕ} (hn : 0 < n) (h31 : n < 2 ^ 31) (x : FVec Ideal ⟨2, ![32, n]⟩ .f32) (N : IVec ⟨2, ![32, n]⟩ 32) (M : FVec Ideal ⟨2, ![32, n]⟩ .f32)
    (i : IVec ⟨2, ![32, n]⟩ 32) (init : FVec Ideal ⟨0, ![]⟩ .f32) (w : IVec ⟨0, ![]⟩ 32) (b : Fin 32) (s : ℕ → EReal) (hs : ∀ k : Fin n, x (ix2 b k) = s k.val)
    (h h' : (⟨2, ![32, n]⟩ : Shape).ReducesTo [1] ⟨1, ![32]⟩) (hu hu' : 0 < (⟨0, ![]⟩ : Shape).numel)
    (hM : ∀ k, M (ix2 b k) = Host.reduce FloatOps.maximumf x init h hu (ix1 b)) (hi : init ix0 = (⊥ : EReal)) (hw : w ix0 = 2147483647#32)
    (hik : ∀ k : Fin n, i (ix2 b k) = BitVec.ofNat 32 k.val) (hN : ∀ k, N (ix2 b k) = BitVec.ofNat 32 n) :
    Host.reduce IntOp.minsi (select (cmpf .oeq x M) i N) w h' hu' (ix1 b) = BitVec.ofNat 32 (first n s) := by
  have hm : Host.reduce FloatOps.maximumf x init h hu (ix1 b) = s (first n s) := by
    rw [← fold_max hn s]
    simp only [pointwise]
    rw [show init (Shape.Idx.first hu) = (⊥ : EReal) from (congrArg init (ValueIdx.eq_ix0 _)).trans hi]
    exact Finset.fold_congr fun k _ => hs k
  rw [← fold_first hn h31 s]
  rw [Host.reduce_eq_fold]
  simp only [pointwise]
  rw [show w (Shape.Idx.first hu') = 2147483647#32 from (congrArg w (ValueIdx.eq_ix0 _)).trans hw]
  exact Finset.fold_congr fun k _ => by rw [hs, hM, hm, hik, hN]

end Cert.Score

end
-- ==== Proof.ScoreRefPicks.lean ====
/- What the scoring reference does with the picked windows: the knocked out scores around one, and the scores read at the picks. -/
module

public import proofs.«01_k».proof.Proof.ScoreRefFirst
public import Idealize.ShloMosaic.Lib.ReduceAll

@[expose] public section

noncomputable section

namespace Cert.Score

open Idealize.ShloMosaic

/-- The distance of two window numbers, as a word. -/
theorem toInt_distance {i b : ℕ} (hi : i < 1024) (hb : b < 1024) :
    (IntOp.absi (IntOp.subi (BitVec.ofNat 32 i) (BitVec.ofNat 32 b))).toInt = |(i : ℤ) - b| := by
  have hs : (IntOp.subi (BitVec.ofNat 32 i) (BitVec.ofNat 32 b)).toInt = (i : ℤ) - b := by
    unfold IntOp.subi
    rw [BitVec.toInt_sub, toInt_small (by omega), toInt_small (by omega), Int.bmod_def]
    split <;> omega
  unfold IntOp.absi
  rw [BitVec.msb_eq_toInt, hs]
  by_cases h : (i : ℤ) - b < 0
  · rw [decide_eq_true h, if_pos rfl, BitVec.toInt_neg, hs, abs_of_neg h, Int.bmod_def]
    split <;> omega
  · rw [decide_eq_false h, if_neg Bool.false_ne_true, hs, abs_of_nonneg (not_lt.1 h)]

/-- Nearer than half of `W`, in numbers. -/
theorem near {i b W : ℕ} (hi : i < 1024) (hb : b < 1024) {v : EReal} (hv : v = ((W / 2 : ℝ) : EReal)) :
    FloatOps.sitofp (F := Ideal) .f32 (IntOp.absi (IntOp.subi (BitVec.ofNat 32 i) (BitVec.ofNat 32 b))) < v ↔ 2 * (i - b) < W ∧ 2 * (b - i) < W := by
  show (((IntOp.absi (IntOp.subi (BitVec.ofNat 32 i) (BitVec.ofNat 32 b))).toInt : ℝ) : EReal) < v ↔ _
  rw [toInt_distance hi hb, hv, EReal.coe_lt_coe_iff, lt_div_iff₀ two_pos]
  have : ((|(i : ℤ) - b| : ℤ) : ℝ) * 2 < (W : ℝ) ↔ |(i : ℤ) - b| * 2 < (W : ℤ) := by exact_mod_cast Iff.rfl
  rw [this]
  rcases le_total (i : ℤ) b with h | h
  · rw [abs_of_nonpos (by omega)]; omega
  · rw [abs_of_nonneg (by omega)]; omega

/-- The dimension numbers of reading the scores at three picks of each document. -/
abbrev picksDims (N : ℕ) (wf : GatherDims.WF ⟨2, ![32, N]⟩ ⟨3, ![32, 3, 1]⟩ ⟨2, ![32, 3]⟩ [] [1] [0] [1] [0] 2 ![1, 1]) :
    GatherDims ⟨2, ![32, N]⟩ ⟨3, ![32, 3, 1]⟩ ⟨2, ![32, 3]⟩ where
  offsetDims := []
  collapsedSliceDims := [1]
  operandBatchingDims := [0]
  startIndicesBatchingDims := [0]
  startIndexMap := [1]
  indexVectorDim := 2
  sliceSizes := ![1, 1]
  wf := wf

/-- The scores read at a pick. -/
theorem gather_pick {N : ℕ} (h31 : N < 2 ^ 31) (wf : GatherDims.WF ⟨2, ![32, N]⟩ ⟨3, ![32, 3, 1]⟩ ⟨2, ![32, 3]⟩ [] [1] [0] [1] [0] 2 ![1, 1])
    (x : FVec Ideal ⟨2, ![32, N]⟩ .f32) (idx : IVec ⟨3, ![32, 3, 1]⟩ 32) (b : Fin 32) (j : Fin 3) (k : Fin N) (hk : idx (ix3 b j 0) = BitVec.ofNat 32 k.val) :
    Host.gather (picksDims N wf) x idx (ix2 b j) = x (ix2 b k) := by
  unfold Host.gather
  refine congrArg x (funext fun a => Fin.ext ?_)
  match a with
  | ⟨0, _⟩ =>
    show (picksDims N wf).start (ix2 b j) idx 0 + (picksDims N wf).batchCoord (ix2 b j) 0 + (picksDims N wf).offCoord (ix2 b j) 0 = b.val
    rw [GatherDims.start_batching _ _ _ _ (List.mem_singleton.2 rfl),
      GatherDims.offCoord_eq_zero _ _ _ fun h => ((GatherDims.mem_sKept _ _).1 h).2 (List.mem_singleton.2 rfl), Nat.zero_add, Nat.add_zero]
    unfold GatherDims.batchCoord
    rw [dif_pos (List.mem_singleton.2 rfl)]
    rfl
  | ⟨1, _⟩ =>
    have hm : (1 : Fin 2) ∈ (picksDims N wf).startIndexMap := List.mem_singleton.2 rfl
    show (picksDims N wf).start (ix2 b j) idx 1 + (picksDims N wf).batchCoord (ix2 b j) 1 + (picksDims N wf).offCoord (ix2 b j) 1 = k.val
    rw [GatherDims.batchCoord_eq_zero _ _ _ fun h => by simp at h,
      GatherDims.offCoord_eq_zero _ _ _ fun h => ((GatherDims.mem_sKept _ _).1 h).1 (List.mem_singleton.2 rfl), Nat.add_zero]
    unfold GatherDims.start
    rw [dif_pos hm]
    have hsi : (picksDims N wf).siIdx (ix2 b j) ⟨(picksDims N wf).startIndexMap.idxOf 1, List.idxOf_lt_length_iff.2 hm⟩ = ix3 b j 0 := by
      funext c
      refine Fin.ext ?_
      match c with
      | ⟨0, _⟩ => rfl
      | ⟨1, _⟩ => rfl
      | ⟨2, _⟩ => rfl
    have hkl := k.isLt
    rw [hsi, hk, toInt_small (hkl.trans h31)]
    exact (show min ((k.val : ℤ)).toNat (N - 1) = k.val by omega)

/-- A pick's number is not negative, so it is read as it is. -/
theorem wrapped {k : ℕ} (hk : k < 2 ^ 31) (w : BitVec 32) :
    Scalar.select (IntOp.cmpi .slt (BitVec.ofNat 32 k) 0#32) w (BitVec.ofNat 32 k) = BitVec.ofNat 32 k := by
  have h : (BitVec.ofNat 32 k).slt 0#32 = false := by
    rw [BitVec.slt_eq_decide, toInt_small hk]
    exact decide_eq_false (not_lt.2 (Int.natCast_nonneg k))
  show Scalar.select (BitVec.ofBool ((BitVec.ofNat 32 k).slt 0#32)) w _ = _
  rw [h]
  rfl

/-- A pick's number is in range. -/
theorem inRange {k n : ℕ} (hk : k ≤ n) (hn : n < 2 ^ 31) :
    IntOp.andi (IntOp.cmpi .sge (BitVec.ofNat 32 k) 0#32) (IntOp.cmpi .sle (BitVec.ofNat 32 k) (BitVec.ofNat 32 n)) = 1#1 := by
  have h : (0#32 : BitVec 32).sle (BitVec.ofNat 32 k) = true := by
    rw [BitVec.sle_eq_decide, toInt_small (i := k) (by omega)]
    exact decide_eq_true (Int.natCast_nonneg k)
  have h' : (BitVec.ofNat 32 k).sle (BitVec.ofNat 32 n) = true := by
    rw [BitVec.sle_eq_decide, toInt_small (by omega), toInt_small hn]
    exact decide_eq_true (by exact_mod_cast hk)
  show IntOp.andi (BitVec.ofBool ((0#32 : BitVec 32).sle (BitVec.ofNat 32 k))) (BitVec.ofBool ((BitVec.ofNat 32 k).sle (BitVec.ofNat 32 n))) = 1#1
  rw [h, h']
  rfl

end Cert.Score

end
-- ==== Proof.ScoreRefTops.lean ====
/- The scoring reference's picks, in turn, and the picked scores. -/
module

public import proofs.«01_k».proof.Proof.ScoreRefWindows
public import proofs.«01_k».proof.Proof.ScoreRefPicks

@[expose] public section

set_option maxRecDepth 16384

noncomputable section

namespace Cert.Reference2Ideal.Scoring

open Cert.Reference2Ideal Cert.Reference2Ideal.Gen Idealize.ShloMosaic.StableHlo
open Idealize.ShloMosaic Idealize.ShloMosaic.TcCoe Idealize.SL.Sem Cert.Score

variable (V0 : Valuation τ sig (Elt Ideal))

theorem neg_infinity : (Ideal.ofBits .f32 0xFF800000#32 : EReal) = ⊥ := by simp [Ideal.ofBits, Ideal.ieee]

/-- The number of the first greatest of a row's 988 entries. -/
theorem pick988 (d : FVec Ideal ⟨2, ![32, 988]⟩ .f32) (b : Fin 32) (s : ℕ → EReal) (h : ∀ k : Fin 988, d (ix2 b k) = s k.val) :
    Host.reduce IntOp.minsi (select (cmpf .oeq d (broadcastInDim S32x988 ![0, 1] bcast_S32x1_S32x988_0_1 (broadcastInDim S32x1 ![0] bcast_S32_S32x1_0
        (Host.reduce FloatOps.maximumf d (constant S_ .f32 0xFF800000#32) reducesTo_S32x988_S32_d1 h_S_))))
      (broadcastInDim S32x988 ![0, 1] bcast_S1x988_S32x988_0_1 (broadcastInDim S1x988 ![1] bcast_S988_S1x988_1 (iotaInDim S988 32 0)))
      (broadcastInDim S32x988 ![] bcast_S_S32x988 (id (constantI S_ 32 988#32)))) (constantI S_ 32 2147483647#32) reducesTo_S32x988_S32_d1 h_S_ (ix1 b)
      = BitVec.ofNat 32 (first 988 s) :=
  first_word (by omega) (by omega) d _ _ _ (constant S_ .f32 0xFF800000#32) _ b s h reducesTo_S32x988_S32_d1 _ h_S_ _
    (fun k => by simp only [broadcastInDim]; refine congrArg (Host.reduce _ _ _ _ _) (funext fun a => ?_); fin_cases a; rfl)
    neg_infinity rfl (fun k => by pointwise) (fun k => rfl)

/-- The number of the first greatest of a row's 983 entries. -/
theorem pick983 (d : FVec Ideal ⟨2, ![32, 983]⟩ .f32) (b : Fin 32) (s : ℕ → EReal) (h : ∀ k : Fin 983, d (ix2 b k) = s k.val) :
    Host.reduce IntOp.minsi (select (cmpf .oeq d (broadcastInDim S32x983 ![0, 1] bcast_S32x1_S32x983_0_1 (broadcastInDim S32x1 ![0] bcast_S32_S32x1_0
        (Host.reduce FloatOps.maximumf d (constant S_ .f32 0xFF800000#32) reducesTo_S32x983_S32_d1 h_S_))))
      (broadcastInDim S32x983 ![0, 1] bcast_S1x983_S32x983_0_1 (broadcastInDim S1x983 ![1] bcast_S983_S1x983_1 (iotaInDim S983 32 0)))
      (broadcastInDim S32x983 ![] bcast_S_S32x983 (id (constantI S_ 32 983#32)))) (constantI S_ 32 2147483647#32) reducesTo_S32x983_S32_d1 h_S_ (ix1 b)
      = BitVec.ofNat 32 (first 983 s) :=
  first_word (by omega) (by omega) d _ _ _ (constant S_ .f32 0xFF800000#32) _ b s h reducesTo_S32x983_S32_d1 _ h_S_ _
    (fun k => by simp only [broadcastInDim]; refine congrArg (Host.reduce _ _ _ _ _) (funext fun a => ?_); fin_cases a; rfl)
    neg_infinity rfl (fun k => by pointwise) (fun k => rfl)

/-- The number of the first greatest of a row's 91 entries. -/
theorem pick91 (d : FVec Ideal ⟨2, ![32, 91]⟩ .f32) (b : Fin 32) (s : ℕ → EReal) (h : ∀ k : Fin 91, d (ix2 b k) = s k.val) :
    Host.reduce IntOp.minsi (select (cmpf .oeq d (broadcastInDim S32x91 ![0, 1] bcast_S32x1_S32x91_0_1 (broadcastInDim S32x1 ![0] bcast_S32_S32x1_0
        (Host.reduce FloatOps.maximumf d (constant S_ .f32 0xFF800000#32) reducesTo_S32x91_S32_d1 h_S_))))
      (broadcastInDim S32x91 ![0, 1] bcast_S1x91_S32x91_0_1 (broadcastInDim S1x91 ![1] bcast_S91_S1x91_1 (iotaInDim S91 32 0)))
      (broadcastInDim S32x91 ![] bcast_S_S32x91 (id (constantI S_ 32 91#32)))) (constantI S_ 32 2147483647#32) reducesTo_S32x91_S32_d1 h_S_ (ix1 b)
      = BitVec.ofNat 32 (first 91 s) :=
  first_word (by omega) (by omega) d _ _ _ (constant S_ .f32 0xFF800000#32) _ b s h reducesTo_S32x91_S32_d1 _ h_S_ _
    (fun k => by simp only [broadcastInDim]; refine congrArg (Host.reduce _ _ _ _ _) (funext fun a => ?_); fin_cases a; rfl)
    neg_infinity rfl (fun k => by pointwise) (fun k => rfl)

theorem half_lo : (Ideal.ofBits .f32 1095237632#32 : EReal) = (((25 : ℕ) / 2 : ℝ) : EReal) := by
  simp [Ideal.ofBits, Ideal.ieee, -EReal.coe_mul]; norm_num

theorem half_hi : (Ideal.ofBits .f32 1099694080#32 : EReal) = (((35 : ℕ) / 2 : ℝ) : EReal) := by
  simp [Ideal.ofBits, Ideal.ieee, -EReal.coe_mul]; norm_num

/-- The three picks, in turn. -/
def pick (n W : ℕ) (s : ℕ → EReal) : Fin 3 → ℕ := ![first n s, first 91 (after1 n W s), first 91 (after2 n W s)]

/-- The first pick among the windows of 25 tokens. -/
theorem pick_lo1 (b : Fin 32) (s : ℕ → EReal) (h : ∀ k : Fin 988, Value.res_main_v92 V0 (ix2 b k) = s k.val) :
    Value.res_main_v102 V0 (ix1 b) = BitVec.ofNat 32 (first 988 s) := by
  unfold Value.res_main_v102
  exact pick988 _ b s h

/-- The scores after it. -/
theorem knock_lo1 (b : Fin 32) (s : ℕ → EReal) (h : ∀ k : Fin 988, Value.res_main_v92 V0 (ix2 b k) = s k.val) (i : Fin 91) :
    Value.res_main_v112 V0 (ix2 b i) = after1 988 25 s i.val := by
  have hb := pick_lo1 V0 b s h
  have hf := (first_spec (n := 988) (by omega) s).1
  unfold Value.res_main_v112 Value.res_main_v93
  generalize Value.res_main_v92 V0 = d at h ⊢
  generalize Value.res_main_v102 V0 = w at hb ⊢
  pointwise
  rw [hb, h]
  exact if_congr (near (by omega) (by omega) half_lo) rfl rfl

/-- The second pick. -/
theorem pick_lo2 (b : Fin 32) (s : ℕ → EReal) (h : ∀ k : Fin 988, Value.res_main_v92 V0 (ix2 b k) = s k.val) :
    Value.res_main_v120 V0 (ix1 b) = BitVec.ofNat 32 (first 91 (after1 988 25 s)) := by
  unfold Value.res_main_v120
  exact pick91 _ b _ (knock_lo1 V0 b s h)

/-- The scores after it. -/
theorem knock_lo2 (b : Fin 32) (s : ℕ → EReal) (h : ∀ k : Fin 988, Value.res_main_v92 V0 (ix2 b k) = s k.val) (i : Fin 91) :
    Value.res_main_v130 V0 (ix2 b i) = after2 988 25 s i.val := by
  have hb := pick_lo2 V0 b s h
  have hk := knock_lo1 V0 b s h
  have hf := (first_spec (n := 91) (by omega) (after1 988 25 s)).1
  unfold Value.res_main_v130 Value.res_main_v93
  generalize Value.res_main_v112 V0 = d at hk ⊢
  generalize Value.res_main_v120 V0 = w at hb ⊢
  pointwise
  rw [hb, hk]
  exact if_congr (near (by omega) (by omega) half_lo) rfl rfl

/-- The third pick. -/
theorem pick_lo3 (b : Fin 32) (s : ℕ → EReal) (h : ∀ k : Fin 988, Value.res_main_v92 V0 (ix2 b k) = s k.val) :
    Value.res_main_v138 V0 (ix1 b) = BitVec.ofNat 32 (first 91 (after2 988 25 s)) := by
  unfold Value.res_main_v138
  exact pick91 _ b _ (knock_lo2 V0 b s h)

/-- They are the three numbers the reference reads its scores at. -/
theorem picks_lo (b : Fin 32) (s : ℕ → EReal) (h : ∀ k : Fin 988, Value.res_main_v92 V0 (ix2 b k) = s k.val) (j : Fin 3) :
    Value.res_main_v160 V0 (ix2 b j) = BitVec.ofNat 32 (pick 988 25 s j) := by
  have h1 := pick_lo1 V0 b s h
  have h2 := pick_lo2 V0 b s h
  have h3 := pick_lo3 V0 b s h
  unfold Value.res_main_v160
  generalize Value.res_main_v102 V0 = w1 at h1 ⊢
  generalize Value.res_main_v120 V0 = w2 at h2 ⊢
  generalize Value.res_main_v138 V0 = w3 at h3 ⊢
  fin_cases j <;> pointwise
  · exact h1
  · exact h2
  · exact h3

/-- The first pick among the windows of 35 tokens. -/
theorem pick_hi1 (b : Fin 32) (s : ℕ → EReal) (h : ∀ k : Fin 983, Value.res_main_v217 V0 (ix2 b k) = s k.val) :
    Value.res_main_v227 V0 (ix1 b) = BitVec.ofNat 32 (first 983 s) := by
  unfold Value.res_main_v227
  exact pick983 _ b s h

/-- The scores after it. -/
theorem knock_hi1 (b : Fin 32) (s : ℕ → EReal) (h : ∀ k : Fin 983, Value.res_main_v217 V0 (ix2 b k) = s k.val) (i : Fin 91) :
    Value.res_main_v237 V0 (ix2 b i) = after1 983 35 s i.val := by
  have hb := pick_hi1 V0 b s h
  have hf := (first_spec (n := 983) (by omega) s).1
  unfold Value.res_main_v237 Value.res_main_v218
  generalize Value.res_main_v217 V0 = d at h ⊢
  generalize Value.res_main_v227 V0 = w at hb ⊢
  pointwise
  rw [hb, h]
  exact if_congr (near (by omega) (by omega) half_hi) rfl rfl

/-- The second pick. -/
theorem pick_hi2 (b : Fin 32) (s : ℕ → EReal) (h : ∀ k : Fin 983, Value.res_main_v217 V0 (ix2 b k) = s k.val) :
    Value.res_main_v245 V0 (ix1 b) = BitVec.ofNat 32 (first 91 (after1 983 35 s)) := by
  unfold Value.res_main_v245
  exact pick91 _ b _ (knock_hi1 V0 b s h)

/-- The scores after it. -/
theorem knock_hi2 (b : Fin 32) (s : ℕ → EReal) (h : ∀ k : Fin 983, Value.res_main_v217 V0 (ix2 b k) = s k.val) (i : Fin 91) :
    Value.res_main_v255 V0 (ix2 b i) = after2 983 35 s i.val := by
  have hb := pick_hi2 V0 b s h
  have hk := knock_hi1 V0 b s h
  have hf := (first_spec (n := 91) (by omega) (after1 983 35 s)).1
  unfold Value.res_main_v255 Value.res_main_v218
  generalize Value.res_main_v237 V0 = d at hk ⊢
  generalize Value.res_main_v245 V0 = w at hb ⊢
  pointwise
  rw [hb, hk]
  exact if_congr (near (by omega) (by omega) half_hi) rfl rfl

/-- The third pick. -/
theorem pick_hi3 (b : Fin 32) (s : ℕ → EReal) (h : ∀ k : Fin 983, Value.res_main_v217 V0 (ix2 b k) = s k.val) :
    Value.res_main_v263 V0 (ix1 b) = BitVec.ofNat 32 (first 91 (after2 983 35 s)) := by
  unfold Value.res_main_v263
  exact pick91 _ b _ (knock_hi2 V0 b s h)

/-- They are the three numbers the reference reads its scores at. -/
theorem picks_hi (b : Fin 32) (s : ℕ → EReal) (h : ∀ k : Fin 983, Value.res_main_v217 V0 (ix2 b k) = s k.val) (j : Fin 3) :
    Value.res_main_v285 V0 (ix2 b j) = BitVec.ofNat 32 (pick 983 35 s j) := by
  have h1 := pick_hi1 V0 b s h
  have h2 := pick_hi2 V0 b s h
  have h3 := pick_hi3 V0 b s h
  unfold Value.res_main_v285
  generalize Value.res_main_v227 V0 = w1 at h1 ⊢
  generalize Value.res_main_v245 V0 = w2 at h2 ⊢
  generalize Value.res_main_v263 V0 = w3 at h3 ⊢
  fin_cases j <;> pointwise
  · exact h1
  · exact h2
  · exact h3

end Cert.Reference2Ideal.Scoring

end
-- ==== Proof.ScoreRef.lean ====
/- The scoring reference's result: the documents' scores. -/
module

public import proofs.«01_k».proof.Proof.ScoreRefTops

@[expose] public section

set_option maxRecDepth 16384

noncomputable section

namespace Cert.Reference2Ideal.Scoring

open Cert.Reference2Ideal Cert.Reference2Ideal.Gen Idealize.ShloMosaic.StableHlo
open Idealize.ShloMosaic Idealize.ShloMosaic.TcCoe Idealize.SL.Sem Cert.Score

variable (V0 : Valuation τ sig (Elt Ideal))

theorem pick_lt {n : ℕ} (hn : 91 ≤ n) (W : ℕ) (s : ℕ → EReal) (j : Fin 3) : pick n W s j < n := by
  have h1 := (first_spec (n := n) (by omega) s).1
  have h2 := (first_spec (n := 91) (by omega) (after1 n W s)).1
  have h3 := (first_spec (n := 91) (by omega) (after2 n W s)).1
  fin_cases j
  · exact h1
  · exact h2.trans_le hn
  · exact h3.trans_le hn

/-- The picked scores of the windows of 25 tokens. -/
theorem tops_lo (s : Fin 32 → ℕ → EReal) (h : ∀ b, ∀ k : Fin 988, Value.res_main_v92 V0 (ix2 b k) = s b k.val) (b : Fin 32) (j : Fin 3) :
    Value.res_main_v161 V0 (ix2 b j) = s b (pick 988 25 (s b) j) := by
  have hl : ∀ b j, pick 988 25 (s b) j < 988 := fun b j => pick_lt (by omega) 25 (s b) j
  have hi : ∀ b j, Value.res_main_call11_v5 V0 (ix3 b j 0) = BitVec.ofNat 32 (pick 988 25 (s b) j) := fun b j => by
    have hp := picks_lo V0 b (s b) (h b) j
    have hl := hl b j
    unfold Value.res_main_call11_v5
    generalize Value.res_main_v160 V0 = d at hp ⊢
    pointwise
    rw [hp]
    exact wrapped (by omega) _
  unfold Value.res_main_v161
  generalize Value.res_main_v92 V0 = d at h ⊢
  generalize Value.res_main_call11_v5 V0 = w at hi ⊢
  refine (congrArg (fun c => Scalar.select c _ _) (Host.reduce_andi_one _ _ _ _ _ rfl fun i => ?_)).trans ?_
  · have e : i = ix3 (i 0) (i 1) 0 := funext fun a => by
      match a with
      | ⟨0, _⟩ => rfl
      | ⟨1, _⟩ => rfl
      | ⟨2, _⟩ => exact Subsingleton.elim (α := Fin 1) _ _
    rw [e]
    have hl := hl (i 0) (i 1)
    refine (?_ : IntOp.andi (IntOp.cmpi .sge (w (ix3 (i 0) (i 1) 0)) 0#32) (IntOp.cmpi .sle (w (ix3 (i 0) (i 1) 0)) 987#32) = 1#1)
    rw [hi (i 0) (i 1)]
    exact inRange (by omega) (by omega)
  · exact (gather_pick (N := 988) (by omega) _ d w b j ⟨_, hl b j⟩ (hi b j)).trans (h b _)

/-- The picked scores of the windows of 35 tokens. -/
theorem tops_hi (s : Fin 32 → ℕ → EReal) (h : ∀ b, ∀ k : Fin 983, Value.res_main_v217 V0 (ix2 b k) = s b k.val) (b : Fin 32) (j : Fin 3) :
    Value.res_main_v286 V0 (ix2 b j) = s b (pick 983 35 (s b) j) := by
  have hl : ∀ b j, pick 983 35 (s b) j < 983 := fun b j => pick_lt (by omega) 35 (s b) j
  have hi : ∀ b j, Value.res_main_call22_v5 V0 (ix3 b j 0) = BitVec.ofNat 32 (pick 983 35 (s b) j) := fun b j => by
    have hp := picks_hi V0 b (s b) (h b) j
    have hl := hl b j
    unfold Value.res_main_call22_v5
    generalize Value.res_main_v285 V0 = d at hp ⊢
    pointwise
    rw [hp]
    exact wrapped (by omega) _
  unfold Value.res_main_v286
  generalize Value.res_main_v217 V0 = d at h ⊢
  generalize Value.res_main_call22_v5 V0 = w at hi ⊢
  refine (congrArg (fun c => Scalar.select c _ _) (Host.reduce_andi_one _ _ _ _ _ rfl fun i => ?_)).trans ?_
  · have e : i = ix3 (i 0) (i 1) 0 := funext fun a => by
      match a with
      | ⟨0, _⟩ => rfl
      | ⟨1, _⟩ => rfl
      | ⟨2, _⟩ => exact Subsingleton.elim (α := Fin 1) _ _
    rw [e]
    have hl := hl (i 0) (i 1)
    refine (?_ : IntOp.andi (IntOp.cmpi .sge (w (ix3 (i 0) (i 1) 0)) 0#32) (IntOp.cmpi .sle (w (ix3 (i 0) (i 1) 0)) 982#32) = 1#1)
    rw [hi (i 0) (i 1)]
    exact inRange (by omega) (by omega)
  · exact (gather_pick (N := 983) (by omega) _ d w b j ⟨_, hl b j⟩ (hi b j)).trans (h b _)

/-- The weighted picks of a document. -/
theorem weighted (p : ℕ → EReal) (n W : ℕ) (s : ℕ → EReal) (t c : Fin 3 → EReal) (z : EReal) (ht : ∀ j, t j = s (pick n W s j)) (hz : z = 0)
    (hc : ∀ j, c j = p (20 + j.val)) : ∑ j : Fin 3, (if t j ≤ Cert.Score.none then z else t j) * c j = pooled p n W s := by
  rw [Fin.sum_univ_three, ht, ht, ht, hc, hc, hc, hz, pooled]
  exact congrArg₂ (HAdd.hAdd (α := EReal) (β := EReal) (γ := EReal)) (congrArg₂ (HAdd.hAdd (α := EReal) (β := EReal) (γ := EReal)) (mul_comm _ _) (mul_comm _ _)) (mul_comm _ _)

theorem ten_eq : (Ideal.ofBits .f32 1108082688#32 - Ideal.ofBits .f32 1103626240#32 : EReal) = Ideal.ofBits .f32 1092616192#32 := by
  have h35 : (Ideal.ofBits .f32 1108082688#32 : EReal) = ((35 : ℝ) : EReal) := by simp [Ideal.ofBits, Ideal.ieee, -EReal.coe_mul]; norm_num
  have h25 : (Ideal.ofBits .f32 1103626240#32 : EReal) = ((25 : ℝ) : EReal) := by simp [Ideal.ofBits, Ideal.ieee, -EReal.coe_mul]; norm_num
  have h10 : (Ideal.ofBits .f32 1092616192#32 : EReal) = ((10 : ℝ) : EReal) := by simp [Ideal.ofBits, Ideal.ieee, -EReal.coe_mul]; norm_num
  rw [h35, h25, h10, ← EReal.coe_sub]
  norm_num

theorem params_pick (j : Fin 3) : V0 (Proc.devRef .tc main_arg11) (ix2 0 j) = params V0 (20 + j.val) := by
  fin_cases j <;> rfl

/-- The reference's result. -/
abbrev result : FVec Ideal ⟨3, ![32, 1, 1]⟩ .f32 :=
  Scored (embeddings V0) (queryMask V0) (docMask V0) (weights V0) (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9)) (V0 (Proc.devRef .tc main_arg10))
    (V0 (Proc.devRef .tc main_arg11)) (V0 (Proc.devRef .tc main_arg12))

/-- The reference's last operations give it. -/
theorem result_eq (hX : ∀ j, IsReal (embeddings V0 j)) (hM : ∀ j, docMask V0 j = 0 ∨ docMask V0 j = 1) :
    broadcastInDim S32x1x1 ![0] bcast_S32_S32x1x1_0 (addf (mulf (broadcastInDim S32 ![] bcast_S_S32 (Host.divf (subf (constant S_ .f32 0x420C0000#32) (Value.res_main_v293 V0)) (subf (constant S_ .f32 0x420C0000#32) (constant S_ .f32 0x41C80000#32)))) (Host.reduceAdd (mulf (select (cmpf .ole (Value.res_main_v161 V0) (broadcastInDim S32x3 ![] bcast_S_S32x3 (constant S_ .f32 0xC61AB000#32))) (broadcastInDim S32x3 ![] bcast_S_S32x3 (id (constant S_ .f32 0x00000000#32))) (Value.res_main_v161 V0)) (broadcastInDim S32x3 ![0, 1] bcast_S1x3_S32x3_0_1 (V0 (Proc.devRef .tc main_arg11)))) (constant S_ .f32 0x00000000#32) reducesTo_S32x3_S32_d1 h_S_)) (mulf (broadcastInDim S32 ![] bcast_S_S32 (Host.divf (subf (Value.res_main_v293 V0) (constant S_ .f32 0x41C80000#32)) (subf (constant S_ .f32 0x420C0000#32) (constant S_ .f32 0x41C80000#32)))) (Host.reduceAdd (mulf (select (cmpf .ole (Value.res_main_v286 V0) (broadcastInDim S32x3 ![] bcast_S_S32x3 (constant S_ .f32 0xC61AB000#32))) (broadcastInDim S32x3 ![] bcast_S_S32x3 (id (constant S_ .f32 0x00000000#32))) (Value.res_main_v286 V0)) (broadcastInDim S32x3 ![0, 1] bcast_S1x3_S32x3_0_1 (V0 (Proc.devRef .tc main_arg11)))) (constant S_ .f32 0x00000000#32) reducesTo_S32x3_S32_d1 h_S_)))
      = result V0 := by
  funext i
  obtain ⟨b, rfl⟩ : ∃ b : Fin 32, i = ix3 b 0 0 := ⟨i 0, funext fun a => by
    match a with
    | ⟨0, _⟩ => rfl
    | ⟨1, _⟩ => exact Subsingleton.elim (α := Fin 1) _ _
    | ⟨2, _⟩ => exact Subsingleton.elim (α := Fin 1) _ _⟩
  have hlo := tops_lo V0 (fun b w => marked (score V0 b 25 w)) (marked_lo V0 hX hM) b
  have hhi := tops_hi V0 (fun b w => marked (score V0 b 35 w)) (marked_hi V0 hX hM) b
  rw [result, Scored_apply, document]
  unfold Value.res_main_v293
  generalize Value.res_main_v161 V0 = x at hlo ⊢
  generalize Value.res_main_v286 V0 = y at hhi ⊢
  pointwise
  refine congrArg₂ (HAdd.hAdd (α := EReal) (β := EReal) (γ := EReal))
    (congrArg₂ (HMul.hMul (α := EReal) (β := EReal) (γ := EReal)) (congrArg (Ideal.div _) ten_eq) ?_)
    (congrArg₂ (HMul.hMul (α := EReal) (β := EReal) (γ := EReal)) (congrArg (Ideal.div _) ten_eq) ?_)
  · exact weighted (params V0) 988 25 (fun w => marked (score V0 b 25 w)) (fun j => x (ix2 b j)) _ _ hlo Ideal.ofBits_zero_f32 (params_pick V0)
  · exact weighted (params V0) 983 35 (fun w => marked (score V0 b 35 w)) (fun j => y (ix2 b j)) _ _ hhi Ideal.ofBits_zero_f32 (params_pick V0)

/-- From any memory whose embeddings are finite and whose document mask is of zeros and ones, the reference ends with the documents' scores. -/
theorem run (m : (ℓ : Loc nD τ sig) → Buf (Elt Ideal) ℓ) (ρ : Dev nD → PrngReg) (hX : ∀ (c : Dev nD) j, IsReal (embeddings (launchContents m c) j))
    (hM : ∀ (c : Dev nD) j, docMask (launchContents m c) j = 0 ∨ docMask (launchContents m c) j = 1) :
    θ_run defs (onTc (τ := τ) (main (F := Ideal))) ⟨m, fun _ => 0, ρ⟩ fun r => ∀ c : Dev nD,
      r.2.mem ((c.tc : Thread nD τ).loc main_v305) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (result_eq _ (hX c) (hM c)), (h c).2⟩) (Value.run m ρ)

end Cert.Reference2Ideal.Scoring

end
-- ==== Proof.lean ====
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.BitsFrame
public import proofs.«01_k».proof.Proof.IdealFrame
public import proofs.«01_k».proof.Proof.Array
public import proofs.«01_k».proof.Proof.RefValue
public import proofs.«01_k».proof.Proof.ScoreArray
public import proofs.«01_k».proof.Proof.ScoreRef
public import Idealize.ShloMosaic.Lib.ReduceAll
public import Idealize.ShloMosaic.Lib.IdealHost
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: its run read at the arguments; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The scoring reference's frame: its run read at the arguments; it declares no semaphore. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The named constants of the scoring kernel: the kernels' gains, as the reciprocals they round, and minus infinity. -/
theorem constants_named : Cert.preserves_Kernel2_Kernel2Ideal :=
  ⟨IdealRules.named_const.statement _ _ _ _ _ rfl, IdealRules.named_const.statement _ _ _ _ _ rfl, IdealRules.named_const.statement _ _ _ _ _ rfl⟩

/-- The side condition of the precondition: a scalar broadcasts to the mask's shape. -/
theorem facts_pre : Cert.Pre_mask_nonneg.Facts := ⟨by decide⟩

/-- The precondition read at an entry of the mask: it is not negative. -/
theorem mask_pos (m : (ℓ : Loc Cert.KernelIdeal.nD Cert.KernelIdeal.τ Cert.KernelIdeal.sig) → Buf (Elt Ideal) ℓ)
    (h : Cert.Pre_KernelIdeal_mask_nonneg (hPre_mask_nonneg := facts_pre) m) (c : Dev Cert.KernelIdeal.nD) (n : Fin 1632) (i : Fin 56) :
    0 ≤ Cert.KernelIdeal.Encoder.masks m c (ix2 n i) := by
  have e := congrFun (h c) (ix2 n i)
  unfold Cert.Pre_mask_nonneg.fn at e
  pointwise at e
  by_contra hn
  have hn' : ¬ (0 : EReal) ≤ m ((c.tc : Thread Cert.KernelIdeal.nD Cert.KernelIdeal.τ).loc Cert.KernelIdeal.main_arg1) (ix2 n i) := hn
  simp [hn'] at e

/-- The kernel and the reference end with the same array: each sequence of it is what that sequence of the inputs becomes. -/
theorem equal : Cert.algebraic_KernelIdeal_ReferenceIdeal_pre_mask_nonneg (hKernelIdeal := Cert.KernelIdeal.Gen.facts)
    (hReferenceIdeal := Cert.ReferenceIdeal.Gen.facts) (hPre_mask_nonneg := facts_pre) := fun m g m' g' hp ha =>
  ⟨Cert.KernelIdeal.Encoder.result m, Cert.KernelIdeal.Encoder.run m g (mask_pos m hp),
    (θ_run Cert.ReferenceIdeal.defs _ _).mono (fun r h c => ⟨(h c).1.trans (by
      obtain ⟨h0, h1, h2, h3, h4, h5, h6, h7, h8, h9, h10, h11, h12, h13, h14⟩ := ha c
      rw [h0, h1, h2, h3, h4, h5, h6, h7, h8, h9, h10, h11, h12, h13, h14]), (h c).2⟩) (Cert.ReferenceIdeal.Encoder.run m' g')⟩

/-- The side conditions of the scoring precondition. -/
theorem facts_pre2 : Cert.Pre_mask_01.Facts := ⟨by decide, by decide, by decide, by decide⟩

/-- Two bits whose conjunction is one are both one. -/
theorem and_one : ∀ x y : BitVec 1, IntOp.andi x y = 1#1 → x = 1#1 ∧ y = 1#1 := by decide

/-- Of two bits whose disjunction is one, one is one. -/
theorem or_one : ∀ x y : BitVec 1, IntOp.ori x y = 1#1 → x = 1#1 ∨ y = 1#1 := by decide

/-- A proposition whose bit is one holds. -/
theorem flag_one {p : Prop} [Decidable p] (h : BitVec.ofBool (decide p) = 1#1) : p := by
  by_contra hp
  rw [decide_eq_false hp] at h
  exact absurd h (by decide)

section

variable (m : (ℓ : Loc Cert.Kernel2Ideal.nD Cert.Kernel2Ideal.τ Cert.Kernel2Ideal.sig) → Buf (Elt Ideal) ℓ)

/-- The scoring precondition read at an entry of the mask: it is zero or one. -/
theorem mask_zero_one (h : Cert.Pre_Kernel2Ideal_mask_01 (hPre_mask_01 := facts_pre2) m) (c : Dev Cert.Kernel2Ideal.nD) (j : (⟨2, ![32, 2000]⟩ : Shape).Idx) :
    Cert.Kernel2Ideal.Scoring.docMask m c j = 0 ∨ Cert.Kernel2Ideal.Scoring.docMask m c j = 1 := by
  have e := congrFun (h c) j
  unfold Cert.Pre_mask_01.fn at e
  rcases or_one _ _ (and_one _ _ e).1 with e | e
  · exact .inl ((flag_one e).trans Ideal.ofBits_zero_f32)
  · exact .inr ((flag_one e).trans Ideal.ofBits_one_f32)

/-- The scoring precondition read at an entry of the embeddings: it is a number. -/
theorem finite (h : Cert.Pre_Kernel2Ideal_mask_01 (hPre_mask_01 := facts_pre2) m) (c : Dev Cert.Kernel2Ideal.nD) (j : (⟨3, ![1632, 56, 128]⟩ : Shape).Idx) :
    Cert.Score.IsReal (Cert.Kernel2Ideal.Scoring.normed m c j) := by
  have e := congrFun (h c) (ix2 0 0)
  unfold Cert.Pre_mask_01.fn at e
  have hlt := flag_one (Host.reduce_andi_all _ _ _ _ _ (and_one _ _ e).2 j)
  change max (Cert.Kernel2Ideal.Scoring.normed m c j : EReal) (-Cert.Kernel2Ideal.Scoring.normed m c j) < Ideal.ofBits .f32 0x7F800000#32 at hlt
  rw [show Ideal.ofBits .f32 0x7F800000#32 = (⊤ : EReal) by simp [Ideal.ofBits, Ideal.ieee]] at hlt
  generalize (Cert.Kernel2Ideal.Scoring.normed m c j : EReal) = x at hlt ⊢
  induction x using EReal.rec with
  | bot => simp at hlt
  | top => simp at hlt
  | coe r => exact ⟨r, rfl⟩

end

/-- The scoring kernel and its reference end with the same array: the documents' scores. -/
theorem equal2 : Cert.algebraic_Kernel2Ideal_Reference2Ideal_pre_mask_01 (hKernel2Ideal := Cert.Kernel2Ideal.Gen.facts)
    (hReference2Ideal := Cert.Reference2Ideal.Gen.facts) (hPre_mask_01 := facts_pre2) := fun m g m' g' hp ha => by
  have hX := finite m hp
  have hM := mask_zero_one m hp
  have hX' : ∀ (c : Dev Cert.Reference2Ideal.nD) j, Cert.Score.IsReal (Cert.Reference2Ideal.Scoring.embeddings (StableHlo.launchContents m' c) j) := fun c j => by
    obtain ⟨r, hr⟩ := hX c j
    exact ⟨r, (congrFun (ha c).1 j).trans hr⟩
  have hM' : ∀ (c : Dev Cert.Reference2Ideal.nD) j, Cert.Reference2Ideal.Scoring.docMask (StableHlo.launchContents m' c) j = 0
      ∨ Cert.Reference2Ideal.Scoring.docMask (StableHlo.launchContents m' c) j = 1 := fun c j =>
    (hM c j).imp (congrFun (ha c).2.2.1 j).trans (congrFun (ha c).2.2.1 j).trans
  refine ⟨Cert.Kernel2Ideal.Scoring.result m, Cert.Kernel2Ideal.Scoring.run m g hX hM,
    (θ_run Cert.Reference2Ideal.defs _ _).mono (fun r h c => ⟨(h c).1.trans ?_, (h c).2⟩) (Cert.Reference2Ideal.Scoring.run m' g' hX' hM')⟩
  obtain ⟨h0, h1, h2, h3, h4, h5, h6, h7, h8, h9, h10, h11, h12⟩ := ha c
  exact congr (congr (congr (congr (congr (congr (congr (congr (congr (congr (congr (congr (congrArg Cert.Score.Scored h0) h1) h2) h3) h4) h5) h6) h7) h8) h9) h10) h11) h12

/-- Everything the statement claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, facts_pre, facts_pre2,
  fun m ρ _ => Cert.Kernel.Encoder.frame m ρ,
  fun m ρ _ => Cert.KernelIdeal.Encoder.frame m ρ,
  fun m ρ _ => Cert.KernelIdeal.Encoder.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  trivial,
  equal,
  constants_named,
  equal2⟩

end Cert.Proof

end
